-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![768, 512]⟩ ⟨2, ![768, 2048]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨4, ![2, 512, 8, 64]⟩ ⟨4, ![2, 512, 32, 64]⟩ 2 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 512, 8, 64]⟩ ⟨4, ![2, 512, 32, 64]⟩ 2 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![512, 768]⟩ ⟨2, ![2048, 768]⟩ 0 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v30) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x256x768 : Shape := ⟨3, ![2, 256, 768]⟩
abbrev S768x512 : Shape := ⟨2, ![768, 512]⟩
abbrev S2x512x8x64 : Shape := ⟨4, ![2, 512, 8, 64]⟩
abbrev S512x768 : Shape := ⟨2, ![512, 768]⟩
abbrev S2x8x64x512 : Shape := ⟨4, ![2, 8, 64, 512]⟩
abbrev S2x8x512x64 : Shape := ⟨4, ![2, 8, 512, 64]⟩
abbrev S256x512 : Shape := ⟨2, ![256, 512]⟩
abbrev S3x128x768 : Shape := ⟨3, ![3, 128, 768]⟩
abbrev S128x768 : Shape := ⟨2, ![128, 768]⟩
abbrev S3 : Shape := ⟨1, ![3]⟩
abbrev S_ : Shape := ⟨0, ![]⟩
abbrev S1x256x768 : Shape := ⟨3, ![1, 256, 768]⟩
abbrev S256x768 : Shape := ⟨2, ![256, 768]⟩
abbrev S256x64 : Shape := ⟨2, ![256, 64]⟩
abbrev S1x1x64x512 : Shape := ⟨4, ![1, 1, 64, 512]⟩
abbrev S64x512 : Shape := ⟨2, ![64, 512]⟩
abbrev S1x1x512x64 : Shape := ⟨4, ![1, 1, 512, 64]⟩
abbrev S512x64 : Shape := ⟨2, ![512, 64]⟩
abbrev S256 : Shape := ⟨1, ![256]⟩
abbrev S256x1 : Shape := ⟨2, ![256, 1]⟩
abbrev S1x128x768 : Shape := ⟨3, ![1, 128, 768]⟩
abbrev S1 : Shape := ⟨1, ![1]⟩
abbrev S128x512 : Shape := ⟨2, ![128, 512]⟩
abbrev S128x64 : Shape := ⟨2, ![128, 64]⟩
abbrev S128 : Shape := ⟨1, ![128]⟩
abbrev S128x1 : Shape := ⟨2, ![128, 1]⟩

abbrev nBuf : Space → Nat
  | .hbm => 8
  | .vmem => 12
  | .smem => 0
  | _ => 0

abbrev bufTy : (tb : Table) → Fin (tcTables nBuf tb) → BufTy
  | .hbm, ⟨0, _⟩ => ⟨S2x256x768, .f32⟩
  | .hbm, ⟨1, _⟩ => ⟨S768x512, .f32⟩
  | .hbm, ⟨2, _⟩ => ⟨S2x512x8x64, .f32⟩
  | .hbm, ⟨3, _⟩ => ⟨S2x512x8x64, .f32⟩
  | .hbm, ⟨4, _⟩ => ⟨S512x768, .f32⟩
  | .hbm, ⟨5, _⟩ => ⟨S2x8x64x512, .f32⟩
  | .hbm, ⟨6, _⟩ => ⟨S2x8x512x64, .f32⟩
  | .hbm, ⟨7, _⟩ => ⟨S2x256x768, .f32⟩
  | .local _ .vmem, ⟨0, _⟩ => ⟨S2x256x768, .f32⟩
  | .local _ .vmem, ⟨1, _⟩ => ⟨S768x512, .f32⟩
  | .local _ .vmem, ⟨2, _⟩ => ⟨S512x768, .f32⟩
  | .local _ .vmem, ⟨3, _⟩ => ⟨S2x8x64x512, .f32⟩
  | .local _ .vmem, ⟨4, _⟩ => ⟨S2x8x512x64, .f32⟩
  | .local _ .vmem, ⟨5, _⟩ => ⟨S2x256x768, .f32⟩
  | .local _ .vmem, ⟨6, _⟩ => ⟨S512x768, .f32⟩
  | .local _ .vmem, ⟨7, _⟩ => ⟨S256x512, .f32⟩
  | .local _ .vmem, ⟨8, _⟩ => ⟨S3x128x768, .bf16⟩
  | .local _ .vmem, ⟨9, _⟩ => ⟨S3x128x768, .bf16⟩
  | .local _ .vmem, ⟨10, _⟩ => ⟨S128x768, .bf16⟩
  | .local _ .vmem, ⟨11, _⟩ => ⟨S3x128x768, .bf16⟩
  | _, _ => ⟨S2x256x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 1 → Bool
  | ⟨0, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  (ofTc nBuf bufTy 1 18 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_34 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c0_i32 : BitVec 32 := 0#32
  let v4 : BitVec 32 := Scalar.addi v3 c0_i32
  let c4_i32_1 : BitVec 32 := 4#32
  let v5 : BitVec 32 := Scalar.remsi v4 c4_i32_1
  let c1_i32_33 : BitVec 32 := 1#32
  let v41 : BitVec 32 := Scalar.muli v5 c1_i32_33
  let v42 : BitVec 32 := Scalar.addi c0_i32_34 v41
  v42.toNat
def k0_dev2 (d0 : Dev nD) : Nat :=
  let c0_i32_37 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v6 : BitVec 32 := Scalar.addi v2 c1_i32_2
  let c1_i32_3 : BitVec 32 := 1#32
  let v7 : BitVec 32 := Scalar.addi v6 c1_i32_3
  let c4_i32_4 : BitVec 32 := 4#32
  let v8 : BitVec 32 := Scalar.remsi v7 c4_i32_4
  let c1_i32_36 : BitVec 32 := 1#32
  let v43 : BitVec 32 := Scalar.muli v8 c1_i32_36
  let v44 : BitVec 32 := Scalar.addi c0_i32_37 v43
  v44.toNat
def k0_dev3 (d0 : Dev nD) : Nat :=
  let c0_i32_40 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_5 : BitVec 32 := 1#32
  let v9 : BitVec 32 := Scalar.addi v2 c1_i32_5
  let c2_i32 : BitVec 32 := 2#32
  let v10 : BitVec 32 := Scalar.addi v9 c2_i32
  let c4_i32_6 : BitVec 32 := 4#32
  let v11 : BitVec 32 := Scalar.remsi v10 c4_i32_6
  let c1_i32_39 : BitVec 32 := 1#32
  let v45 : BitVec 32 := Scalar.muli v11 c1_i32_39
  let v46 : BitVec 32 := Scalar.addi c0_i32_40 v45
  v46.toNat
def k0_cond3 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c0_i32 : BitVec 32 := 0#32
  let v4 : BitVec 32 := Scalar.addi v3 c0_i32
  let c4_i32_1 : BitVec 32 := 4#32
  let v5 : BitVec 32 := Scalar.remsi v4 c4_i32_1
  let c0_i32_11 : BitVec 32 := 0#32
  let v19 : BitVec 1 := Scalar.cmpi .eq v5 c0_i32_11
  let c3_i32_12 : BitVec 32 := 3#32
  let v20 : BitVec 1 := Scalar.cmpi .eq v5 c3_i32_12
  let v21 : BitVec 1 := Scalar.ori v19 v20
  let c0_i32_13 : BitVec 32 := 0#32
  let c256_i32_14 : BitVec 32 := 256#32
  let v22 : BitVec 32 := Scalar.select v21 c0_i32_13 c256_i32_14
  let c1_i32_15 : BitVec 32 := 1#32
  let v23 : BitVec 1 := Scalar.cmpi .sle v5 c1_i32_15
  let c0_i32_16 : BitVec 32 := 0#32
  let c128_i32_17 : BitVec 32 := 128#32
  let v24 : BitVec 32 := Scalar.select v23 c0_i32_16 c128_i32_17
  let v25 : BitVec 32 := Scalar.addi v22 v24
  let c256_i32_49 : BitVec 32 := 256#32
  let v56 : BitVec 1 := Scalar.cmpi .sge v25 c256_i32_49
  let c0_i32_42 : BitVec 32 := 0#32
  let v47 : BitVec 1 := Scalar.cmpi .eq v2 c0_i32_42
  let c3_i32_43 : BitVec 32 := 3#32
  let v48 : BitVec 1 := Scalar.cmpi .eq v2 c3_i32_43
  let v49 : BitVec 1 := Scalar.ori v47 v48
  let c1_i32_44 : BitVec 32 := 1#32
  let c0_i32_45 : BitVec 32 := 0#32
  let v50 : BitVec 32 := Scalar.select v49 c1_i32_44 c0_i32_45
  let c1_i32_50 : BitVec 32 := 1#32
  let v57 : BitVec 1 := Scalar.cmpi .eq v50 c1_i32_50
  let v58 : BitVec 1 := Scalar.xori v56 v57
  let true_51 : BitVec 1 := 1#1
  let v59 : BitVec 1 := Scalar.xori v58 true_51
  let v60 : BitVec 32 := Scalar.extui v59
  let c0_i32_56 : BitVec 32 := 0#32
  let v61 : BitVec 1 := Scalar.cmpi .ne v60 c0_i32_56
  v61

def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c0_i32 : BitVec 32 := 0#32
  let v4 : BitVec 32 := Scalar.addi v3 c0_i32
  let c4_i32_1 : BitVec 32 := 4#32
  let v5 : BitVec 32 := Scalar.remsi v4 c4_i32_1
  let c0_i32_11 : BitVec 32 := 0#32
  let v19 : BitVec 1 := Scalar.cmpi .eq v5 c0_i32_11
  let c3_i32_12 : BitVec 32 := 3#32
  let v20 : BitVec 1 := Scalar.cmpi .eq v5 c3_i32_12
  let v21 : BitVec 1 := Scalar.ori v19 v20
  let c0_i32_13 : BitVec 32 := 0#32
  let c256_i32_14 : BitVec 32 := 256#32
  let v22 : BitVec 32 := Scalar.select v21 c0_i32_13 c256_i32_14
  let c1_i32_15 : BitVec 32 := 1#32
  let v23 : BitVec 1 := Scalar.cmpi .sle v5 c1_i32_15
  let c0_i32_16 : BitVec 32 := 0#32
  let c128_i32_17 : BitVec 32 := 128#32
  let v24 : BitVec 32 := Scalar.select v23 c0_i32_16 c128_i32_17
  let v25 : BitVec 32 := Scalar.addi v22 v24
  let v281 : Index := Scalar.indexCast v25
  let c0_292 : Index := 0#32
  ![v281.toNat, 0]
def k0_dev4 (d0 : Dev nD) : Nat :=
  let c0_i32_297 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c0_i32 : BitVec 32 := 0#32
  let v4 : BitVec 32 := Scalar.addi v3 c0_i32
  let c4_i32_1 : BitVec 32 := 4#32
  let v5 : BitVec 32 := Scalar.remsi v4 c4_i32_1
  let c1_i32_296 : BitVec 32 := 1#32
  let v287 : BitVec 32 := Scalar.muli v5 c1_i32_296
  let v288 : BitVec 32 := Scalar.addi c0_i32_297 v287
  v288.toNat
def k0_cond4 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v6 : BitVec 32 := Scalar.addi v2 c1_i32_2
  let c1_i32_3 : BitVec 32 := 1#32
  let v7 : BitVec 32 := Scalar.addi v6 c1_i32_3
  let c4_i32_4 : BitVec 32 := 4#32
  let v8 : BitVec 32 := Scalar.remsi v7 c4_i32_4
  let c0_i32_18 : BitVec 32 := 0#32
  let v26 : BitVec 1 := Scalar.cmpi .eq v8 c0_i32_18
  let c3_i32_19 : BitVec 32 := 3#32
  let v27 : BitVec 1 := Scalar.cmpi .eq v8 c3_i32_19
  let v28 : BitVec 1 := Scalar.ori v26 v27
  let c0_i32_20 : BitVec 32 := 0#32
  let c256_i32_21 : BitVec 32 := 256#32
  let v29 : BitVec 32 := Scalar.select v28 c0_i32_20 c256_i32_21
  let c1_i32_22 : BitVec 32 := 1#32
  let v30 : BitVec 1 := Scalar.cmpi .sle v8 c1_i32_22
  let c0_i32_23 : BitVec 32 := 0#32
  let c128_i32_24 : BitVec 32 := 128#32
  let v31 : BitVec 32 := Scalar.select v30 c0_i32_23 c128_i32_24
  let v32 : BitVec 32 := Scalar.addi v29 v31
  let c256_i32_57 : BitVec 32 := 256#32
  let v62 : BitVec 1 := Scalar.cmpi .sge v32 c256_i32_57
  let c0_i32_42 : BitVec 32 := 0#32
  let v47 : BitVec 1 := Scalar.cmpi .eq v2 c0_i32_42
  let c3_i32_43 : BitVec 32 := 3#32
  let v48 : BitVec 1 := Scalar.cmpi .eq v2 c3_i32_43
  let v49 : BitVec 1 := Scalar.ori v47 v48
  let c1_i32_44 : BitVec 32 := 1#32
  let c0_i32_45 : BitVec 32 := 0#32
  let v50 : BitVec 32 := Scalar.select v49 c1_i32_44 c0_i32_45
  let c1_i32_58 : BitVec 32 := 1#32
  let v63 : BitVec 1 := Scalar.cmpi .eq v50 c1_i32_58
  let v64 : BitVec 1 := Scalar.xori v62 v63
  let true_59 : BitVec 1 := 1#1
  let v65 : BitVec 1 := Scalar.xori v64 true_59
  let v66 : BitVec 32 := Scalar.extui v65
  let c0_i32_64 : BitVec 32 := 0#32
  let v67 : BitVec 1 := Scalar.cmpi .ne v66 c0_i32_64
  v67

def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v6 : BitVec 32 := Scalar.addi v2 c1_i32_2
  let c1_i32_3 : BitVec 32 := 1#32
  let v7 : BitVec 32 := Scalar.addi v6 c1_i32_3
  let c4_i32_4 : BitVec 32 := 4#32
  let v8 : BitVec 32 := Scalar.remsi v7 c4_i32_4
  let c0_i32_18 : BitVec 32 := 0#32
  let v26 : BitVec 1 := Scalar.cmpi .eq v8 c0_i32_18
  let c3_i32_19 : BitVec 32 := 3#32
  let v27 : BitVec 1 := Scalar.cmpi .eq v8 c3_i32_19
  let v28 : BitVec 1 := Scalar.ori v26 v27
  let c0_i32_20 : BitVec 32 := 0#32
  let c256_i32_21 : BitVec 32 := 256#32
  let v29 : BitVec 32 := Scalar.select v28 c0_i32_20 c256_i32_21
  let c1_i32_22 : BitVec 32 := 1#32
  let v30 : BitVec 1 := Scalar.cmpi .sle v8 c1_i32_22
  let c0_i32_23 : BitVec 32 := 0#32
  let c128_i32_24 : BitVec 32 := 128#32
  let v31 : BitVec 32 := Scalar.select v30 c0_i32_23 c128_i32_24
  let v32 : BitVec 32 := Scalar.addi v29 v31
  let v281 : Index := Scalar.indexCast v32
  let c0_292 : Index := 0#32
  ![v281.toNat, 0]
def k0_dev5 (d0 : Dev nD) : Nat :=
  let c0_i32_297 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v6 : BitVec 32 := Scalar.addi v2 c1_i32_2
  let c1_i32_3 : BitVec 32 := 1#32
  let v7 : BitVec 32 := Scalar.addi v6 c1_i32_3
  let c4_i32_4 : BitVec 32 := 4#32
  let v8 : BitVec 32 := Scalar.remsi v7 c4_i32_4
  let c1_i32_296 : BitVec 32 := 1#32
  let v287 : BitVec 32 := Scalar.muli v8 c1_i32_296
  let v288 : BitVec 32 := Scalar.addi c0_i32_297 v287
  v288.toNat
def k0_cond5 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_5 : BitVec 32 := 1#32
  let v9 : BitVec 32 := Scalar.addi v2 c1_i32_5
  let c2_i32 : BitVec 32 := 2#32
  let v10 : BitVec 32 := Scalar.addi v9 c2_i32
  let c4_i32_6 : BitVec 32 := 4#32
  let v11 : BitVec 32 := Scalar.remsi v10 c4_i32_6
  let c0_i32_25 : BitVec 32 := 0#32
  let v33 : BitVec 1 := Scalar.cmpi .eq v11 c0_i32_25
  let c3_i32_26 : BitVec 32 := 3#32
  let v34 : BitVec 1 := Scalar.cmpi .eq v11 c3_i32_26
  let v35 : BitVec 1 := Scalar.ori v33 v34
  let c0_i32_27 : BitVec 32 := 0#32
  let c256_i32_28 : BitVec 32 := 256#32
  let v36 : BitVec 32 := Scalar.select v35 c0_i32_27 c256_i32_28
  let c1_i32_29 : BitVec 32 := 1#32
  let v37 : BitVec 1 := Scalar.cmpi .sle v11 c1_i32_29
  let c0_i32_30 : BitVec 32 := 0#32
  let c128_i32_31 : BitVec 32 := 128#32
  let v38 : BitVec 32 := Scalar.select v37 c0_i32_30 c128_i32_31
  let v39 : BitVec 32 := Scalar.addi v36 v38
  let c256_i32_65 : BitVec 32 := 256#32
  let v68 : BitVec 1 := Scalar.cmpi .sge v39 c256_i32_65
  let c0_i32_42 : BitVec 32 := 0#32
  let v47 : BitVec 1 := Scalar.cmpi .eq v2 c0_i32_42
  let c3_i32_43 : BitVec 32 := 3#32
  let v48 : BitVec 1 := Scalar.cmpi .eq v2 c3_i32_43
  let v49 : BitVec 1 := Scalar.ori v47 v48
  let c1_i32_44 : BitVec 32 := 1#32
  let c0_i32_45 : BitVec 32 := 0#32
  let v50 : BitVec 32 := Scalar.select v49 c1_i32_44 c0_i32_45
  let c1_i32_66 : BitVec 32 := 1#32
  let v69 : BitVec 1 := Scalar.cmpi .eq v50 c1_i32_66
  let v70 : BitVec 1 := Scalar.xori v68 v69
  let true_67 : BitVec 1 := 1#1
  let v71 : BitVec 1 := Scalar.xori v70 true_67
  let v72 : BitVec 32 := Scalar.extui v71
  let c0_i32_72 : BitVec 32 := 0#32
  let v73 : BitVec 1 := Scalar.cmpi .ne v72 c0_i32_72
  v73

def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_5 : BitVec 32 := 1#32
  let v9 : BitVec 32 := Scalar.addi v2 c1_i32_5
  let c2_i32 : BitVec 32 := 2#32
  let v10 : BitVec 32 := Scalar.addi v9 c2_i32
  let c4_i32_6 : BitVec 32 := 4#32
  let v11 : BitVec 32 := Scalar.remsi v10 c4_i32_6
  let c0_i32_25 : BitVec 32 := 0#32
  let v33 : BitVec 1 := Scalar.cmpi .eq v11 c0_i32_25
  let c3_i32_26 : BitVec 32 := 3#32
  let v34 : BitVec 1 := Scalar.cmpi .eq v11 c3_i32_26
  let v35 : BitVec 1 := Scalar.ori v33 v34
  let c0_i32_27 : BitVec 32 := 0#32
  let c256_i32_28 : BitVec 32 := 256#32
  let v36 : BitVec 32 := Scalar.select v35 c0_i32_27 c256_i32_28
  let c1_i32_29 : BitVec 32 := 1#32
  let v37 : BitVec 1 := Scalar.cmpi .sle v11 c1_i32_29
  let c0_i32_30 : BitVec 32 := 0#32
  let c128_i32_31 : BitVec 32 := 128#32
  let v38 : BitVec 32 := Scalar.select v37 c0_i32_30 c128_i32_31
  let v39 : BitVec 32 := Scalar.addi v36 v38
  let v281 : Index := Scalar.indexCast v39
  let c0_292 : Index := 0#32
  ![v281.toNat, 0]
def k0_dev6 (d0 : Dev nD) : Nat :=
  let c0_i32_297 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_5 : BitVec 32 := 1#32
  let v9 : BitVec 32 := Scalar.addi v2 c1_i32_5
  let c2_i32 : BitVec 32 := 2#32
  let v10 : BitVec 32 := Scalar.addi v9 c2_i32
  let c4_i32_6 : BitVec 32 := 4#32
  let v11 : BitVec 32 := Scalar.remsi v10 c4_i32_6
  let c1_i32_296 : BitVec 32 := 1#32
  let v287 : BitVec 32 := Scalar.muli v11 c1_i32_296
  let v288 : BitVec 32 := Scalar.addi c0_i32_297 v287
  v288.toNat
def k0_cond6 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_42 : BitVec 32 := 0#32
  let v47 : BitVec 1 := Scalar.cmpi .eq v2 c0_i32_42
  let c3_i32_43 : BitVec 32 := 3#32
  let v48 : BitVec 1 := Scalar.cmpi .eq v2 c3_i32_43
  let v49 : BitVec 1 := Scalar.ori v47 v48
  let v74 : BitVec 32 := Scalar.extui v49
  let c0_i32_85 : BitVec 32 := 0#32
  let v75 : BitVec 1 := Scalar.cmpi .ne v74 c0_i32_85
  v75

def k0_off4 (d0 : Dev nD) : Fin 3 → Nat :=
  let c0_294 : Index := 0#32
  let c128_i32_292 : BitVec 32 := 128#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_7 : BitVec 32 := 0#32
  let v12 : BitVec 1 := Scalar.cmpi .eq v2 c0_i32_7
  let c3_i32 : BitVec 32 := 3#32
  let v13 : BitVec 1 := Scalar.cmpi .eq v2 c3_i32
  let v14 : BitVec 1 := Scalar.ori v12 v13
  let c0_i32_8 : BitVec 32 := 0#32
  let c256_i32 : BitVec 32 := 256#32
  let v15 : BitVec 32 := Scalar.select v14 c0_i32_8 c256_i32
  let c1_i32_9 : BitVec 32 := 1#32
  let v16 : BitVec 1 := Scalar.cmpi .sle v2 c1_i32_9
  let c0_i32_10 : BitVec 32 := 0#32
  let c128_i32 : BitVec 32 := 128#32
  let v17 : BitVec 32 := Scalar.select v16 c0_i32_10 c128_i32
  let v18 : BitVec 32 := Scalar.addi v15 v17
  let v281 : BitVec 32 := Scalar.subi c128_i32_292 v18
  let c0_i32_293 : BitVec 32 := 0#32
  let v282 : BitVec 32 := Scalar.subi v281 c0_i32_293
  let v283 : Index := Scalar.indexCast v282
  let c0_295 : Index := 0#32
  ![0, v283.toNat, 0]
def k0_off5 (d0 : Dev nD) : Fin 2 → Nat :=
  let c128_i32_292 : BitVec 32 := 128#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_7 : BitVec 32 := 0#32
  let v12 : BitVec 1 := Scalar.cmpi .eq v2 c0_i32_7
  let c3_i32 : BitVec 32 := 3#32
  let v13 : BitVec 1 := Scalar.cmpi .eq v2 c3_i32
  let v14 : BitVec 1 := Scalar.ori v12 v13
  let c0_i32_8 : BitVec 32 := 0#32
  let c256_i32 : BitVec 32 := 256#32
  let v15 : BitVec 32 := Scalar.select v14 c0_i32_8 c256_i32
  let c1_i32_9 : BitVec 32 := 1#32
  let v16 : BitVec 1 := Scalar.cmpi .sle v2 c1_i32_9
  let c0_i32_10 : BitVec 32 := 0#32
  let c128_i32 : BitVec 32 := 128#32
  let v17 : BitVec 32 := Scalar.select v16 c0_i32_10 c128_i32
  let v18 : BitVec 32 := Scalar.addi v15 v17
  let v281 : BitVec 32 := Scalar.subi c128_i32_292 v18
  let v461 : Index := Scalar.indexCast v281
  let c0_411 : Index := 0#32
  ![v461.toNat, 0]
def k0_cond7 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c0_i32 : BitVec 32 := 0#32
  let v4 : BitVec 32 := Scalar.addi v3 c0_i32
  let c4_i32_1 : BitVec 32 := 4#32
  let v5 : BitVec 32 := Scalar.remsi v4 c4_i32_1
  let c0_i32_11 : BitVec 32 := 0#32
  let v19 : BitVec 1 := Scalar.cmpi .eq v5 c0_i32_11
  let c3_i32_12 : BitVec 32 := 3#32
  let v20 : BitVec 1 := Scalar.cmpi .eq v5 c3_i32_12
  let v21 : BitVec 1 := Scalar.ori v19 v20
  let c0_i32_13 : BitVec 32 := 0#32
  let c256_i32_14 : BitVec 32 := 256#32
  let v22 : BitVec 32 := Scalar.select v21 c0_i32_13 c256_i32_14
  let c1_i32_15 : BitVec 32 := 1#32
  let v23 : BitVec 1 := Scalar.cmpi .sle v5 c1_i32_15
  let c0_i32_16 : BitVec 32 := 0#32
  let c128_i32_17 : BitVec 32 := 128#32
  let v24 : BitVec 32 := Scalar.select v23 c0_i32_16 c128_i32_17
  let v25 : BitVec 32 := Scalar.addi v22 v24
  let c256_i32_413 : BitVec 32 := 256#32
  let v466 : BitVec 1 := Scalar.cmpi .sge v25 c256_i32_413
  let c1_i32_412 : BitVec 32 := 1#32
  let c0_i32_42 : BitVec 32 := 0#32
  let v47 : BitVec 1 := Scalar.cmpi .eq v2 c0_i32_42
  let c3_i32_43 : BitVec 32 := 3#32
  let v48 : BitVec 1 := Scalar.cmpi .eq v2 c3_i32_43
  let v49 : BitVec 1 := Scalar.ori v47 v48
  let c1_i32_44 : BitVec 32 := 1#32
  let c0_i32_45 : BitVec 32 := 0#32
  let v50 : BitVec 32 := Scalar.select v49 c1_i32_44 c0_i32_45
  let v465 : BitVec 32 := Scalar.subi c1_i32_412 v50
  let c1_i32_414 : BitVec 32 := 1#32
  let v467 : BitVec 1 := Scalar.cmpi .eq v465 c1_i32_414
  let v468 : BitVec 1 := Scalar.xori v466 v467
  let true_415 : BitVec 1 := 1#1
  let v469 : BitVec 1 := Scalar.xori v468 true_415
  let v470 : BitVec 32 := Scalar.extui v469
  let c0_i32_416 : BitVec 32 := 0#32
  let v471 : BitVec 1 := Scalar.cmpi .ne v470 c0_i32_416
  v471

def k0_off6 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c0_i32 : BitVec 32 := 0#32
  let v4 : BitVec 32 := Scalar.addi v3 c0_i32
  let c4_i32_1 : BitVec 32 := 4#32
  let v5 : BitVec 32 := Scalar.remsi v4 c4_i32_1
  let c0_i32_11 : BitVec 32 := 0#32
  let v19 : BitVec 1 := Scalar.cmpi .eq v5 c0_i32_11
  let c3_i32_12 : BitVec 32 := 3#32
  let v20 : BitVec 1 := Scalar.cmpi .eq v5 c3_i32_12
  let v21 : BitVec 1 := Scalar.ori v19 v20
  let c0_i32_13 : BitVec 32 := 0#32
  let c256_i32_14 : BitVec 32 := 256#32
  let v22 : BitVec 32 := Scalar.select v21 c0_i32_13 c256_i32_14
  let c1_i32_15 : BitVec 32 := 1#32
  let v23 : BitVec 1 := Scalar.cmpi .sle v5 c1_i32_15
  let c0_i32_16 : BitVec 32 := 0#32
  let c128_i32_17 : BitVec 32 := 128#32
  let v24 : BitVec 32 := Scalar.select v23 c0_i32_16 c128_i32_17
  let v25 : BitVec 32 := Scalar.addi v22 v24
  let v667 : Index := Scalar.indexCast v25
  let c0_557 : Index := 0#32
  ![v667.toNat, 0]
def k0_dev7 (d0 : Dev nD) : Nat :=
  let c0_i32_562 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c0_i32 : BitVec 32 := 0#32
  let v4 : BitVec 32 := Scalar.addi v3 c0_i32
  let c4_i32_1 : BitVec 32 := 4#32
  let v5 : BitVec 32 := Scalar.remsi v4 c4_i32_1
  let c1_i32_561 : BitVec 32 := 1#32
  let v673 : BitVec 32 := Scalar.muli v5 c1_i32_561
  let v674 : BitVec 32 := Scalar.addi c0_i32_562 v673
  v674.toNat
def k0_cond8 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v6 : BitVec 32 := Scalar.addi v2 c1_i32_2
  let c1_i32_3 : BitVec 32 := 1#32
  let v7 : BitVec 32 := Scalar.addi v6 c1_i32_3
  let c4_i32_4 : BitVec 32 := 4#32
  let v8 : BitVec 32 := Scalar.remsi v7 c4_i32_4
  let c0_i32_18 : BitVec 32 := 0#32
  let v26 : BitVec 1 := Scalar.cmpi .eq v8 c0_i32_18
  let c3_i32_19 : BitVec 32 := 3#32
  let v27 : BitVec 1 := Scalar.cmpi .eq v8 c3_i32_19
  let v28 : BitVec 1 := Scalar.ori v26 v27
  let c0_i32_20 : BitVec 32 := 0#32
  let c256_i32_21 : BitVec 32 := 256#32
  let v29 : BitVec 32 := Scalar.select v28 c0_i32_20 c256_i32_21
  let c1_i32_22 : BitVec 32 := 1#32
  let v30 : BitVec 1 := Scalar.cmpi .sle v8 c1_i32_22
  let c0_i32_23 : BitVec 32 := 0#32
  let c128_i32_24 : BitVec 32 := 128#32
  let v31 : BitVec 32 := Scalar.select v30 c0_i32_23 c128_i32_24
  let v32 : BitVec 32 := Scalar.addi v29 v31
  let c256_i32_417 : BitVec 32 := 256#32
  let v472 : BitVec 1 := Scalar.cmpi .sge v32 c256_i32_417
  let c1_i32_412 : BitVec 32 := 1#32
  let c0_i32_42 : BitVec 32 := 0#32
  let v47 : BitVec 1 := Scalar.cmpi .eq v2 c0_i32_42
  let c3_i32_43 : BitVec 32 := 3#32
  let v48 : BitVec 1 := Scalar.cmpi .eq v2 c3_i32_43
  let v49 : BitVec 1 := Scalar.ori v47 v48
  let c1_i32_44 : BitVec 32 := 1#32
  let c0_i32_45 : BitVec 32 := 0#32
  let v50 : BitVec 32 := Scalar.select v49 c1_i32_44 c0_i32_45
  let v465 : BitVec 32 := Scalar.subi c1_i32_412 v50
  let c1_i32_418 : BitVec 32 := 1#32
  let v473 : BitVec 1 := Scalar.cmpi .eq v465 c1_i32_418
  let v474 : BitVec 1 := Scalar.xori v472 v473
  let true_419 : BitVec 1 := 1#1
  let v475 : BitVec 1 := Scalar.xori v474 true_419
  let v476 : BitVec 32 := Scalar.extui v475
  let c0_i32_420 : BitVec 32 := 0#32
  let v477 : BitVec 1 := Scalar.cmpi .ne v476 c0_i32_420
  v477

def k0_off7 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v6 : BitVec 32 := Scalar.addi v2 c1_i32_2
  let c1_i32_3 : BitVec 32 := 1#32
  let v7 : BitVec 32 := Scalar.addi v6 c1_i32_3
  let c4_i32_4 : BitVec 32 := 4#32
  let v8 : BitVec 32 := Scalar.remsi v7 c4_i32_4
  let c0_i32_18 : BitVec 32 := 0#32
  let v26 : BitVec 1 := Scalar.cmpi .eq v8 c0_i32_18
  let c3_i32_19 : BitVec 32 := 3#32
  let v27 : BitVec 1 := Scalar.cmpi .eq v8 c3_i32_19
  let v28 : BitVec 1 := Scalar.ori v26 v27
  let c0_i32_20 : BitVec 32 := 0#32
  let c256_i32_21 : BitVec 32 := 256#32
  let v29 : BitVec 32 := Scalar.select v28 c0_i32_20 c256_i32_21
  let c1_i32_22 : BitVec 32 := 1#32
  let v30 : BitVec 1 := Scalar.cmpi .sle v8 c1_i32_22
  let c0_i32_23 : BitVec 32 := 0#32
  let c128_i32_24 : BitVec 32 := 128#32
  let v31 : BitVec 32 := Scalar.select v30 c0_i32_23 c128_i32_24
  let v32 : BitVec 32 := Scalar.addi v29 v31
  let v667 : Index := Scalar.indexCast v32
  let c0_557 : Index := 0#32
  ![v667.toNat, 0]
def k0_dev8 (d0 : Dev nD) : Nat :=
  let c0_i32_562 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v6 : BitVec 32 := Scalar.addi v2 c1_i32_2
  let c1_i32_3 : BitVec 32 := 1#32
  let v7 : BitVec 32 := Scalar.addi v6 c1_i32_3
  let c4_i32_4 : BitVec 32 := 4#32
  let v8 : BitVec 32 := Scalar.remsi v7 c4_i32_4
  let c1_i32_561 : BitVec 32 := 1#32
  let v673 : BitVec 32 := Scalar.muli v8 c1_i32_561
  let v674 : BitVec 32 := Scalar.addi c0_i32_562 v673
  v674.toNat
def k0_cond9 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_5 : BitVec 32 := 1#32
  let v9 : BitVec 32 := Scalar.addi v2 c1_i32_5
  let c2_i32 : BitVec 32 := 2#32
  let v10 : BitVec 32 := Scalar.addi v9 c2_i32
  let c4_i32_6 : BitVec 32 := 4#32
  let v11 : BitVec 32 := Scalar.remsi v10 c4_i32_6
  let c0_i32_25 : BitVec 32 := 0#32
  let v33 : BitVec 1 := Scalar.cmpi .eq v11 c0_i32_25
  let c3_i32_26 : BitVec 32 := 3#32
  let v34 : BitVec 1 := Scalar.cmpi .eq v11 c3_i32_26
  let v35 : BitVec 1 := Scalar.ori v33 v34
  let c0_i32_27 : BitVec 32 := 0#32
  let c256_i32_28 : BitVec 32 := 256#32
  let v36 : BitVec 32 := Scalar.select v35 c0_i32_27 c256_i32_28
  let c1_i32_29 : BitVec 32 := 1#32
  let v37 : BitVec 1 := Scalar.cmpi .sle v11 c1_i32_29
  let c0_i32_30 : BitVec 32 := 0#32
  let c128_i32_31 : BitVec 32 := 128#32
  let v38 : BitVec 32 := Scalar.select v37 c0_i32_30 c128_i32_31
  let v39 : BitVec 32 := Scalar.addi v36 v38
  let c256_i32_421 : BitVec 32 := 256#32
  let v478 : BitVec 1 := Scalar.cmpi .sge v39 c256_i32_421
  let c1_i32_412 : BitVec 32 := 1#32
  let c0_i32_42 : BitVec 32 := 0#32
  let v47 : BitVec 1 := Scalar.cmpi .eq v2 c0_i32_42
  let c3_i32_43 : BitVec 32 := 3#32
  let v48 : BitVec 1 := Scalar.cmpi .eq v2 c3_i32_43
  let v49 : BitVec 1 := Scalar.ori v47 v48
  let c1_i32_44 : BitVec 32 := 1#32
  let c0_i32_45 : BitVec 32 := 0#32
  let v50 : BitVec 32 := Scalar.select v49 c1_i32_44 c0_i32_45
  let v465 : BitVec 32 := Scalar.subi c1_i32_412 v50
  let c1_i32_422 : BitVec 32 := 1#32
  let v479 : BitVec 1 := Scalar.cmpi .eq v465 c1_i32_422
  let v480 : BitVec 1 := Scalar.xori v478 v479
  let true_423 : BitVec 1 := 1#1
  let v481 : BitVec 1 := Scalar.xori v480 true_423
  let v482 : BitVec 32 := Scalar.extui v481
  let c0_i32_424 : BitVec 32 := 0#32
  let v483 : BitVec 1 := Scalar.cmpi .ne v482 c0_i32_424
  v483

def k0_off8 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_5 : BitVec 32 := 1#32
  let v9 : BitVec 32 := Scalar.addi v2 c1_i32_5
  let c2_i32 : BitVec 32 := 2#32
  let v10 : BitVec 32 := Scalar.addi v9 c2_i32
  let c4_i32_6 : BitVec 32 := 4#32
  let v11 : BitVec 32 := Scalar.remsi v10 c4_i32_6
  let c0_i32_25 : BitVec 32 := 0#32
  let v33 : BitVec 1 := Scalar.cmpi .eq v11 c0_i32_25
  let c3_i32_26 : BitVec 32 := 3#32
  let v34 : BitVec 1 := Scalar.cmpi .eq v11 c3_i32_26
  let v35 : BitVec 1 := Scalar.ori v33 v34
  let c0_i32_27 : BitVec 32 := 0#32
  let c256_i32_28 : BitVec 32 := 256#32
  let v36 : BitVec 32 := Scalar.select v35 c0_i32_27 c256_i32_28
  let c1_i32_29 : BitVec 32 := 1#32
  let v37 : BitVec 1 := Scalar.cmpi .sle v11 c1_i32_29
  let c0_i32_30 : BitVec 32 := 0#32
  let c128_i32_31 : BitVec 32 := 128#32
  let v38 : BitVec 32 := Scalar.select v37 c0_i32_30 c128_i32_31
  let v39 : BitVec 32 := Scalar.addi v36 v38
  let v667 : Index := Scalar.indexCast v39
  let c0_557 : Index := 0#32
  ![v667.toNat, 0]
def k0_dev9 (d0 : Dev nD) : Nat :=
  let c0_i32_562 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_5 : BitVec 32 := 1#32
  let v9 : BitVec 32 := Scalar.addi v2 c1_i32_5
  let c2_i32 : BitVec 32 := 2#32
  let v10 : BitVec 32 := Scalar.addi v9 c2_i32
  let c4_i32_6 : BitVec 32 := 4#32
  let v11 : BitVec 32 := Scalar.remsi v10 c4_i32_6
  let c1_i32_561 : BitVec 32 := 1#32
  let v673 : BitVec 32 := Scalar.muli v11 c1_i32_561
  let v674 : BitVec 32 := Scalar.addi c0_i32_562 v673
  v674.toNat
def k0_off9 (d0 : Dev nD) : Fin 3 → Nat :=
  let c0_426 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_7 : BitVec 32 := 0#32
  let v12 : BitVec 1 := Scalar.cmpi .eq v2 c0_i32_7
  let c3_i32 : BitVec 32 := 3#32
  let v13 : BitVec 1 := Scalar.cmpi .eq v2 c3_i32
  let v14 : BitVec 1 := Scalar.ori v12 v13
  let c0_i32_8 : BitVec 32 := 0#32
  let c256_i32 : BitVec 32 := 256#32
  let v15 : BitVec 32 := Scalar.select v14 c0_i32_8 c256_i32
  let c1_i32_9 : BitVec 32 := 1#32
  let v16 : BitVec 1 := Scalar.cmpi .sle v2 c1_i32_9
  let c0_i32_10 : BitVec 32 := 0#32
  let c128_i32 : BitVec 32 := 128#32
  let v17 : BitVec 32 := Scalar.select v16 c0_i32_10 c128_i32
  let v18 : BitVec 32 := Scalar.addi v15 v17
  let c0_i32_425 : BitVec 32 := 0#32
  let v484 : BitVec 32 := Scalar.subi v18 c0_i32_425
  let v485 : Index := Scalar.indexCast v484
  let c0_427 : Index := 0#32
  ![0, v485.toNat, 0]
def k0_off10 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_7 : BitVec 32 := 0#32
  let v12 : BitVec 1 := Scalar.cmpi .eq v2 c0_i32_7
  let c3_i32 : BitVec 32 := 3#32
  let v13 : BitVec 1 := Scalar.cmpi .eq v2 c3_i32
  let v14 : BitVec 1 := Scalar.ori v12 v13
  let c0_i32_8 : BitVec 32 := 0#32
  let c256_i32 : BitVec 32 := 256#32
  let v15 : BitVec 32 := Scalar.select v14 c0_i32_8 c256_i32
  let c1_i32_9 : BitVec 32 := 1#32
  let v16 : BitVec 1 := Scalar.cmpi .sle v2 c1_i32_9
  let c0_i32_10 : BitVec 32 := 0#32
  let c128_i32 : BitVec 32 := 128#32
  let v17 : BitVec 32 := Scalar.select v16 c0_i32_10 c128_i32
  let v18 : BitVec 32 := Scalar.addi v15 v17
  let v663 : Index := Scalar.indexCast v18
  let c0_556 : Index := 0#32
  ![v663.toNat, 0]
def k0_cond10 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_42 : BitVec 32 := 0#32
  let v47 : BitVec 1 := Scalar.cmpi .eq v2 c0_i32_42
  let c3_i32_43 : BitVec 32 := 3#32
  let v48 : BitVec 1 := Scalar.cmpi .eq v2 c3_i32_43
  let v49 : BitVec 1 := Scalar.ori v47 v48
  let true_86 : BitVec 1 := 1#1
  let v76 : BitVec 1 := Scalar.xori v49 true_86
  let v77 : BitVec 32 := Scalar.extui v76
  let c0_i32_99 : BitVec 32 := 0#32
  let v78 : BitVec 1 := Scalar.cmpi .ne v77 c0_i32_99
  v78

def k0_off11 (d0 : Dev nD) : Fin 3 → Nat :=
  let c1_293 : Index := 1#32
  let c640_i32 : BitVec 32 := 640#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_7 : BitVec 32 := 0#32
  let v12 : BitVec 1 := Scalar.cmpi .eq v2 c0_i32_7
  let c3_i32 : BitVec 32 := 3#32
  let v13 : BitVec 1 := Scalar.cmpi .eq v2 c3_i32
  let v14 : BitVec 1 := Scalar.ori v12 v13
  let c0_i32_8 : BitVec 32 := 0#32
  let c256_i32 : BitVec 32 := 256#32
  let v15 : BitVec 32 := Scalar.select v14 c0_i32_8 c256_i32
  let c1_i32_9 : BitVec 32 := 1#32
  let v16 : BitVec 1 := Scalar.cmpi .sle v2 c1_i32_9
  let c0_i32_10 : BitVec 32 := 0#32
  let c128_i32 : BitVec 32 := 128#32
  let v17 : BitVec 32 := Scalar.select v16 c0_i32_10 c128_i32
  let v18 : BitVec 32 := Scalar.addi v15 v17
  let v281 : BitVec 32 := Scalar.subi c640_i32 v18
  let c256_i32_292 : BitVec 32 := 256#32
  let v282 : BitVec 32 := Scalar.subi v281 c256_i32_292
  let v283 : Index := Scalar.indexCast v282
  let c0_294 : Index := 0#32
  ![1, v283.toNat, 0]
def k0_off12 (d0 : Dev nD) : Fin 2 → Nat :=
  let c640_i32 : BitVec 32 := 640#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_7 : BitVec 32 := 0#32
  let v12 : BitVec 1 := Scalar.cmpi .eq v2 c0_i32_7
  let c3_i32 : BitVec 32 := 3#32
  let v13 : BitVec 1 := Scalar.cmpi .eq v2 c3_i32
  let v14 : BitVec 1 := Scalar.ori v12 v13
  let c0_i32_8 : BitVec 32 := 0#32
  let c256_i32 : BitVec 32 := 256#32
  let v15 : BitVec 32 := Scalar.select v14 c0_i32_8 c256_i32
  let c1_i32_9 : BitVec 32 := 1#32
  let v16 : BitVec 1 := Scalar.cmpi .sle v2 c1_i32_9
  let c0_i32_10 : BitVec 32 := 0#32
  let c128_i32 : BitVec 32 := 128#32
  let v17 : BitVec 32 := Scalar.select v16 c0_i32_10 c128_i32
  let v18 : BitVec 32 := Scalar.addi v15 v17
  let v281 : BitVec 32 := Scalar.subi c640_i32 v18
  let v461 : Index := Scalar.indexCast v281
  let c0_410 : Index := 0#32
  ![v461.toNat, 0]
def k0_cond11 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c0_i32 : BitVec 32 := 0#32
  let v4 : BitVec 32 := Scalar.addi v3 c0_i32
  let c4_i32_1 : BitVec 32 := 4#32
  let v5 : BitVec 32 := Scalar.remsi v4 c4_i32_1
  let c0_i32_11 : BitVec 32 := 0#32
  let v19 : BitVec 1 := Scalar.cmpi .eq v5 c0_i32_11
  let c3_i32_12 : BitVec 32 := 3#32
  let v20 : BitVec 1 := Scalar.cmpi .eq v5 c3_i32_12
  let v21 : BitVec 1 := Scalar.ori v19 v20
  let c0_i32_13 : BitVec 32 := 0#32
  let c256_i32_14 : BitVec 32 := 256#32
  let v22 : BitVec 32 := Scalar.select v21 c0_i32_13 c256_i32_14
  let c1_i32_15 : BitVec 32 := 1#32
  let v23 : BitVec 1 := Scalar.cmpi .sle v5 c1_i32_15
  let c0_i32_16 : BitVec 32 := 0#32
  let c128_i32_17 : BitVec 32 := 128#32
  let v24 : BitVec 32 := Scalar.select v23 c0_i32_16 c128_i32_17
  let v25 : BitVec 32 := Scalar.addi v22 v24
  let c256_i32_412 : BitVec 32 := 256#32
  let v466 : BitVec 1 := Scalar.cmpi .sge v25 c256_i32_412
  let c1_i32_411 : BitVec 32 := 1#32
  let c0_i32_42 : BitVec 32 := 0#32
  let v47 : BitVec 1 := Scalar.cmpi .eq v2 c0_i32_42
  let c3_i32_43 : BitVec 32 := 3#32
  let v48 : BitVec 1 := Scalar.cmpi .eq v2 c3_i32_43
  let v49 : BitVec 1 := Scalar.ori v47 v48
  let c1_i32_44 : BitVec 32 := 1#32
  let c0_i32_45 : BitVec 32 := 0#32
  let v50 : BitVec 32 := Scalar.select v49 c1_i32_44 c0_i32_45
  let v465 : BitVec 32 := Scalar.subi c1_i32_411 v50
  let c1_i32_413 : BitVec 32 := 1#32
  let v467 : BitVec 1 := Scalar.cmpi .eq v465 c1_i32_413
  let v468 : BitVec 1 := Scalar.xori v466 v467
  let true_414 : BitVec 1 := 1#1
  let v469 : BitVec 1 := Scalar.xori v468 true_414
  let v470 : BitVec 32 := Scalar.extui v469
  let c0_i32_415 : BitVec 32 := 0#32
  let v471 : BitVec 1 := Scalar.cmpi .ne v470 c0_i32_415
  v471

def k0_off13 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c0_i32 : BitVec 32 := 0#32
  let v4 : BitVec 32 := Scalar.addi v3 c0_i32
  let c4_i32_1 : BitVec 32 := 4#32
  let v5 : BitVec 32 := Scalar.remsi v4 c4_i32_1
  let c0_i32_11 : BitVec 32 := 0#32
  let v19 : BitVec 1 := Scalar.cmpi .eq v5 c0_i32_11
  let c3_i32_12 : BitVec 32 := 3#32
  let v20 : BitVec 1 := Scalar.cmpi .eq v5 c3_i32_12
  let v21 : BitVec 1 := Scalar.ori v19 v20
  let c0_i32_13 : BitVec 32 := 0#32
  let c256_i32_14 : BitVec 32 := 256#32
  let v22 : BitVec 32 := Scalar.select v21 c0_i32_13 c256_i32_14
  let c1_i32_15 : BitVec 32 := 1#32
  let v23 : BitVec 1 := Scalar.cmpi .sle v5 c1_i32_15
  let c0_i32_16 : BitVec 32 := 0#32
  let c128_i32_17 : BitVec 32 := 128#32
  let v24 : BitVec 32 := Scalar.select v23 c0_i32_16 c128_i32_17
  let v25 : BitVec 32 := Scalar.addi v22 v24
  let v667 : Index := Scalar.indexCast v25
  let c0_556 : Index := 0#32
  ![v667.toNat, 0]
def k0_dev10 (d0 : Dev nD) : Nat :=
  let c0_i32_561 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c0_i32 : BitVec 32 := 0#32
  let v4 : BitVec 32 := Scalar.addi v3 c0_i32
  let c4_i32_1 : BitVec 32 := 4#32
  let v5 : BitVec 32 := Scalar.remsi v4 c4_i32_1
  let c1_i32_560 : BitVec 32 := 1#32
  let v673 : BitVec 32 := Scalar.muli v5 c1_i32_560
  let v674 : BitVec 32 := Scalar.addi c0_i32_561 v673
  v674.toNat
def k0_cond12 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v6 : BitVec 32 := Scalar.addi v2 c1_i32_2
  let c1_i32_3 : BitVec 32 := 1#32
  let v7 : BitVec 32 := Scalar.addi v6 c1_i32_3
  let c4_i32_4 : BitVec 32 := 4#32
  let v8 : BitVec 32 := Scalar.remsi v7 c4_i32_4
  let c0_i32_18 : BitVec 32 := 0#32
  let v26 : BitVec 1 := Scalar.cmpi .eq v8 c0_i32_18
  let c3_i32_19 : BitVec 32 := 3#32
  let v27 : BitVec 1 := Scalar.cmpi .eq v8 c3_i32_19
  let v28 : BitVec 1 := Scalar.ori v26 v27
  let c0_i32_20 : BitVec 32 := 0#32
  let c256_i32_21 : BitVec 32 := 256#32
  let v29 : BitVec 32 := Scalar.select v28 c0_i32_20 c256_i32_21
  let c1_i32_22 : BitVec 32 := 1#32
  let v30 : BitVec 1 := Scalar.cmpi .sle v8 c1_i32_22
  let c0_i32_23 : BitVec 32 := 0#32
  let c128_i32_24 : BitVec 32 := 128#32
  let v31 : BitVec 32 := Scalar.select v30 c0_i32_23 c128_i32_24
  let v32 : BitVec 32 := Scalar.addi v29 v31
  let c256_i32_416 : BitVec 32 := 256#32
  let v472 : BitVec 1 := Scalar.cmpi .sge v32 c256_i32_416
  let c1_i32_411 : BitVec 32 := 1#32
  let c0_i32_42 : BitVec 32 := 0#32
  let v47 : BitVec 1 := Scalar.cmpi .eq v2 c0_i32_42
  let c3_i32_43 : BitVec 32 := 3#32
  let v48 : BitVec 1 := Scalar.cmpi .eq v2 c3_i32_43
  let v49 : BitVec 1 := Scalar.ori v47 v48
  let c1_i32_44 : BitVec 32 := 1#32
  let c0_i32_45 : BitVec 32 := 0#32
  let v50 : BitVec 32 := Scalar.select v49 c1_i32_44 c0_i32_45
  let v465 : BitVec 32 := Scalar.subi c1_i32_411 v50
  let c1_i32_417 : BitVec 32 := 1#32
  let v473 : BitVec 1 := Scalar.cmpi .eq v465 c1_i32_417
  let v474 : BitVec 1 := Scalar.xori v472 v473
  let true_418 : BitVec 1 := 1#1
  let v475 : BitVec 1 := Scalar.xori v474 true_418
  let v476 : BitVec 32 := Scalar.extui v475
  let c0_i32_419 : BitVec 32 := 0#32
  let v477 : BitVec 1 := Scalar.cmpi .ne v476 c0_i32_419
  v477

def k0_off14 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v6 : BitVec 32 := Scalar.addi v2 c1_i32_2
  let c1_i32_3 : BitVec 32 := 1#32
  let v7 : BitVec 32 := Scalar.addi v6 c1_i32_3
  let c4_i32_4 : BitVec 32 := 4#32
  let v8 : BitVec 32 := Scalar.remsi v7 c4_i32_4
  let c0_i32_18 : BitVec 32 := 0#32
  let v26 : BitVec 1 := Scalar.cmpi .eq v8 c0_i32_18
  let c3_i32_19 : BitVec 32 := 3#32
  let v27 : BitVec 1 := Scalar.cmpi .eq v8 c3_i32_19
  let v28 : BitVec 1 := Scalar.ori v26 v27
  let c0_i32_20 : BitVec 32 := 0#32
  let c256_i32_21 : BitVec 32 := 256#32
  let v29 : BitVec 32 := Scalar.select v28 c0_i32_20 c256_i32_21
  let c1_i32_22 : BitVec 32 := 1#32
  let v30 : BitVec 1 := Scalar.cmpi .sle v8 c1_i32_22
  let c0_i32_23 : BitVec 32 := 0#32
  let c128_i32_24 : BitVec 32 := 128#32
  let v31 : BitVec 32 := Scalar.select v30 c0_i32_23 c128_i32_24
  let v32 : BitVec 32 := Scalar.addi v29 v31
  let v667 : Index := Scalar.indexCast v32
  let c0_556 : Index := 0#32
  ![v667.toNat, 0]
def k0_dev11 (d0 : Dev nD) : Nat :=
  let c0_i32_561 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v6 : BitVec 32 := Scalar.addi v2 c1_i32_2
  let c1_i32_3 : BitVec 32 := 1#32
  let v7 : BitVec 32 := Scalar.addi v6 c1_i32_3
  let c4_i32_4 : BitVec 32 := 4#32
  let v8 : BitVec 32 := Scalar.remsi v7 c4_i32_4
  let c1_i32_560 : BitVec 32 := 1#32
  let v673 : BitVec 32 := Scalar.muli v8 c1_i32_560
  let v674 : BitVec 32 := Scalar.addi c0_i32_561 v673
  v674.toNat
def k0_cond13 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_5 : BitVec 32 := 1#32
  let v9 : BitVec 32 := Scalar.addi v2 c1_i32_5
  let c2_i32 : BitVec 32 := 2#32
  let v10 : BitVec 32 := Scalar.addi v9 c2_i32
  let c4_i32_6 : BitVec 32 := 4#32
  let v11 : BitVec 32 := Scalar.remsi v10 c4_i32_6
  let c0_i32_25 : BitVec 32 := 0#32
  let v33 : BitVec 1 := Scalar.cmpi .eq v11 c0_i32_25
  let c3_i32_26 : BitVec 32 := 3#32
  let v34 : BitVec 1 := Scalar.cmpi .eq v11 c3_i32_26
  let v35 : BitVec 1 := Scalar.ori v33 v34
  let c0_i32_27 : BitVec 32 := 0#32
  let c256_i32_28 : BitVec 32 := 256#32
  let v36 : BitVec 32 := Scalar.select v35 c0_i32_27 c256_i32_28
  let c1_i32_29 : BitVec 32 := 1#32
  let v37 : BitVec 1 := Scalar.cmpi .sle v11 c1_i32_29
  let c0_i32_30 : BitVec 32 := 0#32
  let c128_i32_31 : BitVec 32 := 128#32
  let v38 : BitVec 32 := Scalar.select v37 c0_i32_30 c128_i32_31
  let v39 : BitVec 32 := Scalar.addi v36 v38
  let c256_i32_420 : BitVec 32 := 256#32
  let v478 : BitVec 1 := Scalar.cmpi .sge v39 c256_i32_420
  let c1_i32_411 : BitVec 32 := 1#32
  let c0_i32_42 : BitVec 32 := 0#32
  let v47 : BitVec 1 := Scalar.cmpi .eq v2 c0_i32_42
  let c3_i32_43 : BitVec 32 := 3#32
  let v48 : BitVec 1 := Scalar.cmpi .eq v2 c3_i32_43
  let v49 : BitVec 1 := Scalar.ori v47 v48
  let c1_i32_44 : BitVec 32 := 1#32
  let c0_i32_45 : BitVec 32 := 0#32
  let v50 : BitVec 32 := Scalar.select v49 c1_i32_44 c0_i32_45
  let v465 : BitVec 32 := Scalar.subi c1_i32_411 v50
  let c1_i32_421 : BitVec 32 := 1#32
  let v479 : BitVec 1 := Scalar.cmpi .eq v465 c1_i32_421
  let v480 : BitVec 1 := Scalar.xori v478 v479
  let true_422 : BitVec 1 := 1#1
  let v481 : BitVec 1 := Scalar.xori v480 true_422
  let v482 : BitVec 32 := Scalar.extui v481
  let c0_i32_423 : BitVec 32 := 0#32
  let v483 : BitVec 1 := Scalar.cmpi .ne v482 c0_i32_423
  v483

def k0_off15 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_5 : BitVec 32 := 1#32
  let v9 : BitVec 32 := Scalar.addi v2 c1_i32_5
  let c2_i32 : BitVec 32 := 2#32
  let v10 : BitVec 32 := Scalar.addi v9 c2_i32
  let c4_i32_6 : BitVec 32 := 4#32
  let v11 : BitVec 32 := Scalar.remsi v10 c4_i32_6
  let c0_i32_25 : BitVec 32 := 0#32
  let v33 : BitVec 1 := Scalar.cmpi .eq v11 c0_i32_25
  let c3_i32_26 : BitVec 32 := 3#32
  let v34 : BitVec 1 := Scalar.cmpi .eq v11 c3_i32_26
  let v35 : BitVec 1 := Scalar.ori v33 v34
  let c0_i32_27 : BitVec 32 := 0#32
  let c256_i32_28 : BitVec 32 := 256#32
  let v36 : BitVec 32 := Scalar.select v35 c0_i32_27 c256_i32_28
  let c1_i32_29 : BitVec 32 := 1#32
  let v37 : BitVec 1 := Scalar.cmpi .sle v11 c1_i32_29
  let c0_i32_30 : BitVec 32 := 0#32
  let c128_i32_31 : BitVec 32 := 128#32
  let v38 : BitVec 32 := Scalar.select v37 c0_i32_30 c128_i32_31
  let v39 : BitVec 32 := Scalar.addi v36 v38
  let v667 : Index := Scalar.indexCast v39
  let c0_556 : Index := 0#32
  ![v667.toNat, 0]
def k0_dev12 (d0 : Dev nD) : Nat :=
  let c0_i32_561 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_5 : BitVec 32 := 1#32
  let v9 : BitVec 32 := Scalar.addi v2 c1_i32_5
  let c2_i32 : BitVec 32 := 2#32
  let v10 : BitVec 32 := Scalar.addi v9 c2_i32
  let c4_i32_6 : BitVec 32 := 4#32
  let v11 : BitVec 32 := Scalar.remsi v10 c4_i32_6
  let c1_i32_560 : BitVec 32 := 1#32
  let v673 : BitVec 32 := Scalar.muli v11 c1_i32_560
  let v674 : BitVec 32 := Scalar.addi c0_i32_561 v673
  v674.toNat
def k0_off16 (d0 : Dev nD) : Fin 3 → Nat :=
  let c1_425 : Index := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_7 : BitVec 32 := 0#32
  let v12 : BitVec 1 := Scalar.cmpi .eq v2 c0_i32_7
  let c3_i32 : BitVec 32 := 3#32
  let v13 : BitVec 1 := Scalar.cmpi .eq v2 c3_i32
  let v14 : BitVec 1 := Scalar.ori v12 v13
  let c0_i32_8 : BitVec 32 := 0#32
  let c256_i32 : BitVec 32 := 256#32
  let v15 : BitVec 32 := Scalar.select v14 c0_i32_8 c256_i32
  let c1_i32_9 : BitVec 32 := 1#32
  let v16 : BitVec 1 := Scalar.cmpi .sle v2 c1_i32_9
  let c0_i32_10 : BitVec 32 := 0#32
  let c128_i32 : BitVec 32 := 128#32
  let v17 : BitVec 32 := Scalar.select v16 c0_i32_10 c128_i32
  let v18 : BitVec 32 := Scalar.addi v15 v17
  let c256_i32_424 : BitVec 32 := 256#32
  let v484 : BitVec 32 := Scalar.subi v18 c256_i32_424
  let v485 : Index := Scalar.indexCast v484
  let c0_426 : Index := 0#32
  ![1, v485.toNat, 0]
def k0_off17 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_7 : BitVec 32 := 0#32
  let v12 : BitVec 1 := Scalar.cmpi .eq v2 c0_i32_7
  let c3_i32 : BitVec 32 := 3#32
  let v13 : BitVec 1 := Scalar.cmpi .eq v2 c3_i32
  let v14 : BitVec 1 := Scalar.ori v12 v13
  let c0_i32_8 : BitVec 32 := 0#32
  let c256_i32 : BitVec 32 := 256#32
  let v15 : BitVec 32 := Scalar.select v14 c0_i32_8 c256_i32
  let c1_i32_9 : BitVec 32 := 1#32
  let v16 : BitVec 1 := Scalar.cmpi .sle v2 c1_i32_9
  let c0_i32_10 : BitVec 32 := 0#32
  let c128_i32 : BitVec 32 := 128#32
  let v17 : BitVec 32 := Scalar.select v16 c0_i32_10 c128_i32
  let v18 : BitVec 32 := Scalar.addi v15 v17
  let v663 : Index := Scalar.indexCast v18
  let c0_555 : Index := 0#32
  ![v663.toNat, 0]
def k0_off18 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_7 : BitVec 32 := 0#32
  let v12 : BitVec 1 := Scalar.cmpi .eq v2 c0_i32_7
  let c3_i32 : BitVec 32 := 3#32
  let v13 : BitVec 1 := Scalar.cmpi .eq v2 c3_i32
  let v14 : BitVec 1 := Scalar.ori v12 v13
  let c0_i32_8 : BitVec 32 := 0#32
  let c256_i32 : BitVec 32 := 256#32
  let v15 : BitVec 32 := Scalar.select v14 c0_i32_8 c256_i32
  let c1_i32_9 : BitVec 32 := 1#32
  let v16 : BitVec 1 := Scalar.cmpi .sle v2 c1_i32_9
  let c0_i32_10 : BitVec 32 := 0#32
  let c128_i32 : BitVec 32 := 128#32
  let v17 : BitVec 32 := Scalar.select v16 c0_i32_10 c128_i32
  let v18 : BitVec 32 := Scalar.addi v15 v17
  let v87 : Index := Scalar.indexCast v18
  let c0 : Index := 0#32
  ![v87.toNat, 0]
def k0_dev13 (d0 : Dev nD) : Nat :=
  let c0_i32_149 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c0_i32 : BitVec 32 := 0#32
  let v4 : BitVec 32 := Scalar.addi v3 c0_i32
  let c4_i32_1 : BitVec 32 := 4#32
  let v5 : BitVec 32 := Scalar.remsi v4 c4_i32_1
  let c1_i32_148 : BitVec 32 := 1#32
  let v139 : BitVec 32 := Scalar.muli v5 c1_i32_148
  let v140 : BitVec 32 := Scalar.addi c0_i32_149 v139
  v140.toNat
def k0_dev14 (d0 : Dev nD) : Nat :=
  let c0_i32_156 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v6 : BitVec 32 := Scalar.addi v2 c1_i32_2
  let c1_i32_3 : BitVec 32 := 1#32
  let v7 : BitVec 32 := Scalar.addi v6 c1_i32_3
  let c4_i32_4 : BitVec 32 := 4#32
  let v8 : BitVec 32 := Scalar.remsi v7 c4_i32_4
  let c1_i32_155 : BitVec 32 := 1#32
  let v147 : BitVec 32 := Scalar.muli v8 c1_i32_155
  let v148 : BitVec 32 := Scalar.addi c0_i32_156 v147
  v148.toNat
def k0_dev15 (d0 : Dev nD) : Nat :=
  let c0_i32_163 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_5 : BitVec 32 := 1#32
  let v9 : BitVec 32 := Scalar.addi v2 c1_i32_5
  let c2_i32 : BitVec 32 := 2#32
  let v10 : BitVec 32 := Scalar.addi v9 c2_i32
  let c4_i32_6 : BitVec 32 := 4#32
  let v11 : BitVec 32 := Scalar.remsi v10 c4_i32_6
  let c1_i32_162 : BitVec 32 := 1#32
  let v155 : BitVec 32 := Scalar.muli v11 c1_i32_162
  let v156 : BitVec 32 := Scalar.addi c0_i32_163 v155
  v156.toNat
def k0_off19 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_7 : BitVec 32 := 0#32
  let v12 : BitVec 1 := Scalar.cmpi .eq v2 c0_i32_7
  let c3_i32 : BitVec 32 := 3#32
  let v13 : BitVec 1 := Scalar.cmpi .eq v2 c3_i32
  let v14 : BitVec 1 := Scalar.ori v12 v13
  let c0_i32_8 : BitVec 32 := 0#32
  let c256_i32 : BitVec 32 := 256#32
  let v15 : BitVec 32 := Scalar.select v14 c0_i32_8 c256_i32
  let c1_i32_9 : BitVec 32 := 1#32
  let v16 : BitVec 1 := Scalar.cmpi .sle v2 c1_i32_9
  let c0_i32_10 : BitVec 32 := 0#32
  let c128_i32 : BitVec 32 := 128#32
  let v17 : BitVec 32 := Scalar.select v16 c0_i32_10 c128_i32
  let v18 : BitVec 32 := Scalar.addi v15 v17
  let c256_i32_167 : BitVec 32 := 256#32
  let v165 : BitVec 1 := Scalar.cmpi .sge v18 c256_i32_167
  let c1_i32_168 : BitVec 32 := 1#32
  let c0_i32_169 : BitVec 32 := 0#32
  let v166 : BitVec 32 := Scalar.select v165 c1_i32_168 c0_i32_169
  let v170 : Index := Scalar.indexCast v166
  let c256_i32_170 : BitVec 32 := 256#32
  let v167 : BitVec 32 := Scalar.muli v166 c256_i32_170
  let v168 : BitVec 32 := Scalar.subi v18 v167
  let v171 : Index := Scalar.indexCast v168
  let c0_171 : Index := 0#32
  ![v170.toNat, v171.toNat, 0]
def k0_off20 (d0 : Dev nD) (c0_i32 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let v4 : BitVec 32 := Scalar.addi v3 c0_i32
  let c4_i32_1 : BitVec 32 := 4#32
  let v5 : BitVec 32 := Scalar.remsi v4 c4_i32_1
  let c0_i32_182 : BitVec 32 := 0#32
  let v181 : BitVec 1 := Scalar.cmpi .eq v5 c0_i32_182
  let c3_i32_183 : BitVec 32 := 3#32
  let v182 : BitVec 1 := Scalar.cmpi .eq v5 c3_i32_183
  let v183 : BitVec 1 := Scalar.ori v181 v182
  let c0_i32_184 : BitVec 32 := 0#32
  let c256_i32_185 : BitVec 32 := 256#32
  let v184 : BitVec 32 := Scalar.select v183 c0_i32_184 c256_i32_185
  let c1_i32_186 : BitVec 32 := 1#32
  let v185 : BitVec 1 := Scalar.cmpi .sle v5 c1_i32_186
  let c0_i32_187 : BitVec 32 := 0#32
  let c128_i32_188 : BitVec 32 := 128#32
  let v186 : BitVec 32 := Scalar.select v185 c0_i32_187 c128_i32_188
  let v187 : BitVec 32 := Scalar.addi v184 v186
  let c256_i32_192 : BitVec 32 := 256#32
  let v191 : BitVec 1 := Scalar.cmpi .sge v187 c256_i32_192
  let c1_i32_193 : BitVec 32 := 1#32
  let c0_i32_194 : BitVec 32 := 0#32
  let v192 : BitVec 32 := Scalar.select v191 c1_i32_193 c0_i32_194
  let v196 : Index := Scalar.indexCast v192
  let c256_i32_195 : BitVec 32 := 256#32
  let v193 : BitVec 32 := Scalar.muli v192 c256_i32_195
  let v194 : BitVec 32 := Scalar.subi v187 v193
  let v197 : Index := Scalar.indexCast v194
  let c0_196 : Index := 0#32
  ![v196.toNat, v197.toNat, 0]
abbrev stage0_0 : Fin 1 → Memref sig .tc .vmem S2x256x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x8x64x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x8x512x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x256x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x256x768 : Shape := ⟨3, ![2, 256, 768]⟩
abbrev S768x2048 : Shape := ⟨2, ![768, 2048]⟩
abbrev S2x512x32x64 : Shape := ⟨4, ![2, 512, 32, 64]⟩
abbrev S2048x768 : Shape := ⟨2, ![2048, 768]⟩
abbrev S2x256x2048 : Shape := ⟨3, ![2, 256, 2048]⟩
abbrev S2x256x32x64 : Shape := ⟨4, ![2, 256, 32, 64]⟩
abbrev S_ : Shape := ⟨0, ![]⟩
abbrev S2x32x256x1 : Shape := ⟨4, ![2, 32, 256, 1]⟩
abbrev S2x32x256x512 : Shape := ⟨4, ![2, 32, 256, 512]⟩
abbrev S2x32x256 : Shape := ⟨3, ![2, 32, 256]⟩
abbrev S2x256x32x1 : Shape := ⟨4, ![2, 256, 32, 1]⟩
abbrev S2x32x64x256 : Shape := ⟨4, ![2, 32, 64, 256]⟩

abbrev nBuf : Space → Nat
  | .hbm => 42
  | .vmem => 0
  | .smem => 0
  | _ => 0

abbrev bufTy : (tb : Table) → Fin (tcTables nBuf tb) → BufTy
  | .hbm, ⟨0, _⟩ => ⟨S2x256x768, .f32⟩
  | .hbm, ⟨1, _⟩ => ⟨S768x2048, .f32⟩
  | .hbm, ⟨2, _⟩ => ⟨S2x512x32x64, .f32⟩
  | .hbm, ⟨3, _⟩ => ⟨S2x512x32x64, .f32⟩
  | .hbm, ⟨4, _⟩ => ⟨S2048x768, .f32⟩
  | .hbm, ⟨5, _⟩ => ⟨S2x256x2048, .f32⟩
  | .hbm, ⟨6, _⟩ => ⟨S2x256x32x64, .f32⟩
  | .hbm, ⟨7, _⟩ => ⟨S_, .f32⟩
  | .hbm, ⟨8, _⟩ => ⟨S2x256x32x64, .f32⟩
  | .hbm, ⟨9, _⟩ => ⟨S_, .f32⟩
  | .hbm, ⟨10, _⟩ => ⟨S2x32x256x1, .f32⟩
  | .hbm, ⟨11, _⟩ => ⟨S_, .f32⟩
  | .hbm, ⟨12, _⟩ => ⟨S2x32x256x1, .f32⟩
  | .hbm, ⟨13, _⟩ => ⟨S2x32x256x512, .f32⟩
  | .hbm, ⟨14, _⟩ => ⟨S_, .f32⟩
  | .hbm, ⟨15, _⟩ => ⟨S2x32x256x512, .f32⟩
  | .hbm, ⟨16, _⟩ => ⟨S2x32x256x512, .f32⟩
  | .hbm, ⟨17, _⟩ => ⟨S_, .f32⟩
  | .hbm, ⟨18, _⟩ => ⟨S2x32x256, .f32⟩
  | .hbm, ⟨19, _⟩ => ⟨S2x32x256x1, .f32⟩
  | .hbm, ⟨20, _⟩ => ⟨S2x32x256x1, .f32⟩
  | .hbm, ⟨21, _⟩ => ⟨S2x32x256x1, .f32⟩
  | .hbm, ⟨22, _⟩ => ⟨S2x32x256x1, .f32⟩
  | .hbm, ⟨23, _⟩ => ⟨S2x32x256x512, .f32⟩
  | .hbm, ⟨24, _⟩ => ⟨S2x32x256x512, .f32⟩
  | .hbm, ⟨25, _⟩ => ⟨S2x32x256x512, .f32⟩
  | .hbm, ⟨26, _⟩ => ⟨S2x32x256x1, .f32⟩
  | .hbm, ⟨27, _⟩ => ⟨S_, .f32⟩
  | .hbm, ⟨28, _⟩ => ⟨S2x32x256, .f32⟩
  | .hbm, ⟨29, _⟩ => ⟨S2x32x256x1, .f32⟩
  | .hbm, ⟨30, _⟩ => ⟨S2x32x256x1, .f32⟩
  | .hbm, ⟨31, _⟩ => ⟨S2x256x32x1, .f32⟩
  | .hbm, ⟨32, _⟩ => ⟨S2x256x32x64, .f32⟩
  | .hbm, ⟨33, _⟩ => ⟨S2x256x32x64, .f32⟩
  | .hbm, ⟨34, _⟩ => ⟨S2x32x64x256, .f32⟩
  | .hbm, ⟨35, _⟩ => ⟨S2x256x32x64, .f32⟩
  | .hbm, ⟨36, _⟩ => ⟨S2x256x32x64, .f32⟩
  | .hbm, ⟨37, _⟩ => ⟨S2x256x32x1, .f32⟩
  | .hbm, ⟨38, _⟩ => ⟨S2x256x32x64, .f32⟩
  | .hbm, ⟨39, _⟩ => ⟨S2x256x32x64, .f32⟩
  | .hbm, ⟨40, _⟩ => ⟨S2x256x2048, .f32⟩
  | .hbm, ⟨41, _⟩ => ⟨S2x256x768, .f32⟩
  | _, _ => ⟨S2x256x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_cst_3 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]
-- ==== Proof.Values.lean ====
/-
  What the kernel computes, as functions of the five arrays each device is given.

  Four devices; device `c` holds eight of the 32 heads. The 512 rows (2 batches of 256) are cut into four quarters of
  128 rows, one owned by each device. Every device computes its share of all 512 rows: the 256 rows of one batch at once
  (`batchV`), the two quarters of the other batch one by one (`quarterV`). `blk c d` is device `c`'s share of device
  `d`'s quarter, `sent c d` what it sends of it, `red c` the quarter device `c` sums up, `gat c` what it sends of that,
  and `outV c` the result device `c` writes.
-/
module

public import proofs.«01_k».proof.Proof.Gen.KernelIdeal.Skeleton
public import Idealize.ShloMosaic.Lib.Tactic

@[expose] public section

noncomputable section

namespace Cert.KernelIdeal.Hand

open Cert.KernelIdeal Cert.KernelIdeal.Gen
open Idealize.ShloMosaic

variable {F : FTy → Type} [FloatOps F]

/-! ## The devices -/

/-- The peer device `c` writes to with index `r`: `c + 1 + r`. It is also the device that writes slot `r` of `c`. -/
def peer (c : Dev nD) (r : Fin 3) : Dev nD := ⟨(c.val + 1 + r.val) % 4, Nat.mod_lt _ (by decide)⟩

/-- The peer that writes slot `r` of a device is the one for which that device has the mirrored index. -/
theorem peer_peer (c : Dev nD) (r : Fin 3) : peer (peer c r) r.rev = c := by revert c r; decide

/-- The batch of the quarter device `d` owns. -/
def bt (d : Dev nD) : Fin 2 := if d = 0 ∨ d = 3 then 0 else 1
/-- The first row, within its batch, of the quarter device `d` owns. -/
def rw0 (d : Dev nD) : Fin 2 := if d = 0 ∨ d = 1 then 0 else 1
/-- The first row, of all 512, of the quarter device `d` owns. -/
def qk (d : Dev nD) : ℕ := 256 * (bt d).val + 128 * (rw0 d).val

/-! ## The inputs and their blocks -/

/-- What a device is given: the activations, its columns of the query weights, its rows of the output weights, its
    heads' keys (transposed) and values. -/
structure Inp (F : FTy → Type) [FloatOps F] where
  x : Vec F S2x256x768 .f32
  wq : Vec F S768x512 .f32
  wo : Vec F S512x768 .f32
  k : Vec F S2x8x64x512 .f32
  v : Vec F S2x8x512x64 .f32

/-- A block of an array: the elements of a rectangle. -/
abbrev ld {s : Shape} {α : Type} (r : Rect s) (f : s.Idx → α) : r.shape.Idx → α := fun i => f (r.emb i)

/-- A head's keys lie within the keys. -/
theorem inb_k (b : Fin 2) (h : Fin 8) : ∀ a, (![b.val, h.val, 0, 0] : Fin 4 → ℕ) a + S1x1x64x512.size a ≤ S2x8x64x512.size a := by
  intro a; have := b.isLt; have := h.isLt; fin_cases a <;> simp [S1x1x64x512, S2x8x64x512] <;> omega
/-- A head's values lie within the values. -/
theorem inb_v (b : Fin 2) (h : Fin 8) : ∀ a, (![b.val, h.val, 0, 0] : Fin 4 → ℕ) a + S1x1x512x64.size a ≤ S2x8x512x64.size a := by
  intro a; have := b.isLt; have := h.isLt; fin_cases a <;> simp [S1x1x512x64, S2x8x512x64] <;> omega
/-- A batch's activations lie within the activations. -/
theorem inb_x (b : Fin 2) : ∀ a, (![b.val, 0, 0] : Fin 3 → ℕ) a + S1x256x768.size a ≤ S2x256x768.size a := by
  intro a; have := b.isLt; fin_cases a <;> simp [S1x256x768, S2x256x768] <;> omega
/-- A quarter's activations lie within the activations. -/
theorem inb_xq (b r : Fin 2) : ∀ a, (![b.val, 128 * r.val, 0] : Fin 3 → ℕ) a + S1x128x768.size a ≤ S2x256x768.size a := by
  intro a; have := b.isLt; have := r.isLt; fin_cases a <;> simp [S1x128x768, S2x256x768] <;> omega

/-- The query weights and the output weights, whole. -/
def wqAt (f : Vec F S768x512 .f32) : Vec F S768x512 .f32 :=
  ld (Rect.unit (s := S768x512) ![0, 0] S768x512.size inb_S768x512_S768x512_0_0) f
/-- The output weights, whole. -/
def woAt (f : Vec F S512x768 .f32) : Vec F S512x768 .f32 :=
  ld (Rect.unit (s := S512x768) ![0, 0] S512x768.size inb_S512x768_S512x768_0_0) f

/-- Head `h`'s keys in batch `b`. -/
def kAt (f : Vec F S2x8x64x512 .f32) (b : Fin 2) (h : Fin 8) : Vec F S1x1x64x512 .f32 :=
  ld (Rect.unit (s := S2x8x64x512) ![b.val, h.val, 0, 0] S1x1x64x512.size (inb_k b h)) f
/-- Head `h`'s values in batch `b`. -/
def vAt (f : Vec F S2x8x512x64 .f32) (b : Fin 2) (h : Fin 8) : Vec F S1x1x512x64 .f32 :=
  ld (Rect.unit (s := S2x8x512x64) ![b.val, h.val, 0, 0] S1x1x512x64.size (inb_v b h)) f
/-- Batch `b`'s activations. -/
def xAt (f : Vec F S2x256x768 .f32) (b : Fin 2) : Vec F S1x256x768 .f32 :=
  ld (Rect.unit (s := S2x256x768) ![b.val, 0, 0] S1x256x768.size (inb_x b)) f
/-- A quarter's activations: batch `b`, rows from `128 r`. -/
def xqAt (f : Vec F S2x256x768 .f32) (b r : Fin 2) : Vec F S1x128x768 .f32 :=
  ld (Rect.unit (s := S2x256x768) ![b.val, 128 * r.val, 0] S1x128x768.size (inb_xq b r)) f

/-! ## The heads' outputs, side by side -/

/-- A head's columns of a batch's queries. -/
theorem slices256 (h : Fin 8) : S256x512.Slices ![0, 64 * h.val] S256x64 := by revert h; decide
/-- A head's columns of a quarter's queries. -/
theorem slices128 (h : Fin 8) : S128x512.Slices ![0, 64 * h.val] S128x64 := by revert h; decide

/-- Head `h` on the 256 rows of a batch. -/
def head256 (Q : FVec F S256x512 .f32) (K : Fin 8 → Vec F S1x1x64x512 .f32) (V : Fin 8 → Vec F S1x1x512x64 .f32) (h : Fin 8) :
    FVec F S256x64 .f32 :=
  k0_pay5 (extractStridedSlice S256x64 ![0, 64 * h.val] Q (slices256 h)) (k0_pay4 (K h)) (V h)
/-- Head `h` on the 128 rows of a quarter. -/
def head128 (Q : FVec F S128x512 .f32) (K : Fin 8 → Vec F S1x1x64x512 .f32) (V : Fin 8 → Vec F S1x1x512x64 .f32) (h : Fin 8) :
    FVec F S128x64 .f32 :=
  k0_pay43 (extractStridedSlice S128x64 ![0, 64 * h.val] Q (slices128 h)) (k0_pay42 (K h)) (V h)

/-- The eight heads' outputs side by side: column `64 h + j` is head `h`'s column `j`. -/
def cols256 (P : Fin 8 → FVec F S256x64 .f32) : FVec F S256x512 .f32 := fun y =>
  P ⟨(y 1).val / 64, by have : (y 1).val < 512 := (y 1).isLt; omega⟩ (fun a => match a with
    | ⟨0, _⟩ => (y 0 : Fin 256)
    | ⟨1, _⟩ => (⟨(y 1).val % 64, Nat.mod_lt _ (by decide)⟩ : Fin 64))
/-- The same for the rows of a quarter. -/
def cols128 (P : Fin 8 → FVec F S128x64 .f32) : FVec F S128x512 .f32 := fun y =>
  P ⟨(y 1).val / 64, by have : (y 1).val < 512 := (y 1).isLt; omega⟩ (fun a => match a with
    | ⟨0, _⟩ => (y 0 : Fin 128)
    | ⟨1, _⟩ => (⟨(y 1).val % 64, Nat.mod_lt _ (by decide)⟩ : Fin 64))

/-- A device's share of batch `b`: its heads' outputs through its rows of the output weights. -/
def batchV (I : Inp F) (b : Fin 2) : FVec F S256x768 .f32 :=
  k0_pay120 (cols256 (head256 (k0_pay1 (xAt I.x b) (wqAt I.wq)) (kAt I.k b) (vAt I.v b))) (woAt I.wo)
/-- A device's share of one quarter of batch `b`. -/
def quarterV (I : Inp F) (b r : Fin 2) : FVec F S128x768 .f32 :=
  k0_pay58 (cols128 (head128 (k0_pay39 (xqAt I.x b r) (wqAt I.wq)) (kAt I.k b) (vAt I.v b))) (woAt I.wo)

/-! ## The exchange -/

/-- A half of a batch lies within it. -/
theorem inb_half (r : Fin 2) : ∀ a, (![128 * r.val, 0] : Fin 2 → ℕ) a + S128x768.size a ≤ S256x768.size a := by
  intro a; have := r.isLt; fin_cases a <;> simp [S128x768, S256x768] <;> omega

/-- Device `c`'s share of device `d`'s quarter: computed by itself when the quarter is in the batch of `c`'s own quarter,
    half of the batch otherwise. -/
def blk (I : Dev nD → Inp F) (c d : Dev nD) : FVec F S128x768 .f32 :=
  if bt d = bt c then quarterV (I c) (bt d) (rw0 d)
  else ld (Rect.unit (s := S256x768) ![128 * (rw0 d).val, 0] S128x768.size (inb_half (rw0 d))) (batchV (I c) (bt d))

/-- What device `c` sends to device `d`: its share of `d`'s quarter, narrowed. -/
def sent (I : Dev nD → Inp F) (c d : Dev nD) : FVec F S128x768 .bf16 := truncf .bf16 (blk I c d) bitsLt_bf16_f32

/-- A quarter plus what one peer sent. -/
def plus (a : FVec F S128x768 .f32) (s : FVec F S128x768 .bf16) : FVec F S128x768 .f32 := addf a (extf .f32 s bitsLt_bf16_f32)

/-- Device `c`'s quarter, summed over the four devices: its own share, then the peers' in the order of the slots. -/
def red (I : Dev nD → Inp F) (c : Dev nD) : FVec F S128x768 .f32 :=
  plus (plus (plus (blk I c c) (sent I (peer c 0) c)) (sent I (peer c 1) c)) (sent I (peer c 2) c)

/-- What device `c` sends of its summed quarter. -/
def gat (I : Dev nD → Inp F) (c : Dev nD) : FVec F S128x768 .bf16 := truncf .bf16 (red I c) bitsLt_bf16_f32

/-- What device `c` writes in device `d`'s quarter of the result: its own summed quarter, or what `d` sent of its. -/
def piece (I : Dev nD → Inp F) (c d : Dev nD) : FVec F S128x768 .f32 :=
  if d = c then red I c else extf .f32 (gat I d) bitsLt_bf16_f32

/-- The device that owns a row of the result: the first row half of batch 0 is device 0's, the second device 3's, of
    batch 1 device 1's and device 2's. -/
def owner (b r : Fin 2) : Dev nD := if b = 0 then (if r = 0 then 0 else 3) else (if r = 0 then 1 else 2)

/-- The result device `c` writes. -/
def outV (I : Dev nD → Inp F) (c : Dev nD) : Vec F S2x256x768 .f32 := fun y =>
  piece I c (owner (y 0) ⟨(y 1).val / 128, by have : (y 1).val < 256 := (y 1).isLt; omega⟩) (fun a => match a with
    | ⟨0, _⟩ => (⟨(y 1).val % 128, Nat.mod_lt _ (by decide)⟩ : Fin 128)
    | ⟨1, _⟩ => (y 2 : Fin 768))

end Cert.KernelIdeal.Hand
-- ==== Proof.Common.lean ====
/-
  The buffers, the semaphores' cells, the protocol's schedule, what each device owes at launch and the order in which the
  cells are waited for.

  Per device and per slot `r` of three: the barrier cell is signalled once by each peer, handing over that peer's two
  receive slots meant for this device; a share's receive cell hands over the slot at what the peer sent; a gathered
  quarter's receive cell likewise; each send cell hands the source back.
-/
module

public import proofs.«01_k».proof.Proof.Values
public import Idealize.ShloMosaic.Lib.Pipeline.RegionTalk
public import Idealize.ShloMosaic.Lib.Pipeline.Kit

@[expose] public section

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Ghost state: the pipeline's copy and the exchange protocol's, whose duties are numbered by slot -/

/-- The ghost state: the pipeline's, and the exchange protocol's. -/
abbrev UU : Type := URounds (GSem nD τ sig) Unit × URounds (GSem nD τ sig) (Fin 3)

local notation "𝕄" => MT nD τ sig Unit (Elt F) ℕ UU ℕ

/-- Where the pipeline's ghost state lies. -/
abbrev EP : Emb (URounds (GSem nD τ sig) Unit) (MT nD τ sig Unit (Elt F) ℕ UU ℕ) := Idealize.ShloMosaic.embL
/-- Where the exchange protocol's ghost state lies. -/
abbrev ER : Emb (URounds (GSem nD τ sig) (Fin 3)) (MT nD τ sig Unit (Elt F) ℕ UU ℕ) := Idealize.ShloMosaic.embR

/-! ## Buffers -/

/-- The activations. -/
abbrev A0 : Memref sig .tc .vmem S2x256x768 .f32 := Memref.whole cc0_stg0_0
/-- The query weights. -/
abbrev A1 : Memref sig .tc .vmem S768x512 .f32 := Memref.whole cc0_stg1_0
/-- The output weights. -/
abbrev A2 : Memref sig .tc .vmem S512x768 .f32 := Memref.whole cc0_stg2_0
/-- The keys. -/
abbrev A3 : Memref sig .tc .vmem S2x8x64x512 .f32 := Memref.whole cc0_stg3_0
/-- The values. -/
abbrev A4 : Memref sig .tc .vmem S2x8x512x64 .f32 := Memref.whole cc0_stg4_0
/-- The result. -/
abbrev A5 : Memref sig .tc .vmem S2x256x768 .f32 := Memref.whole cc0_stg5_0
/-- The accumulator of the shares, one quarter under the other. -/
abbrev A6 : Memref sig .tc .vmem S512x768 .f32 := Memref.whole cc0_scratch0
/-- The heads' outputs, side by side. -/
abbrev A7 : Memref sig .tc .vmem S256x512 .f32 := Memref.whole cc0_scratch1
/-- The narrowed shares, as they are sent. -/
abbrev A8 : Memref sig .tc .vmem S3x128x768 .bf16 := Memref.whole cc0_scratch2
/-- The shares, as they arrive. -/
abbrev A9 : Memref sig .tc .vmem S3x128x768 .bf16 := Memref.whole cc0_scratch3
/-- The narrowed summed quarter, as it is sent. -/
abbrev A10 : Memref sig .tc .vmem S128x768 .bf16 := Memref.whole cc0_scratch4
/-- The summed quarters, as they arrive. -/
abbrev A11 : Memref sig .tc .vmem S3x128x768 .bf16 := Memref.whole cc0_scratch5

/-- Contents of a buffer on device `c`, and its whole points-to. -/
abbrev Bf (c : Dev nD) {sp : Space} {S : Shape} {e : EltTy} (M : Memref sig .tc sp S e) : Type := Buf (Elt F) (M.view.loc (c : Thread nD τ))
/-- Buffer `M` of device `c`, owned whole, with contents `f`. -/
abbrev pt (c : Dev nD) {sp : Space} {S : Shape} {e : EltTy} (M : Memref sig .tc sp S e) (f : Bf (F := F) c M) : sProp 𝕄 :=
  M.view.loc (c : Thread nD τ) ↦{fullShare} f

/-- A slot lies within its buffer. -/
theorem slot_inb (k : Fin 3) : ∀ a, (![k.val, 0, 0] : Fin 3 → ℕ) a + S1x128x768.size a ≤ S3x128x768.size a := by
  revert k; decide

/-- Slot `k` of a buffer of three quarters. -/
abbrev slotR (k : Fin 3) : Rect S3x128x768 := Rect.unit (s := S3x128x768) ![k.val, 0, 0] S1x128x768.size (slot_inb k)
/-- Slot `k` of a buffer, as the memory a copy reads or writes. -/
abbrev slotM (M : Memref sig .tc .vmem S3x128x768 .bf16) (k : Fin 3) : Memref sig .tc .vmem S128x768 .bf16 :=
  (M.slice (slotR k) (fun _ => rfl)).squeeze S128x768 squeezes_S1x128x768_S128x768
/-- Slot `k` of a buffer of device `c`, owned. -/
abbrev slotPt (M : Memref sig .tc .vmem S3x128x768 .bf16) (k : Fin 3) (c : Dev nD) (f : Bf (F := F) c M) : sProp 𝕄 :=
  M.view.loc (c : Thread nD τ) ↦[(slotM M k).view.set]{fullShare} f

/-! ## Cells -/

/-- The semaphores of the shares' sends. -/
abbrev rsSendS (k : Fin 3) : DmaSem sig := ⟨6 + k.val, by have := k.isLt; show _ < 18; omega⟩
/-- The semaphores of the shares' arrivals. -/
abbrev rsRecvS (k : Fin 3) : DmaSem sig := ⟨9 + k.val, by have := k.isLt; show _ < 18; omega⟩
/-- The semaphores of the summed quarters' sends. -/
abbrev agSendS (k : Fin 3) : DmaSem sig := ⟨12 + k.val, by have := k.isLt; show _ < 18; omega⟩
/-- The semaphores of the summed quarters' arrivals. -/
abbrev agRecvS (k : Fin 3) : DmaSem sig := ⟨15 + k.val, by have := k.isLt; show _ < 18; omega⟩

/-- The barrier of device `c`. -/
abbrev barCell (c : Dev nD) : GSem nD τ sig := ((c : Thread nD τ), .reg barrier0)
/-- The cell of a share's send, on device `c`. -/
abbrev rsSend (c : Dev nD) (k : Fin 3) : GSem nD τ sig := ((c : Thread nD τ), .dma (rsSendS k))
/-- The cell of a share's arrival, on device `c`. -/
abbrev rsRecv (c : Dev nD) (k : Fin 3) : GSem nD τ sig := ((c : Thread nD τ), .dma (rsRecvS k))
/-- The cell of a summed quarter's send, on device `c`. -/
abbrev agSend (c : Dev nD) (k : Fin 3) : GSem nD τ sig := ((c : Thread nD τ), .dma (agSendS k))
/-- The cell of a summed quarter's arrival, on device `c`. -/
abbrev agRecv (c : Dev nD) (k : Fin 3) : GSem nD τ sig := ((c : Thread nD τ), .dma (agRecvS k))

/-- The credit of one quarter's copy. -/
abbrev N : ℕ := (slotM A9 0).view.dmaCredit
/-- A copy's credit is positive. -/
theorem N_pos : 0 < N := View.dmaCredit_pos _ (by decide)

/-! ## Payloads -/

/-- The three parts of the share of the gathered source. -/
def sh (r : Fin 3) : PosShare TreeShare := match r with
  | 0 => fullShare.left
  | 1 => fullShare.right.left
  | 2 => fullShare.right.right

/-- The barrier's unit with index `r`: the slots of peer `c + 1 + r` that device `c` writes. -/
def barPay (c : Dev nD) (r : Fin 3) : sProp 𝕄 :=
  iprop((∃ f, slotPt (F := F) A9 r.rev (peer c r) f) ∗ (∃ f, slotPt (F := F) A11 r.rev (peer c r) f)
    ∗ reached ER (rsRecv (peer c r) r.rev) 0 ∗ reached ER (agRecv (peer c r) r.rev) 0)

/-- A share that landed in slot `s` of device `c`. -/
def rsRecvPay (I : Dev nD → Inp F) (c : Dev nD) (s : Fin 3) : sProp 𝕄 :=
  iprop(∃ f, ⌜(slotM A9 s).view.read (Elt F) f = sent I (peer c s) c⌝ ∗ slotPt A9 s c f)
/-- A summed quarter that landed in slot `s` of device `c`. -/
def agRecvPay (I : Dev nD → Inp F) (c : Dev nD) (s : Fin 3) : sProp 𝕄 :=
  iprop(∃ f, ⌜(slotM A11 s).view.read (Elt F) f = gat I (peer c s)⌝ ∗ slotPt A11 s c f)
/-- A share that has been sent: its slot is the sender's again. -/
def rsSendPay (c : Dev nD) (r : Fin 3) : sProp 𝕄 := iprop(∃ f, slotPt (F := F) A8 r c f)

/-- The gathered source, at one of its three shares. -/
abbrev srcPt (I : Dev nD → Inp F) (c : Dev nD) (q : PosShare TreeShare) : sProp 𝕄 :=
  A10.view.loc (c : Thread nD τ) ↦[A10.view.set]{q} (gat I c : Bf (F := F) c A10)
/-- A summed quarter that has been sent: its share of the source is the sender's again. -/
def agSendPay (I : Dev nD → Inp F) (c : Dev nD) (r : Fin 3) : sProp 𝕄 := srcPt I c (sh r)

/-! ## The schedule: one round on every cell -/

/-- What a copy's cell hands over, by the semaphore's place. -/
def dmaPay (I : Dev nD → Inp F) (c : Dev nD) : DmaSem sig → sProp 𝕄
  | ⟨6, _⟩ => rsSendPay c 0 | ⟨7, _⟩ => rsSendPay c 1 | ⟨8, _⟩ => rsSendPay c 2
  | ⟨9, _⟩ => rsRecvPay I c 0 | ⟨10, _⟩ => rsRecvPay I c 1 | ⟨11, _⟩ => rsRecvPay I c 2
  | ⟨12, _⟩ => agSendPay I c 0 | ⟨13, _⟩ => agSendPay I c 1 | ⟨14, _⟩ => agSendPay I c 2
  | ⟨15, _⟩ => agRecvPay I c 0 | ⟨16, _⟩ => agRecvPay I c 1 | ⟨17, _⟩ => agRecvPay I c 2
  | _ => iprop(emp)

/-- One round on every cell: three signals of one unit on a barrier, one copy on a copy cell. -/
def sched (I : Dev nD → Inp F) : Rounds.Schedule (GSem nD τ sig) (Fin 3) 𝕄 where
  duties g r := if r = 0 ∧ g.1.2 = .tc then (match g.2 with
    | .reg _ => Finset.univ
    | .dma i => if 6 ≤ i.val then {0} else ∅) else ∅
  unitless _ := False
  amount g _ _ := match g.2 with | .reg _ => 1 | .dma _ => N
  payload g _ d := match g.2 with | .reg _ => barPay g.1.1 d | .dma i => dmaPay I g.1.1 i
  amount_pos g _ _ _ := by
    rcases g with ⟨t, s | s⟩
    · exact Nat.one_pos
    · exact N_pos

/-- Ownership of a slot can be kept in a cell. -/
instance slot_storable (M : Memref sig .tc .vmem S3x128x768 .bf16) (k : Fin 3) (c : Dev nD) :
    BI.Storable (upEmb : UEmb _ 𝕄) (iprop(∃ f, slotPt (F := F) M k c f)) := by
  infer_instance
/-- What a barrier's unit hands over can be kept in a cell. -/
instance barPay_storable (c : Dev nD) (d : Fin 3) : BI.Storable (upEmb : UEmb _ 𝕄) (barPay (F := F) c d) := by
  unfold barPay
  have h1 := slot_storable (F := F) A9 d.rev (peer c d)
  have h2 := slot_storable (F := F) A11 d.rev (peer c d)
  have h3 : BI.Storable (upEmb : UEmb _ 𝕄) (iprop(reached ER (rsRecv (peer c d) d.rev) 0 ∗ reached ER (agRecv (peer c d) d.rev) 0)) := by infer_instance
  generalize iprop(∃ f, slotPt (F := F) A9 d.rev (peer c d) f) = P at h1 ⊢
  generalize iprop(∃ f, slotPt (F := F) A11 d.rev (peer c d) f) = Q at h2 ⊢
  generalize iprop(reached ER (rsRecv (peer c d) d.rev) 0 ∗ reached ER (agRecv (peer c d) d.rev) 0) = R at h3 ⊢
  infer_instance

/-- What any duty hands over can be kept in a cell. -/
instance sched_storable (I : Dev nD → Inp F) (g : GSem nD τ sig) (r : ℕ) (d : Fin 3) :
    BI.Storable (upEmb : UEmb _ 𝕄) ((sched (F := F) I).payload g r d) := by
  rcases g with ⟨t, s | s⟩
  · show BI.Storable upEmb (barPay t.1 d); infer_instance
  · show BI.Storable upEmb (dmaPay I t.1 s)
    unfold dmaPay rsSendPay rsRecvPay agSendPay agRecvPay
    split <;> infer_instance

/-- A statement about the three slots, slot by slot. -/
theorem fin3 {P : Fin 3 → Prop} (h0 : P 0) (h1 : P 1) (h2 : P 2) (k : Fin 3) : P k :=
  match k with
  | ⟨0, _⟩ => h0
  | ⟨1, _⟩ => h1
  | ⟨2, _⟩ => h2

section Tables

variable (I : Dev nD → Inp F) (c : Dev nD) (k : Fin 3)

/-- A barrier has three duties, one for each peer. -/
theorem duties_bar : (sched I).duties (barCell c) 0 = Finset.univ := by dsimp only [sched]; rw [if_pos ⟨rfl, rfl⟩]
/-- A copy cell has one duty. -/
theorem duties_dma (i : DmaSem sig) (h : 6 ≤ i.val) : (sched I).duties ((c : Thread nD τ), .dma i) 0 = {0} := by
  dsimp only [sched]; rw [if_pos ⟨rfl, rfl⟩, if_pos h]
/-- There are no duties after the first round. -/
theorem duties_later (g : GSem nD τ sig) : ∀ r, 1 ≤ r → (sched I).duties g r = ∅ := fun r hr => by
  dsimp only [sched]; rw [if_neg (fun h => by omega)]

/-- A barrier's duty is one unit. -/
theorem amount_bar (d : Fin 3) : (sched I).amount (barCell c) 0 d = 1 := rfl
/-- A copy cell's duty is the credit of one quarter's copy. -/
theorem amount_dma (i : DmaSem sig) (d : Fin 3) : (sched I).amount ((c : Thread nD τ), .dma i) 0 d = N := rfl

/-- A barrier expects three units. -/
theorem expect_bar : (sched I).expect (barCell c) 0 = 3 := by
  unfold Schedule.expect Schedule.amountOf; rw [duties_bar]; rfl
/-- A copy cell expects the credit of one quarter's copy. -/
theorem expect_dma (i : DmaSem sig) (h : 6 ≤ i.val) : (sched I).expect ((c : Thread nD τ), .dma i) 0 = N := by
  unfold Schedule.expect Schedule.amountOf; rw [duties_dma I c i h, Finset.sum_singleton, amount_dma]

/-- A barrier's unit hands over the slots to write. -/
theorem payload_bar (d : Fin 3) : (sched I).payload (barCell c) 0 d = barPay c d := rfl
/-- A share's send hands back its slot. -/
theorem payload_rsSend (d : Fin 3) : (sched I).payload (rsSend c k) 0 d = rsSendPay c k :=
  fin3 (P := fun k => (sched I).payload (rsSend c k) 0 d = rsSendPay c k) rfl rfl rfl k
/-- A share's arrival hands over the share. -/
theorem payload_rsRecv (d : Fin 3) : (sched I).payload (rsRecv c k) 0 d = rsRecvPay I c k :=
  fin3 (P := fun k => (sched I).payload (rsRecv c k) 0 d = rsRecvPay I c k) rfl rfl rfl k
/-- A summed quarter's send hands back its share of the source. -/
theorem payload_agSend (d : Fin 3) : (sched I).payload (agSend c k) 0 d = agSendPay I c k :=
  fin3 (P := fun k => (sched I).payload (agSend c k) 0 d = agSendPay I c k) rfl rfl rfl k
/-- A summed quarter's arrival hands over that quarter. -/
theorem payload_agRecv (d : Fin 3) : (sched I).payload (agRecv c k) 0 d = agRecvPay I c k :=
  fin3 (P := fun k => (sched I).payload (agRecv c k) 0 d = agRecvPay I c k) rfl rfl rfl k

/-- A barrier's whole round hands over what its three units do. -/
theorem rest_bar : bigSep ((sched I).duties (barCell c) 0 \ ∅) (fun u => (sched I).payload (barCell c) 0 u)
    = bigSep Finset.univ (fun r => barPay c r) := by
  rw [Finset.sdiff_empty, duties_bar]; rfl
/-- A copy cell's whole round hands over what its one copy does. -/
theorem rest_dma (i : DmaSem sig) (h : 6 ≤ i.val) :
    bigSep ((sched I).duties ((c : Thread nD τ), .dma i) 0 \ ∅) (fun u => (sched I).payload ((c : Thread nD τ), .dma i) 0 u)
      = dmaPay I c i := by
  rw [Finset.sdiff_empty, duties_dma I c i h, bigSep_singleton]; rfl

end Tables

/-! ## What each device owes at launch; the levels -/

/-- The debt of the signal to the peer with index `r`. -/
abbrev tBar (c : Dev nD) (r : Fin 3) : CellTallies nD τ sig Unit := tallyAt (barCell (peer c r)) () 1
/-- The debt of the share to the peer with index `r`. -/
abbrev tRs (c : Dev nD) (r : Fin 3) : CellTallies nD τ sig Unit := tallyAt (rsRecv (peer c r) r.rev) () N
/-- The debt of the summed quarter to the peer with index `r`. -/
abbrev tAg (c : Dev nD) (r : Fin 3) : CellTallies nD τ sig Unit := tallyAt (agRecv (peer c r) r.rev) () N

/-- A copy's debt, until it is issued. -/
def due (b : Bool) (t : CellTallies nD τ sig Unit) : CellTallies nD τ sig Unit := bif b then 0 else t

/-- The debt after the barrier, with the shares already sent marked. -/
def debt (c : Dev nD) (b0 b1 b2 : Bool) : CellTallies nD τ sig Unit :=
  tAg c 2 + tAg c 1 + tAg c 0 + due b2 (tRs c 2) + due b1 (tRs c 1) + due b0 (tRs c 0)

/-- What a device owes at launch: three signals, three shares, three summed quarters. -/
def O₀ (c : Dev nD) : CellTallies nD τ sig Unit := debt c false false false + tBar c 2 + tBar c 1 + tBar c 0

/-- Only the cells of the devices' own threads carry a level. -/
def L (g : GSem nD τ sig) : Finset Unit := if g.1.2 = .tc then {()} else ∅
/-- The barrier before the shares, the shares before the gathered quarters; the send cells and the pipeline's below. -/
def lv (g : GSem nD τ sig) (_ : Unit) : ℕ := match g.2 with
  | .reg _ => 1
  | .dma i => if 15 ≤ i.val then 3 else if 9 ≤ i.val ∧ i.val < 12 then 2 else 0

/-- Other threads' cells carry none. -/
theorem L_of_ne (g : GSem nD τ sig) (h : g.1.2 ≠ .tc) : L g = ∅ := if_neg h
/-- The cells of the devices' own threads carry one. -/
theorem L_tc (c : Dev nD) (sm : SemLoc sig) : L ((c : Thread nD τ), sm) = {()} := if_pos rfl

/-- Every debt is to a cell of a level above `n`. -/
def Above (n : ℕ) (O : CellTallies nD τ sig Unit) : Prop := ∀ g u, 0 < O g u → g.1.2 = .tc ∧ n < lv g u

/-- No debt lies above every level. -/
theorem above_zero (n : ℕ) : Above n 0 := fun _ _ h => absurd h (Nat.lt_irrefl 0)
/-- Two debts above a level lie above it together. -/
theorem above_add {n : ℕ} {O P : CellTallies nD τ sig Unit} (h : Above n O) (h' : Above n P) : Above n (O + P) := fun g u hg => by
  rcases Nat.eq_zero_or_pos (O g u) with h0 | h0
  · exact h' g u (by have : 0 < O g u + P g u := hg; omega)
  · exact h g u h0
/-- A debt to one cell lies above every level below that cell's. -/
theorem above_tally {n : ℕ} (c : Dev nD) (sm : SemLoc sig) (k : ℕ) (h : n < lv ((c : Thread nD τ), sm) ()) :
    Above n (tallyAt ((c : Thread nD τ), sm) () k) := fun g u hg => by
  rw [tallyAt_apply] at hg
  by_cases e : g = ((c : Thread nD τ), sm) ∧ u = ()
  · rw [e.1]; exact ⟨rfl, h⟩
  · rw [if_neg e] at hg; exact absurd hg (Nat.lt_irrefl 0)
/-- A debt above a level lies above it whether or not it has been paid. -/
theorem above_due {n : ℕ} {O : CellTallies nD τ sig Unit} (b : Bool) (h : Above n O) : Above n (due b O) := by
  cases b
  · exact h
  · exact above_zero n

/-- The shares' arrivals have level 2. -/
theorem lv_rsRecv (c : Dev nD) (k : Fin 3) : lv (rsRecv c k) () = 2 := fin3 (P := fun k => lv (rsRecv c k) () = 2) rfl rfl rfl k
/-- The summed quarters' arrivals have level 3. -/
theorem lv_agRecv (c : Dev nD) (k : Fin 3) : lv (agRecv c k) () = 3 := fin3 (P := fun k => lv (agRecv c k) () = 3) rfl rfl rfl k

/-- A share's debt lies above the barrier. -/
theorem above_tRs (c : Dev nD) (r : Fin 3) : Above 1 (tRs c r) := above_tally _ _ _ (by rw [lv_rsRecv]; decide)
/-- A summed quarter's debt lies above every level below 3. -/
theorem above_tAg {n : ℕ} (hn : n < 3) (c : Dev nD) (r : Fin 3) : Above n (tAg c r) := above_tally _ _ _ (by rw [lv_agRecv]; exact hn)
/-- The three summed quarters' debts lie above every level below 3. -/
theorem above_debtAg {n : ℕ} (hn : n < 3) (c : Dev nD) : Above n (tAg c 2 + tAg c 1 + tAg c 0) :=
  above_add (above_add (above_tAg hn c 2) (above_tAg hn c 1)) (above_tAg hn c 0)

/-- A device may wait on a cell when all it still owes lies above it. -/
theorem mayWait_of (c : Dev nD) (sm : SemLoc sig) (n : ℕ) (O : CellTallies nD τ sig Unit)
    (hl : lv ((c : Thread nD τ), sm) () ≤ n) (hO : Above n O) : (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hl)
    (fun g u hg => (hO g u hg).2)

/-- A device may wait on its barrier while it owes the shares and the summed quarters. -/
theorem mayWait_bar (c : Dev nD) : (levAts L lv : sProp 𝕄) ⊢ MayWait (c : Thread nD τ) (.reg barrier0) () (debt c false false false) :=
  mayWait_of c _ 1 _ (le_refl _) (above_add (above_add (above_add (above_debtAg (by decide) c)
    (above_due _ (above_tRs c 2))) (above_due _ (above_tRs c 1))) (above_due _ (above_tRs c 0)))

/-- The gathered quarters' debt. -/
def debtAg (c : Dev nD) : CellTallies nD τ sig Unit := tAg c 2 + tAg c 1 + tAg c 0

/-- Once the shares are sent, only the summed quarters are owed. -/
theorem debt_done (c : Dev nD) : debt c true true true = debtAg c := by
  unfold debt debtAg due; simp only [cond_true, add_zero]

/-- A device may wait for a share while it owes the summed quarters. -/
theorem mayWait_rsRecv (c : Dev nD) (k : Fin 3) : (levAts L lv : sProp 𝕄) ⊢ MayWait (c : Thread nD τ) (.dma (rsRecvS k)) () (debtAg c) :=
  mayWait_of c _ 2 _ (le_of_eq (lv_rsRecv c k)) (above_debtAg (by decide) c)

/-- The kernel's loops need no variants. -/
abbrev 𝒱₀ : Variants := Variants.none

end Cert.KernelIdeal.Hand
-- ==== Proof.Batch.lean ====
module

public import proofs.«01_k».proof.Proof.Common

@[expose] public section

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A head's 64 columns lie within the 512. -/
theorem inb_col (h : Fin 8) : ∀ a, (![0, 64 * h.val] : Fin 2 → ℕ) a + S256x64.size a ≤ S256x512.size a := by revert h; decide

/-- Head 4, which the kernel spells in pieces. -/
theorem head4_1 (Q : FVec F S256x512 .f32) (k : Vec F S1x1x64x512 .f32) (v : Vec F S1x1x512x64 .f32) :
    k0_pay12 (k0_pay9 v) (k0_pay10 Q k) (k0_pay11 Q k)
      = k0_pay5 (extractStridedSlice S256x64 ![0, 256] Q slices_S256x512_o0_256_S256x64) (k0_pay4 k) v := by
  unfold k0_pay12 k0_pay11 k0_pay10 k0_pay9 k0_pay5 k0_pay4; rfl
/-- Head 4 of the other batch, which the kernel spells in pieces too. -/
theorem head4_0 (Q : FVec F S256x512 .f32) (k : Vec F S1x1x64x512 .f32) (v : Vec F S1x1x512x64 .f32) :
    k0_pay31 (k0_pay28 v) (k0_pay29 Q k) (k0_pay30 Q k)
      = k0_pay5 (extractStridedSlice S256x64 ![0, 256] Q slices_S256x512_o0_256_S256x64) (k0_pay4 k) v := by
  unfold k0_pay31 k0_pay30 k0_pay29 k0_pay28 k0_pay5 k0_pay4; rfl

/-- One head's columns, as a store of the head's output. -/
abbrev col (h : Fin 8) (w : FVec F S256x64 .f32) : View.Piece (Elt F) S256x512 .f32 :=
  ⟨Rect.unit (s := S256x512) ![0, 64 * h.val] S256x64.size (inb_col h), w⟩

/-- The rectangle of a whole array of two axes places every index at itself. -/
theorem emb_whole {n m : ℕ} (inb : ∀ a, (![0, 0] : Fin 2 → ℕ) a + (⟨2, ![n, m]⟩ : Shape).size a ≤ (⟨2, ![n, m]⟩ : Shape).size a)
    (z : (⟨2, ![n, m]⟩ : Shape).Idx) : (Rect.unit (s := ⟨2, ![n, m]⟩) ![0, 0] (⟨2, ![n, m]⟩ : Shape).size inb).emb z = z :=
  funext fun a => Fin.ext (by
    match a with
    | ⟨0, _⟩ => show 0 + 1 * (z 0).val = (z 0).val; omega
    | ⟨1, _⟩ => show 0 + 1 * (z 1).val = (z 1).val; omega)

/-- At head `h`'s columns the heads side by side are head `h`. -/
theorem cols256_col (P : Fin 8 → FVec F S256x64 .f32) (h : Fin 8) (x : S256x64.Idx) :
    P h x = cols256 P ((Rect.unit (s := S256x512) ![0, 64 * h.val] S256x64.size (inb_col h)).emb x) := by
  have hx : (x 1).val < 64 := (x 1).isLt
  have e0 : (((Rect.unit (s := S256x512) ![0, 64 * h.val] S256x64.size (inb_col h)).emb x) 0).val = (x 0).val := by
    show 0 + 1 * (x 0).val = _; omega
  have e1 : (((Rect.unit (s := S256x512) ![0, 64 * h.val] S256x64.size (inb_col h)).emb x) 1).val = 64 * h.val + (x 1).val := by
    show 64 * h.val + 1 * (x 1).val = _; omega
  unfold cols256
  refine congr (congrArg P (Fin.ext ?_)) (funext fun a => ?_)
  · show h.val = _ / 64; rw [e1]; omega
  · match a with
    | ⟨0, _⟩ => exact Fin.ext e0.symm
    | ⟨1, _⟩ => exact Fin.ext (by show (x 1).val = _ % 64; rw [e1]; omega)

/-- The eight heads' stores, read back whole: the heads side by side. -/
theorem readCov_cols256 (P : Fin 8 → FVec F S256x64 .f32) (w0 w1 w2 w3 w4 w5 w6 w7 : FVec F S256x64 .f32)
    (h0 : w0 = P ⟨0, by decide⟩) (h1 : w1 = P ⟨1, by decide⟩) (h2 : w2 = P ⟨2, by decide⟩) (h3 : w3 = P ⟨3, by decide⟩)
    (h4 : w4 = P ⟨4, by decide⟩) (h5 : w5 = P ⟨5, by decide⟩) (h6 : w6 = P ⟨6, by decide⟩) (h7 : w7 = P ⟨7, by decide⟩) :
    A7.view.readCov [col ⟨7, by decide⟩ w7, col ⟨6, by decide⟩ w6, col ⟨5, by decide⟩ w5, col ⟨4, by decide⟩ w4, col ⟨3, by decide⟩ w3,
        col ⟨2, by decide⟩ w2, col ⟨1, by decide⟩ w1, col ⟨0, by decide⟩ w0]
      (Rect.unit (s := S256x512) ![0, 0] S256x512.size inb_S256x512_S256x512_0_0).toLoadRect = cols256 P := by
  subst h0 h1 h2 h3 h4 h5 h6 h7
  funext j
  refine Eq.trans ?_ (congrArg (cols256 P) (emb_whole inb_S256x512_S256x512_0_0 j))
  refine View.read_writes_apply_of_pieces (Val := Elt F) A7.view _ (cols256 P) _ ?_ _ ?_
  · simp only [List.forall_mem_cons]
    exact ⟨cols256_col P _, cols256_col P _, cols256_col P _, cols256_col P _, cols256_col P _, cols256_col P _, cols256_col P _,
      cols256_col P _, List.forall_mem_nil _⟩
  · refine View.cover_of_tiled (s := S256x512) _ (![256, 64] : Fin 2 → ℕ) ?_ _
    rfl

/-- The five inputs, whole, at their contents. -/
def ins (c : Dev nD) (J : Inp F) : sProp 𝕄 :=
  iprop(pt c A0 J.x ∗ pt c A1 J.wq ∗ pt c A2 J.wo ∗ pt c A3 J.k ∗ pt c A4 J.v)

/-- The accumulator's 128 rows from row `n` hold `v`. -/
def RdAt (c : Dev nD) (f6 : Bf (F := F) c A6) (n : ℕ) (v : FVec F S128x768 .f32) : Prop :=
  ∀ h, A6.view.readAt (Elt F) (Rect.unit (s := S512x768) ![n, 0] S128x768.size h).toLoadRect f6 = v

/-- Half of a batch's share. -/
abbrev half (J : Inp F) (b r : Fin 2) : FVec F S128x768 .f32 :=
  ld (Rect.unit (s := S256x768) ![128 * r.val, 0] S128x768.size (inb_half r)) (batchV J b)

/-- Rows just stored, read back in part. -/
theorem readAt_rows {e : EltTy} {R C m k n t : ℕ} (v : View sig .tc .vmem ⟨2, ![R, C]⟩ e) (f : v.ty.Contents (Elt F))
    (hw : ∀ a, (![n, 0] : Fin 2 → ℕ) a + (⟨2, ![m, C]⟩ : Shape).size a ≤ (⟨2, ![R, C]⟩ : Shape).size a)
    (w : (⟨2, ![m, C]⟩ : Shape).Idx → Elt F e) (L : List (View.Piece (Elt F) ⟨2, ![R, C]⟩ e))
    (hr : ∀ a, (![n + t, 0] : Fin 2 → ℕ) a + (⟨2, ![k, C]⟩ : Shape).size a ≤ (⟨2, ![R, C]⟩ : Shape).size a)
    (ht : ∀ a, (![t, 0] : Fin 2 → ℕ) a + (⟨2, ![k, C]⟩ : Shape).size a ≤ (⟨2, ![m, C]⟩ : Shape).size a) :
    v.readAt (Elt F) (Rect.unit (s := ⟨2, ![R, C]⟩) ![n + t, 0] (⟨2, ![k, C]⟩ : Shape).size hr).toLoadRect
        (v.writes (Elt F) f (⟨Rect.unit (s := ⟨2, ![R, C]⟩) ![n, 0] (⟨2, ![m, C]⟩ : Shape).size hw, w⟩ :: L))
      = ld (Rect.unit (s := ⟨2, ![m, C]⟩) ![t, 0] (⟨2, ![k, C]⟩ : Shape).size ht) w := by
  funext j
  rw [View.readAt_apply]
  refine View.read_writes_cons_hit_of_coords v f (Rect.unit (s := ⟨2, ![R, C]⟩) ![n, 0] (⟨2, ![m, C]⟩ : Shape).size hw) w L ((Rect.unit (s := ⟨2, ![m, C]⟩) ![t, 0] (⟨2, ![k, C]⟩ : Shape).size ht).emb j) _ ?_
  intro a
  match a with
  | ⟨0, _⟩ => show n + t + 1 * (j 0).val = n + 1 * (t + 1 * (j 0).val); omega
  | ⟨1, _⟩ => show 0 + 1 * (j 1).val = 0 + 1 * (0 + 1 * (j 1).val); omega

/-- A store of other rows leaves the rows read alone. -/
theorem readAt_other_rows {e : EltTy} {R C m k n n' : ℕ} (v : View sig .tc .vmem ⟨2, ![R, C]⟩ e) (f : v.ty.Contents (Elt F))
    (hw : ∀ a, (![n, 0] : Fin 2 → ℕ) a + (⟨2, ![m, C]⟩ : Shape).size a ≤ (⟨2, ![R, C]⟩ : Shape).size a)
    (w : (⟨2, ![m, C]⟩ : Shape).Idx → Elt F e) (L : List (View.Piece (Elt F) ⟨2, ![R, C]⟩ e))
    (hr : ∀ a, (![n', 0] : Fin 2 → ℕ) a + (⟨2, ![k, C]⟩ : Shape).size a ≤ (⟨2, ![R, C]⟩ : Shape).size a)
    (hd : n' + k ≤ n ∨ n + m ≤ n') :
    v.readAt (Elt F) (Rect.unit (s := ⟨2, ![R, C]⟩) ![n', 0] (⟨2, ![k, C]⟩ : Shape).size hr).toLoadRect
        (v.writes (Elt F) f (⟨Rect.unit (s := ⟨2, ![R, C]⟩) ![n, 0] (⟨2, ![m, C]⟩ : Shape).size hw, w⟩ :: L))
      = v.readAt (Elt F) (Rect.unit (s := ⟨2, ![R, C]⟩) ![n', 0] (⟨2, ![k, C]⟩ : Shape).size hr).toLoadRect (v.writes (Elt F) f L) := by
  funext j
  rw [View.readAt_apply, View.readAt_apply]
  refine View.read_writes_cons_miss_of_axis v f _ L _ 0 n m rfl rfl rfl ?_
  have hj : (j 0).val < k := (j 0).isLt
  have : (((Rect.unit (s := ⟨2, ![R, C]⟩) ![n', 0] (⟨2, ![k, C]⟩ : Shape).size hr).toLoadRect.idx j) 0).val = n' + 1 * (j 0).val := rfl
  omega

/-- A store of 256 rows, read back by halves. -/
theorem rdAt_half (c : Dev nD) (f6 : Bf (F := F) c A6) (n : ℕ) (h : ∀ a, (![n, 0] : Fin 2 → ℕ) a + S256x768.size a ≤ S512x768.size a)
    (v : FVec F S256x768 .f32) (r : Fin 2) :
    RdAt c (A6.view.writes (Elt F) f6 [⟨Rect.unit (s := S512x768) ![n, 0] S256x768.size h, v⟩]) (n + 128 * r.val)
      (ld (Rect.unit (s := S256x768) ![128 * r.val, 0] S128x768.size (inb_half r)) v) := by
  intro hin
  exact readAt_rows A6.view f6 h v [] hin (inb_half r)

/-- The heads of batch 1 and their product with the output weights, as the kernel spells them. -/
abbrev batch1 : Prog (TpuEff nD τ sig (Elt F) Λ₀ .tc) PUnit := do
  let ⟨v285, v307, v309, v310⟩ : Σ' (v285 : FVec F S256x512 .f32) (v307 : FVec F S256x64 .f32) (v309 : FVec F S64x512 .f32), Vec F S1x1x512x64 .f32 ← k0_part1 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) cc0_scratch6 cc0_scratch7 cc0_scratch8 cc0_scratch9
  let v345 : FVec F S256x64 .f32 ← k0_part2 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) cc0_scratch6 cc0_scratch7 cc0_scratch8 cc0_scratch9 v285 v307 v309 v310
  let ⟨v374, v377, v379⟩ : Σ' (v374 : FVec F S512x64 .f32) (v377 : FVec F S256x512 .f32), FVec F S256x1 .f32 ← k0_part3 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) cc0_scratch6 cc0_scratch7 cc0_scratch8 cc0_scratch9 v285 v345
  let ⟨v412, v414⟩ : Σ' (v412 : FVec F S256x64 .f32), FVec F S64x512 .f32 ← k0_part4 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) cc0_scratch6 cc0_scratch7 cc0_scratch8 cc0_scratch9 v285 v374 v377 v379
  let ⟨v448, v449⟩ : Σ' (v448 : FVec F S256x64 .f32), FVec F S256x64 .f32 ← k0_part5 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) cc0_scratch6 cc0_scratch7 cc0_scratch8 cc0_scratch9 v285 v412 v414
  let v451 : Vec F S256x64 .f32 ← Prog.lift (.load A7 (Rect.unit (s := S256x512) ![0, 448] S256x64.size inb_S256x512_S256x64_0_448).toLoadRect (View.loadsAt_vmem h_S256x64))
  Prog.lift (.store A7 (Rect.unit (s := S256x512) ![0, 448] S256x64.size inb_S256x512_S256x64_0_448) (k0_pay119 v448 v449) Finset.univ (View.stores_vmem_bits_univ h_S256x64 rfl) (.inl rfl))
  let v454 : Vec F S256x512 .f32 ← Prog.lift (.load A7 (Rect.unit (s := S256x512) ![0, 0] S256x512.size inb_S256x512_S256x512_0_0).toLoadRect (View.loadsAt_vmem h_S256x512))
  let v455 : Vec F S512x768 .f32 ← Prog.lift (.load A2 (Rect.unit (s := S512x768) ![0, 0] S512x768.size inb_S512x768_S512x768_0_0).toLoadRect (View.loadsAt_vmem h_S512x768))
  let v458 : Vec F S256x768 .f32 ← Prog.lift (.load A6 (Rect.unit (s := S512x768) ![256, 0] S256x768.size inb_S512x768_S256x768_256_0).toLoadRect (View.loadsAt_vmem h_S256x768))
  Prog.lift (.store A6 (Rect.unit (s := S512x768) ![256, 0] S256x768.size inb_S512x768_S256x768_256_0) (k0_pay120 v454 v455) Finset.univ (View.stores_vmem_bits_univ h_S256x768 rfl) (.inl rfl))
  pure ⟨⟩

set_option maxRecDepth 65536 in
set_option maxHeartbeats 4000000 in
/-- Batch 1: the accumulator's rows from 256 hold the batch's share afterwards. -/
theorem batch1_run (c : Dev nD) (J : Inp F) (f6 : Bf (F := F) c A6) (f7 : Bf (F := F) c A7) (Kt : PUnit → sProp 𝕄) :
    iprop((ins c J ∗ pt c A6 f6 ∗ pt c A7 f7)
        ∗ ((ins c J ∗ (∃ f6', ⌜∀ r : Fin 2, RdAt c f6' (256 + 128 * r.val) (half J ⟨1, by decide⟩ r)⌝ ∗ pt c A6 f6') ∗ (∃ f7', pt (F := F) c A7 f7')) -∗ Kt ⟨⟩))
      ⊢ wp frame (wpE (defs₀ (F := F)) 𝒱₀ (c : Thread nD τ) none) Set.univ (batch1 (F := F)) Kt := by
  simp only [batch1, k0_part1_eq_skeleton, k0_part2_eq_skeleton, k0_part3_eq_skeleton, k0_part4_eq_skeleton, k0_part5_eq_skeleton]
  unfold k0_part1_skel k0_part2_skel k0_part3_skel k0_part4_skel k0_part5_skel
  unfold ins pt
  iintro ⟨⟨⟨H0, H1, H2, H3, H4⟩, H6, H7⟩, Hk⟩
  sl_exec
  rw [wp_ret]; imodintro
  have e : batch1_run.sl.v454 J = cols256 (head256 (k0_pay1 (xAt J.x ⟨1, by decide⟩) (wqAt J.wq)) (kAt J.k ⟨1, by decide⟩) (vAt J.v ⟨1, by decide⟩)) := by
    unfold batch1_run.sl.v454
    unfold batch1_run.sl.H7_8
    refine readCov_cols256 _ _ _ _ _ _ _ _ _ ?_ ?_ ?_ ?_ ?_ ?_ ?_ ?_
    · rfl
    · rfl
    · rfl
    · rfl
    · dsimp only
      exact head4_1 _ _ _
    · rfl
    · rfl
    · rfl
  rw [e]
  iapply Hk
  isplitl [H0 H1 H2 H3 H4]
  · isplitl [H0]; · iexact H0
    isplitl [H1]; · iexact H1
    isplitl [H2]; · iexact H2
    isplitl [H3]; · iexact H3
    iexact H4
  isplitl [H6]
  · iexists (A6.view.writes (Elt F) f6 [⟨Rect.unit (s := S512x768) ![256, 0] S256x768.size inb_S512x768_S256x768_256_0, batchV J ⟨1, by decide⟩⟩])
    isplitr
    · ipureintro
      exact fun r => rdAt_half c f6 256 _ _ r
    · iexact H6
  · iexists _; iexact H7

/-- The heads of batch 0 and their product with the output weights, as the kernel spells them. -/
abbrev batch0 : Prog (TpuEff nD τ sig (Elt F) Λ₀ .tc) PUnit := do
  let ⟨v285, v307, v309, v310⟩ : Σ' (v285 : FVec F S256x512 .f32) (v307 : FVec F S256x64 .f32) (v309 : FVec F S64x512 .f32), Vec F S1x1x512x64 .f32 ← k0_part6 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) cc0_scratch6 cc0_scratch7 cc0_scratch8 cc0_scratch9
  let v345 : FVec F S256x64 .f32 ← k0_part7 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) cc0_scratch6 cc0_scratch7 cc0_scratch8 cc0_scratch9 v285 v307 v309 v310
  let ⟨v374, v377, v379⟩ : Σ' (v374 : FVec F S512x64 .f32) (v377 : FVec F S256x512 .f32), FVec F S256x1 .f32 ← k0_part8 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) cc0_scratch6 cc0_scratch7 cc0_scratch8 cc0_scratch9 v285 v345
  let ⟨v412, v414⟩ : Σ' (v412 : FVec F S256x64 .f32), FVec F S64x512 .f32 ← k0_part9 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) cc0_scratch6 cc0_scratch7 cc0_scratch8 cc0_scratch9 v285 v374 v377 v379
  let ⟨v448, v449⟩ : Σ' (v448 : FVec F S256x64 .f32), FVec F S256x64 .f32 ← k0_part10 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) cc0_scratch6 cc0_scratch7 cc0_scratch8 cc0_scratch9 v285 v412 v414
  let v451 : Vec F S256x64 .f32 ← Prog.lift (.load A7 (Rect.unit (s := S256x512) ![0, 448] S256x64.size inb_S256x512_S256x64_0_448).toLoadRect (View.loadsAt_vmem h_S256x64))
  Prog.lift (.store A7 (Rect.unit (s := S256x512) ![0, 448] S256x64.size inb_S256x512_S256x64_0_448) (k0_pay121 v448 v449) Finset.univ (View.stores_vmem_bits_univ h_S256x64 rfl) (.inl rfl))
  let v454 : Vec F S256x512 .f32 ← Prog.lift (.load A7 (Rect.unit (s := S256x512) ![0, 0] S256x512.size inb_S256x512_S256x512_0_0).toLoadRect (View.loadsAt_vmem h_S256x512))
  let v455 : Vec F S512x768 .f32 ← Prog.lift (.load A2 (Rect.unit (s := S512x768) ![0, 0] S512x768.size inb_S512x768_S512x768_0_0).toLoadRect (View.loadsAt_vmem h_S512x768))
  let v458 : Vec F S256x768 .f32 ← Prog.lift (.load A6 (Rect.unit (s := S512x768) ![0, 0] S256x768.size inb_S512x768_S256x768_0_0).toLoadRect (View.loadsAt_vmem h_S256x768))
  Prog.lift (.store A6 (Rect.unit (s := S512x768) ![0, 0] S256x768.size inb_S512x768_S256x768_0_0) (k0_pay122 v454 v455) Finset.univ (View.stores_vmem_bits_univ h_S256x768 rfl) (.inl rfl))
  pure ⟨⟩

set_option maxRecDepth 65536 in
set_option maxHeartbeats 4000000 in
/-- Batch 0: the accumulator's rows from 0 hold the batch's share afterwards. -/
theorem batch0_run (c : Dev nD) (J : Inp F) (f6 : Bf (F := F) c A6) (f7 : Bf (F := F) c A7) (Kt : PUnit → sProp 𝕄) :
    iprop((ins c J ∗ pt c A6 f6 ∗ pt c A7 f7)
        ∗ ((ins c J ∗ (∃ f6', ⌜∀ r : Fin 2, RdAt c f6' (0 + 128 * r.val) (half J ⟨0, by decide⟩ r)⌝ ∗ pt c A6 f6') ∗ (∃ f7', pt (F := F) c A7 f7')) -∗ Kt ⟨⟩))
      ⊢ wp frame (wpE (defs₀ (F := F)) 𝒱₀ (c : Thread nD τ) none) Set.univ (batch0 (F := F)) Kt := by
  simp only [batch0, k0_part6_eq_skeleton, k0_part7_eq_skeleton, k0_part8_eq_skeleton, k0_part9_eq_skeleton, k0_part10_eq_skeleton]
  unfold k0_part6_skel k0_part7_skel k0_part8_skel k0_part9_skel k0_part10_skel
  unfold ins pt
  iintro ⟨⟨⟨H0, H1, H2, H3, H4⟩, H6, H7⟩, Hk⟩
  sl_exec
  rw [wp_ret]; imodintro
  have e : batch0_run.sl.v454 J = cols256 (head256 (k0_pay1 (xAt J.x ⟨0, by decide⟩) (wqAt J.wq)) (kAt J.k ⟨0, by decide⟩) (vAt J.v ⟨0, by decide⟩)) := by
    unfold batch0_run.sl.v454
    unfold batch0_run.sl.H7_8
    refine readCov_cols256 _ _ _ _ _ _ _ _ _ ?_ ?_ ?_ ?_ ?_ ?_ ?_ ?_
    · rfl
    · rfl
    · rfl
    · rfl
    · dsimp only
      exact head4_0 _ _ _
    · rfl
    · rfl
    · rfl
  rw [e]
  iapply Hk
  isplitl [H0 H1 H2 H3 H4]
  · isplitl [H0]; · iexact H0
    isplitl [H1]; · iexact H1
    isplitl [H2]; · iexact H2
    isplitl [H3]; · iexact H3
    iexact H4
  isplitl [H6]
  · iexists (A6.view.writes (Elt F) f6 [⟨Rect.unit (s := S512x768) ![0, 0] S256x768.size inb_S512x768_S256x768_0_0, batchV J ⟨0, by decide⟩⟩])
    isplitr
    · ipureintro
      exact fun r => rdAt_half c f6 0 _ _ r
    · iexact H6
  · iexists _; iexact H7

end Cert.KernelIdeal.Hand
-- ==== Proof.Talk.lean ====
/-
  Talking to the peers: the records every device may consult, and the two operations of the exchange as one rule each —
  narrowing a quarter of the accumulator into a slot and sending it, and waiting for a copy.
-/
module

public import proofs.«01_k».proof.Proof.Batch
public import Idealize.ShloMosaic.Lib.Pipeline.Value

@[expose] public section

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The cells, and what every device may consult -/

/-- The twelve copy semaphores. -/
abbrev tsem (i : Fin 12) : DmaSem sig := ⟨6 + i.val, by have := i.isLt; show _ < 18; omega⟩

/-- They are twelve different ones. -/
theorem tsem_inj : Function.Injective tsem := by decide

/-- The barrier of each device. -/
def barEmb : Dev nD ↪ GSem nD τ sig := ⟨fun c => barCell c, fun _ _ h => congrArg (fun g : GSem nD τ sig => g.1.1) h⟩
/-- The copy cells of each device. -/
def scEmb : Dev nD × Fin 12 ↪ GSem nD τ sig := ⟨fun p => ((p.1 : Thread nD τ), .dma (tsem p.2)), fun p q h => by
  have h1 : p.1 = q.1 := congrArg (fun g : GSem nD τ sig => g.1.1) h
  have h2 : SemLoc.dma (tsem p.2) = (SemLoc.dma (tsem q.2) : SemLoc sig) := congrArg Prod.snd h
  exact Prod.ext h1 (tsem_inj (by injection h2))⟩
/-- The four barriers. -/
def barCells : Finset (GSem nD τ sig) := Finset.univ.map barEmb
/-- The forty-eight copy cells. -/
def scCells : Finset (GSem nD τ sig) := Finset.univ.map scEmb

/-- A device's barrier is a cell of the protocol. -/
theorem bar_mem (c : Dev nD) : barCell c ∈ barCells ∪ scCells :=
  Finset.mem_union_left _ (Finset.mem_map_of_mem barEmb (Finset.mem_univ c))
/-- A device's copy cell is a cell of the protocol. -/
theorem sc_mem (c : Dev nD) (i : Fin 12) : ((c : Thread nD τ), (SemLoc.dma (tsem i) : SemLoc sig)) ∈ barCells ∪ scCells :=
  Finset.mem_union_right _ (Finset.mem_map_of_mem scEmb (Finset.mem_univ (c, i)))

/-- The shares' sends are copy semaphores 0 to 2. -/
theorem rsSendS_eq (k : Fin 3) : rsSendS k = tsem ⟨k.val, by omega⟩ := rfl
/-- The shares' arrivals are copy semaphores 3 to 5. -/
theorem rsRecvS_eq (k : Fin 3) : rsRecvS k = tsem ⟨3 + k.val, by omega⟩ := Fin.ext (by show 9 + k.val = 6 + (3 + k.val); omega)
/-- The summed quarters' sends are copy semaphores 6 to 8. -/
theorem agSendS_eq (k : Fin 3) : agSendS k = tsem ⟨6 + k.val, by omega⟩ := Fin.ext (by show 12 + k.val = 6 + (6 + k.val); omega)
/-- The summed quarters' arrivals are copy semaphores 9 to 11. -/
theorem agRecvS_eq (k : Fin 3) : agRecvS k = tsem ⟨9 + k.val, by omega⟩ := Fin.ext (by show 15 + k.val = 6 + (9 + k.val); omega)

/-- A share's send is a cell of the protocol. -/
theorem rsSend_mem (c : Dev nD) (k : Fin 3) : rsSend c k ∈ barCells ∪ scCells := by unfold rsSend; rw [rsSendS_eq]; exact sc_mem c _
/-- A share's arrival is a cell of the protocol. -/
theorem rsRecv_mem (c : Dev nD) (k : Fin 3) : rsRecv c k ∈ barCells ∪ scCells := by unfold rsRecv; rw [rsRecvS_eq]; exact sc_mem c _
/-- A summed quarter's send is a cell of the protocol. -/
theorem agSend_mem (c : Dev nD) (k : Fin 3) : agSend c k ∈ barCells ∪ scCells := by unfold agSend; rw [agSendS_eq]; exact sc_mem c _
/-- A summed quarter's arrival is a cell of the protocol. -/
theorem agRecv_mem (c : Dev nD) (k : Fin 3) : agRecv c k ∈ barCells ∪ scCells := by unfold agRecv; rw [agRecvS_eq]; exact sc_mem c _

/-- Every cell's record, under one map of names. -/
def invs (I : Dev nD → Inp F) (K : GSem nD τ sig → ℕ) : sProp 𝕄 :=
  bigSep (barCells ∪ scCells) fun g => cellInv ER (sched I) (K g) g

/-- This may be consulted any number of times. -/
instance invs_persistent (I : Dev nD → Inp F) (K : GSem nD τ sig → ℕ) : BI.Persistent (invs I K) := by unfold invs; infer_instance

/-- The record of one cell, from those of all. -/
theorem inv_at (I : Dev nD → Inp F) (K : GSem nD τ sig → ℕ) {g : GSem nD τ sig} (hg : g ∈ barCells ∪ scCells) :
    invs I K ⊢ cellInv ER (sched I) (K g) g := bigSep_elim hg

/-! ## Narrowing a quarter and sending it -/

/-- What device `c` needs to send with index `r`: its slot, the peer's, and the two duties. -/
def before (c : Dev nD) (r : Fin 3) : sProp 𝕄 :=
  iprop((∃ f, slotPt (F := F) A8 r c f) ∗ (∃ f, slotPt (F := F) A9 r.rev (peer c r) f)
    ∗ dutyTok ER (rsSend c r) 0 0 ∗ dutyTok ER (rsRecv (peer c r) r.rev) 0 0)
/-- What is left when it has: the credit of the send. -/
def after (c : Dev nD) (r : Fin 3) : sProp 𝕄 := cred (tallyAt (rsSend c r) () N)

/-- The records a send consults. -/
def sendCtx (I : Dev nD → Inp F) (K : GSem nD τ sig → ℕ) (c : Dev nD) (r : Fin 3) : sProp 𝕄 :=
  iprop(invs I K ∗ reached ER (rsSend c r) 0 ∗ reached ER (rsRecv (peer c r) r.rev) 0)

/-- This may be consulted any number of times. -/
instance sendCtx_persistent (I : Dev nD → Inp F) (K : GSem nD τ sig → ℕ) (c : Dev nD) (r : Fin 3) :
    BI.Persistent (sendCtx I K c r) := by unfold sendCtx; infer_instance

/-- The send, as the kernel spells it: load the quarter, load the slot, store the quarter narrowed, start the copy. -/
abbrev sendP (r : Fin 3) (off : Fin 2 → ℕ) (hin : ∀ a, off a + S128x768.size a ≤ S512x768.size a)
    (pay : Vec F S128x768 .f32 → FVec F S1x128x768 .bf16) (dst : Dev nD)
    (hst : (A8.access (slotR r)).Stores Finset.univ) (hm : (Finset.univ : Finset (slotR r).shape.Idx) = Finset.univ ∨ ∀ a, (slotR r).stride a = 1)
    (h1 : (slotM A8 r).view.WordExact) (h2 : (slotM A9 r.rev).view.WordExact)
    (h3 : DmaTarget.Typed .vmem (.dma (rsRecvS r.rev)) (.remote (Dev.tc dst) (slotM A9 r.rev) (.dma (rsSendS r)) : DmaTarget nD τ sig .tc .vmem S128x768 .bf16)) :
    Prog (TpuEff nD τ sig (Elt F) Λ₀ .tc) PUnit := do
  let v ← Prog.lift (.load A6 (Rect.unit (s := S512x768) off S128x768.size hin).toLoadRect (View.loadsAt_vmem h_S128x768))
  let _ ← Prog.lift (.load A8 (slotR r).toLoadRect (View.loadsAt_vmem h_S1x128x768))
  Prog.lift (.store A8 (slotR r) (pay v) Finset.univ hst hm)
  Prog.lift (.enqueueDma (slotM A8 r) (.remote (Dev.tc dst) (slotM A9 r.rev) (.dma (rsSendS r))) (.dma (rsRecvS r.rev)) h1 h2 h3)
  pure ⟨⟩

/-- A slot's elements are those of its rows. -/
theorem slot_set (M : Memref sig .tc .vmem S3x128x768 .bf16) (k : Fin 3) : (slotM M k).view.set = (M.access (slotR k)).set :=
  View.set_reshape _ _

set_option maxHeartbeats 1000000 in
/-- A send: the quarter's contents known, the slot leaves at what is sent, and one debt less. -/
theorem send_run (I : Dev nD → Inp F) (K : GSem nD τ sig → ℕ) (c : Dev nD) (r : Fin 3) (off : Fin 2 → ℕ)
    (hin : ∀ a, off a + S128x768.size a ≤ S512x768.size a)
    (pay : Vec F S128x768 .f32 → FVec F S1x128x768 .bf16) (dst : Dev nD)
    (hst : (A8.access (slotR r)).Stores Finset.univ) (hm : (Finset.univ : Finset (slotR r).shape.Idx) = Finset.univ ∨ ∀ a, (slotR r).stride a = 1)
    (h1 : (slotM A8 r).view.WordExact) (h2 : (slotM A9 r.rev).view.WordExact)
    (h3 : DmaTarget.Typed .vmem (.dma (rsRecvS r.rev)) (.remote (Dev.tc dst) (slotM A9 r.rev) (.dma (rsSendS r)) : DmaTarget nD τ sig .tc .vmem S128x768 .bf16))
    (f6 : Bf (F := F) c A6) (O O' : CellTallies nD τ sig Unit) (Kt : PUnit → sProp 𝕄)
    (hoff : off = ![qk (peer c r), 0]) (hdst : dst = peer c r)
    (hpay : ∀ v, pay v = shapeCast S1x128x768 (truncf .bf16 v bitsLt_bf16_f32) shapeCasts_S128x768_S1x128x768)
    (hO : O' = O + tRs c r) (h6 : RdAt c f6 (qk (peer c r)) (blk I c (peer c r))) :
    iprop((sendCtx I K c r ∗ pt c A6 f6 ∗ before c r ∗ (∃ W, owes (c : Thread nD τ) O' W))
        ∗ ((pt c A6 f6 ∗ after c r ∗ (∃ W, owes (c : Thread nD τ) O W)) -∗ Kt ⟨⟩))
      ⊢ wp frame (wpE (defs₀ (F := F)) 𝒱₀ (c : Thread nD τ) none) Set.univ (sendP r off hin pay dst hst hm h1 h2 h3) Kt := by
  subst hoff hdst
  unfold before after sendCtx
  simp only [sendP, Prog.lift, Prog.bind_op, Prog.bind_ret, Prog.pure_eq_ret]
  iintro ⟨⟨⟨#HI, #HrS, #HrR⟩, H6, ⟨⟨%f8, H8⟩, ⟨%f9, H9⟩, HtS, HtR⟩, ⟨%W, HO⟩⟩, Hk⟩
  iapply (wp_load 𝒱₀ (c : Thread nD τ) none Set.univ (m := A6) (S := Finset.univ) (q := fullShare) (f := f6) (Finset.subset_univ _)) $$ [H6]
  · iexact H6
  iintro H6
  rw [h6 hin]
  iapply (wp_load_rect 𝒱₀ (c : Thread nD τ) none Set.univ (m := A8) (r := slotR r) (S := (slotM A8 r).view.set) (q := fullShare) (f := f8)
    (Finset.subset_of_eq (slot_set A8 r).symm)) $$ [H8]
  · iexact H8
  iintro H8
  iapply (wp_store 𝒱₀ (c : Thread nD τ) none Set.univ (m := A8) (r := slotR r) (S := (slotM A8 r).view.set) (f := f8)
    (by rw [View.setOn_univ]; exact Finset.subset_of_eq (slot_set A8 r).symm)) $$ [H8]
  · iexact H8
  iintro H8
  have hread : (slotM A8 r).view.read (Elt F) ((A8.access (slotR r)).write (Elt F) f8 (pay (blk I c (peer c r))) Finset.univ) = sent I c (peer c r) := by
    refine (Memref.read_squeeze_slice A8 (slotR r) _ _ shapeCasts_S1x128x768_S128x768 _).trans ?_
    rw [View.readAt_rect]
    refine (congrArg (fun w => shapeCast S128x768 w shapeCasts_S1x128x768_S128x768) (View.read_write_univ (Val := Elt F) (v := A8.access (slotR r)) f8 _)).trans ?_
    rw [hpay, shapeCast_shapeCast]; rfl
  generalize hg : (A8.access (slotR r)).write (Elt F) f8 (pay (blk I c (peer c r))) Finset.univ = g8 at hread
  iapply (Rounds.wp_send_pointsTo 𝒱₀ ER (sched I) (c : Thread nD τ) none (c' := (peer c r : Thread nD τ)) (src := slotM A8 r) (dst := slotM A9 r.rev)
      (sS := .dma (rsSendS r)) (sem := .dma (rsRecvS r.rev)) (q := fullShare) (fs := g8) (κ₁ := K (rsSend c r)) (κ₂ := K (rsRecv (peer c r) r.rev))
      (r₁ := 0) (r₂ := 0) (d₁ := 0) (d₂ := 0) (fd := f9)
      (by rw [duties_dma I c _ (by show 6 ≤ 6 + r.val; omega)]; exact Finset.mem_singleton_self _)
      (by rw [duties_dma I (peer c r) _ (by show 6 ≤ 9 + r.rev.val; omega)]; exact Finset.mem_singleton_self _)
      () () N rfl (amount_dma I c _ 0) (amount_dma I (peer c r) _ 0) O hO (W := W)
      (by rw [payload_rsSend]; unfold rsSendPay; iintro H; iexists g8; iexact H)
      (by
        rw [payload_rsRecv]; unfold rsRecvPay; rw [peer_peer]
        iintro H; iexists _; isplitr [H]
        · ipureintro; exact (View.read_write_univ (Val := Elt F) (v := (slotM A9 r.rev).view) f9 _).trans hread
        · iexact H)) $$ [H8 H9 HO HtS HtR]
  · isplitr; · iapply (inv_at I K (rsSend_mem c r)); iexact HI
    isplitr; · iapply (inv_at I K (rsRecv_mem (peer c r) r.rev)); iexact HI
    isplitl [H8]; · iexact H8
    isplitl [H9]; · iexact H9
    isplitl [HO]; · iexact HO
    isplitl [HtS]; · iexact HtS
    isplitr; · iexact HrS
    isplitl [HtR]; · iexact HtR
    iexact HrR
  iintro ⟨Hc, HO⟩
  rw [wp_ret]; imodintro
  iapply Hk
  isplitl [H6]; · iexact H6
  isplitl [Hc]; · iexact Hc
  iexists W; iexact HO

/-- A send's state by whether it has been issued. -/
def st (c : Dev nD) (r : Fin 3) (b : Bool) : sProp 𝕄 := bif b then after (F := F) c r else before c r

/-- A send under a condition: the send's state and the debt move with it. -/
theorem send_if (I : Dev nD → Inp F) (K : GSem nD τ sig → ℕ) (c : Dev nD) (r : Fin 3) (P : Prop) [Decidable P] (off : Fin 2 → ℕ)
    (hin : P → ∀ a, off a + S128x768.size a ≤ S512x768.size a)
    (pay : Vec F S128x768 .f32 → FVec F S1x128x768 .bf16) (dst : P → Dev nD)
    (hst : (A8.access (slotR r)).Stores Finset.univ) (hm : (Finset.univ : Finset (slotR r).shape.Idx) = Finset.univ ∨ ∀ a, (slotR r).stride a = 1)
    (h1 : (slotM A8 r).view.WordExact) (h2 : (slotM A9 r.rev).view.WordExact)
    (h3 : ∀ h : P, DmaTarget.Typed .vmem (.dma (rsRecvS r.rev)) (.remote (Dev.tc (dst h)) (slotM A9 r.rev) (.dma (rsSendS r)) : DmaTarget nD τ sig .tc .vmem S128x768 .bf16))
    (f6 : Bf (F := F) c A6) (D : Bool → CellTallies nD τ sig Unit) (b b' : Bool) (Kt : PUnit → sProp 𝕄)
    (hT : P → b = false ∧ b' = true) (hF : ¬P → b' = b)
    (hoff : P → off = ![qk (peer c r), 0]) (hdst : ∀ h, dst h = peer c r)
    (hpay : ∀ v, pay v = shapeCast S1x128x768 (truncf .bf16 v bitsLt_bf16_f32) shapeCasts_S128x768_S1x128x768)
    (hD : D false = D true + tRs c r) (h6 : P → RdAt c f6 (qk (peer c r)) (blk I c (peer c r))) :
    iprop((sendCtx I K c r ∗ pt c A6 f6 ∗ st c r b ∗ (∃ W, owes (c : Thread nD τ) (D b) W))
        ∗ ((pt c A6 f6 ∗ st c r b' ∗ (∃ W, owes (c : Thread nD τ) (D b') W)) -∗ Kt ⟨⟩))
      ⊢ wp frame (wpE (defs₀ (F := F)) 𝒱₀ (c : Thread nD τ) none) Set.univ
          (if h : P then sendP r off (hin h) pay (dst h) hst hm h1 h2 (h3 h) else pure ⟨⟩) Kt := by
  by_cases h : P
  · rw [dif_pos h]
    obtain ⟨rfl, rfl⟩ := hT h
    exact send_run I K c r off (hin h) pay (dst h) hst hm h1 h2 (h3 h) f6 (D true) (D false) Kt (hoff h) (hdst h) hpay hD (h6 h)
  · rw [dif_neg h, hF h]
    rw [Prog.pure_eq_ret, wp_ret]
    iintro ⟨⟨_, H⟩, Hk⟩
    imodintro
    iapply Hk
    iexact H

end Cert.KernelIdeal.Hand
-- ==== Proof.Quarter.lean ====
/-
  One quarter at a time: the two quarters of the batch of a device's own quarter — its mate's, then its own — each
  computed by the eight heads on 128 rows and stored in the accumulator's rows of that quarter.
-/
module

public import proofs.«01_k».proof.Proof.Batch

@[expose] public section

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A head's 64 columns lie within the 512 of the first 128 rows. -/
theorem inb_col128 (h : Fin 8) : ∀ a, (![0, 64 * h.val] : Fin 2 → ℕ) a + S128x64.size a ≤ S256x512.size a := by revert h; decide
/-- A head's 64 columns lie within the 512 of a quarter. -/
theorem inb_col128' (h : Fin 8) : ∀ a, (![0, 64 * h.val] : Fin 2 → ℕ) a + S128x64.size a ≤ S128x512.size a := by revert h; decide

/-- One head's columns of a quarter, as a store of the head's output. -/
abbrev colq (h : Fin 8) (w : FVec F S128x64 .f32) : View.Piece (Elt F) S256x512 .f32 :=
  ⟨Rect.unit (s := S256x512) ![0, 64 * h.val] S128x64.size (inb_col128 h), w⟩
/-- The heads side by side, as contents of the 256-row buffer: past the 128 rows, row 0's. -/
def wide (P : Fin 8 → FVec F S128x64 .f32) : FVec F S256x512 .f32 := fun y =>
  cols128 P (fun a => match a with
    | ⟨0, _⟩ => (⟨(y 0).val % 128, Nat.mod_lt _ (by decide)⟩ : Fin 128)
    | ⟨1, _⟩ => (y 1 : Fin 512))

/-- At head `h`'s columns the heads side by side are head `h`. -/
theorem wide_col (P : Fin 8 → FVec F S128x64 .f32) (h : Fin 8) (x : S128x64.Idx) :
    P h x = wide P ((Rect.unit (s := S256x512) ![0, 64 * h.val] S128x64.size (inb_col128 h)).emb x) := by
  have hx0 : (x 0).val < 128 := (x 0).isLt
  have hx : (x 1).val < 64 := (x 1).isLt
  have e0 : (((Rect.unit (s := S256x512) ![0, 64 * h.val] S128x64.size (inb_col128 h)).emb x) 0).val = (x 0).val := by
    show 0 + 1 * (x 0).val = _; omega
  have e1 : (((Rect.unit (s := S256x512) ![0, 64 * h.val] S128x64.size (inb_col128 h)).emb x) 1).val = 64 * h.val + (x 1).val := by
    show 64 * h.val + 1 * (x 1).val = _; omega
  unfold wide cols128
  refine congr (congrArg P (Fin.ext ?_)) (funext fun a => ?_)
  · show h.val = _ / 64; rw [e1]; omega
  · match a with
    | ⟨0, _⟩ => exact Fin.ext (by show (x 0).val = _ % 128; rw [e0]; omega)
    | ⟨1, _⟩ => exact Fin.ext (by show (x 1).val = _ % 64; rw [e1]; omega)

/-- Inside the first 128 rows the wide array is the heads side by side. -/
theorem wide_emb (P : Fin 8 → FVec F S128x64 .f32) (j : S128x512.Idx) :
    wide P ((Rect.unit (s := S256x512) ![0, 0] S128x512.size inb_S256x512_S128x512_0_0).emb j) = cols128 P j := by
  have hj : (j 0).val < 128 := (j 0).isLt
  unfold wide
  refine congrArg (cols128 P) (funext fun a => ?_)
  match a with
  | ⟨0, _⟩ => exact Fin.ext (by show (0 + 1 * (j 0).val) % 128 = (j 0).val; omega)
  | ⟨1, _⟩ => exact Fin.ext (by show 0 + 1 * (j 1).val = (j 1).val; omega)

/-- The eight heads' stores cover the quarter's rows. -/
theorem cover_quarter (w0 w1 w2 w3 w4 w5 w6 w7 : FVec F S128x64 .f32) (j : S128x512.Idx) :
    ∃ P ∈ [colq ⟨7, by decide⟩ w7, colq ⟨6, by decide⟩ w6, colq ⟨5, by decide⟩ w5, colq ⟨4, by decide⟩ w4, colq ⟨3, by decide⟩ w3,
        colq ⟨2, by decide⟩ w2, colq ⟨1, by decide⟩ w1, colq ⟨0, by decide⟩ w0],
      (Rect.unit (s := S256x512) ![0, 0] S128x512.size inb_S256x512_S128x512_0_0).emb j ∈ P.1.set := by
  have hj : (j 1).val < 512 := (j 1).isLt
  have mem : ∀ (h : Fin 8) (w : FVec F S128x64 .f32), (j 1).val / 64 = h.val →
      (Rect.unit (s := S256x512) ![0, 0] S128x512.size inb_S256x512_S128x512_0_0).emb j ∈ (colq h w).1.set := fun h w hh => by
    let y : S128x64.Idx := fun a => match a with
      | ⟨0, _⟩ => (j 0 : Fin 128)
      | ⟨1, _⟩ => (⟨(j 1).val % 64, Nat.mod_lt _ (by decide)⟩ : Fin 64)
    have hy : (Rect.unit (s := S256x512) ![0, 64 * h.val] S128x64.size (inb_col128 h)).emb y
        = (Rect.unit (s := S256x512) ![0, 0] S128x512.size inb_S256x512_S128x512_0_0).emb j := funext fun a => Fin.ext (by
      match a with
      | ⟨0, _⟩ => rfl
      | ⟨1, _⟩ => show 64 * h.val + 1 * ((j 1).val % 64) = 0 + 1 * (j 1).val; omega)
    rw [← hy]
    exact (Rect.unit (s := S256x512) ![0, 64 * h.val] S128x64.size (inb_col128 h)).toLoadRect.idx_mem y
  have h8 : (j 1).val / 64 < 8 := by omega
  generalize (j 1).val / 64 = q at mem h8
  match q, h8 with
  | 0, _ => exact ⟨colq ⟨0, by decide⟩ w0, by simp only [List.mem_cons, _root_.true_or, _root_.or_true], mem _ _ rfl⟩
  | 1, _ => exact ⟨colq ⟨1, by decide⟩ w1, by simp only [List.mem_cons, _root_.true_or, _root_.or_true], mem _ _ rfl⟩
  | 2, _ => exact ⟨colq ⟨2, by decide⟩ w2, by simp only [List.mem_cons, _root_.true_or, _root_.or_true], mem _ _ rfl⟩
  | 3, _ => exact ⟨colq ⟨3, by decide⟩ w3, by simp only [List.mem_cons, _root_.true_or, _root_.or_true], mem _ _ rfl⟩
  | 4, _ => exact ⟨colq ⟨4, by decide⟩ w4, by simp only [List.mem_cons, _root_.true_or, _root_.or_true], mem _ _ rfl⟩
  | 5, _ => exact ⟨colq ⟨5, by decide⟩ w5, by simp only [List.mem_cons, _root_.true_or, _root_.or_true], mem _ _ rfl⟩
  | 6, _ => exact ⟨colq ⟨6, by decide⟩ w6, by simp only [List.mem_cons, _root_.true_or, _root_.or_true], mem _ _ rfl⟩
  | 7, _ => exact ⟨colq ⟨7, by decide⟩ w7, by simp only [List.mem_cons, _root_.true_or, _root_.or_true], mem _ _ rfl⟩

/-- The eight heads' stores, read back over the quarter's rows: the heads side by side. -/
theorem readCov_cols128 (P : Fin 8 → FVec F S128x64 .f32) (w0 w1 w2 w3 w4 w5 w6 w7 : FVec F S128x64 .f32)
    (h0 : w0 = P ⟨0, by decide⟩) (h1 : w1 = P ⟨1, by decide⟩) (h2 : w2 = P ⟨2, by decide⟩) (h3 : w3 = P ⟨3, by decide⟩)
    (h4 : w4 = P ⟨4, by decide⟩) (h5 : w5 = P ⟨5, by decide⟩) (h6 : w6 = P ⟨6, by decide⟩) (h7 : w7 = P ⟨7, by decide⟩) :
    A7.view.readCov [colq ⟨7, by decide⟩ w7, colq ⟨6, by decide⟩ w6, colq ⟨5, by decide⟩ w5, colq ⟨4, by decide⟩ w4, colq ⟨3, by decide⟩ w3,
        colq ⟨2, by decide⟩ w2, colq ⟨1, by decide⟩ w1, colq ⟨0, by decide⟩ w0]
      (Rect.unit (s := S256x512) ![0, 0] S128x512.size inb_S256x512_S128x512_0_0).toLoadRect = cols128 P := by
  have hc := cover_quarter w0 w1 w2 w3 w4 w5 w6 w7
  subst h0 h1 h2 h3 h4 h5 h6 h7
  funext j
  refine Eq.trans ?_ (wide_emb P j)
  refine View.read_writes_apply_of_pieces (Val := Elt F) A7.view _ (wide P) _ ?_ _ ?_
  · simp only [List.forall_mem_cons]
    exact ⟨wide_col P _, wide_col P _, wide_col P _, wide_col P _, wide_col P _, wide_col P _, wide_col P _,
      wide_col P _, List.forall_mem_nil _⟩
  · exact hc j

/-- The device whose quarter lies in the same batch as device `c`'s. -/
def mate (c : Dev nD) : Dev nD := ⟨3 - c.val, by show 3 - c.val < 4; omega⟩

/-- A quarter's activations, read through the offset the kernel computes. -/
theorem xq_read (f : Vec F S2x256x768 .f32) (off : Fin 3 → ℕ) (hin : ∀ a, off a + S1x128x768.size a ≤ S2x256x768.size a) (b r : Fin 2)
    (h : off = ![b.val, 128 * r.val, 0]) :
    A0.view.readAt (Elt F) (Rect.unit (s := S2x256x768) off S1x128x768.size hin).toLoadRect f = xqAt f b r := by
  subst h; rfl

/-- A quarter just stored reads back as stored. -/
theorem rdAt_store (c : Dev nD) (f6 : Bf (F := F) c A6) (off : Fin 2 → ℕ) (hin : ∀ a, off a + S128x768.size a ≤ S512x768.size a)
    (w : FVec F S128x768 .f32) (n : ℕ) (h : off = ![n, 0]) :
    RdAt c (A6.view.writes (Elt F) f6 [⟨Rect.unit (s := S512x768) off S128x768.size hin, w⟩]) n w := by
  subst h
  intro hr
  refine (readAt_rows A6.view f6 hin w [] (t := 0) hr (by decide)).trans (funext fun j => congrArg w (emb_whole _ j))
/-- Other rows are as they were. -/
theorem rdAt_keep (c : Dev nD) (f6 : Bf (F := F) c A6) (off : Fin 2 → ℕ) (hin : ∀ a, off a + S128x768.size a ≤ S512x768.size a)
    (w : FVec F S128x768 .f32) (n : ℕ) (h : off = ![n, 0]) (n' : ℕ) (hd : n' + 128 ≤ n ∨ n + 128 ≤ n') (v : FVec F S128x768 .f32)
    (h6 : RdAt c f6 n' v) : RdAt c (A6.view.writes (Elt F) f6 [⟨Rect.unit (s := S512x768) off S128x768.size hin, w⟩]) n' v := by
  subst h
  intro hr
  exact (readAt_other_rows A6.view f6 hin w [] hr hd).trans (h6 hr)

/-- The accumulator after one quarter's share has been stored from row `n`: the share there, the other rows untouched. -/
def Stored (c : Dev nD) (f6 f6' : Bf (F := F) c A6) (n : ℕ) (w : FVec F S128x768 .f32) : Prop :=
  RdAt c f6' n w ∧ ∀ n', n' + 128 ≤ n ∨ n + 128 ≤ n' → ∀ v, RdAt c f6 n' v → RdAt c f6' n' v

/-- A store of a quarter's share leaves it there and the other rows as they were. -/
theorem stored (c : Dev nD) (f6 : Bf (F := F) c A6) (off : Fin 2 → ℕ) (hin : ∀ a, off a + S128x768.size a ≤ S512x768.size a)
    (w : FVec F S128x768 .f32) (n : ℕ) (h : off = ![n, 0]) :
    Stored c f6 (A6.view.writes (Elt F) f6 [⟨Rect.unit (s := S512x768) off S128x768.size hin, w⟩]) n w :=
  ⟨rdAt_store c f6 off hin w n h, fun n' hd v h6 => rdAt_keep c f6 off hin w n h n' hd v h6⟩

/-- Where the mate's activations lie, when the own batch is 0. -/
theorem off4_eq (c : Dev nD) (h : k0_cond6 c = 1#1) : k0_off4 c = ![((0 : Fin 2)).val, 128 * (rw0 (mate c)).val, 0] := by revert c; decide
/-- Where the mate's quarter is kept, when the own batch is 0. -/
theorem off5_eq (c : Dev nD) (h : k0_cond6 c = 1#1) : k0_off5 c = ![qk (mate c), 0] := by revert c; decide
/-- Where the device's own activations lie, when the own batch is 0. -/
theorem off9_eq (c : Dev nD) (h : k0_cond6 c = 1#1) : k0_off9 c = ![((0 : Fin 2)).val, 128 * (rw0 c).val, 0] := by revert c; decide
/-- Where the device's own quarter is kept, when the own batch is 0. -/
theorem off10_eq (c : Dev nD) (h : k0_cond6 c = 1#1) : k0_off10 c = ![qk c, 0] := by revert c; decide
/-- Where the mate's activations lie, when the own batch is 1. -/
theorem off11_eq (c : Dev nD) (h : k0_cond10 c = 1#1) : k0_off11 c = ![((1 : Fin 2)).val, 128 * (rw0 (mate c)).val, 0] := by revert c; decide
/-- Where the mate's quarter is kept, when the own batch is 1. -/
theorem off12_eq (c : Dev nD) (h : k0_cond10 c = 1#1) : k0_off12 c = ![qk (mate c), 0] := by revert c; decide
/-- Where the device's own activations lie, when the own batch is 1. -/
theorem off16_eq (c : Dev nD) (h : k0_cond10 c = 1#1) : k0_off16 c = ![((1 : Fin 2)).val, 128 * (rw0 c).val, 0] := by revert c; decide
/-- Where the device's own quarter is kept, when the own batch is 1. -/
theorem off17_eq (c : Dev nD) (h : k0_cond10 c = 1#1) : k0_off17 c = ![qk c, 0] := by revert c; decide

/-- On devices 0 and 3, the mate's quarter, as the kernel spells it. -/
abbrev late6 (d0 : Dev nD) (v18 : BitVec 32) (k0_h6 : k0_cond6 d0 = 1#1) : Prog (TpuEff nD τ sig (Elt F) Λ₀ .tc) PUnit := do
  let ⟨v281, v288, v310, v312⟩ : Σ' (v281 : BitVec 32) (v288 : FVec F S128x512 .f32) (v310 : FVec F S128x64 .f32), FVec F S64x512 .f32 ← k0_part11 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) cc0_scratch6 cc0_scratch7 cc0_scratch8 cc0_scratch9 d0 v18 k0_h6
  let v348 : FVec F S128x64 .f32 ← k0_part12 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) cc0_scratch6 cc0_scratch7 cc0_scratch8 cc0_scratch9 v288 v310 v312
  let ⟨v377, v378, v379⟩ : Σ' (v377 : FVec F S512x64 .f32) (v378 : FVec F S128x512 .f32), FVec F S128x512 .f32 ← k0_part13 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) cc0_scratch6 cc0_scratch7 cc0_scratch8 cc0_scratch9 v288 v348
  let v415 : FVec F S128x64 .f32 ← k0_part14 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) cc0_scratch6 cc0_scratch7 cc0_scratch8 cc0_scratch9 v288 v377 v378 v379
  let ⟨v440, v448, v449⟩ : Σ' (v440 : FVec F S512x64 .f32) (v448 : FVec F S128x512 .f32), FVec F S128 .f32 ← k0_part15 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) cc0_scratch6 cc0_scratch7 cc0_scratch8 cc0_scratch9 v288 v415
  let v454 : Vec F S128x64 .f32 ← Prog.lift (.load A7 (Rect.unit (s := S256x512) ![0, 448] S128x64.size inb_S256x512_S128x64_0_448).toLoadRect (View.loadsAt_vmem h_S128x64))
  Prog.lift (.store A7 (Rect.unit (s := S256x512) ![0, 448] S128x64.size inb_S256x512_S128x64_0_448) (k0_pay57 v440 v448 v449) Finset.univ (View.stores_vmem_bits_univ h_S128x64 rfl) (.inl rfl))
  let v457 : Vec F S128x512 .f32 ← Prog.lift (.load A7 (Rect.unit (s := S256x512) ![0, 0] S128x512.size inb_S256x512_S128x512_0_0).toLoadRect (View.loadsAt_vmem h_S128x512))
  let v458 : Vec F S512x768 .f32 ← Prog.lift (.load A2 (Rect.unit (s := S512x768) ![0, 0] S512x768.size inb_S512x768_S512x768_0_0).toLoadRect (View.loadsAt_vmem h_S512x768))
  let v462 : Vec F S128x768 .f32 ← Prog.lift (.load A6 (Rect.unit (s := S512x768) (k0_off5 d0) S128x768.size (k0_off5_inb d0 k0_h6)).toLoadRect (View.loadsAt_vmem h_S128x768))
  Prog.lift (.store A6 (Rect.unit (s := S512x768) (k0_off5 d0) S128x768.size (k0_off5_inb d0 k0_h6)) (k0_pay58 v457 v458) Finset.univ (View.stores_vmem_bits_univ h_S128x768 rfl) (.inl rfl))
  pure ⟨⟩

set_option maxRecDepth 65536 in
set_option maxHeartbeats 4000000 in
/-- On devices 0 and 3, the mate's quarter: stored in the accumulator's rows of that quarter. -/
theorem late6_run (c : Dev nD) (v18 : BitVec 32) (k0_h6 : k0_cond6 c = 1#1) (J : Inp F) (f6 : Bf (F := F) c A6) (f7 : Bf (F := F) c A7) (Kt : PUnit → sProp 𝕄) :
    iprop((ins c J ∗ pt c A6 f6 ∗ pt c A7 f7)
        ∗ ((ins c J ∗ (∃ f6', ⌜Stored c f6 f6' (qk (mate c)) (quarterV J 0 (rw0 (mate c)))⌝ ∗ pt c A6 f6') ∗ (∃ f7', pt (F := F) c A7 f7')) -∗ Kt ⟨⟩))
      ⊢ wp frame (wpE (defs₀ (F := F)) 𝒱₀ (c : Thread nD τ) none) Set.univ (late6 (F := F) c v18 k0_h6) Kt := by
  simp only [late6, k0_part11_eq_skeleton, k0_part12_eq_skeleton, k0_part13_eq_skeleton, k0_part14_eq_skeleton, k0_part15_eq_skeleton]
  unfold k0_part11_skel k0_part12_skel k0_part13_skel k0_part14_skel k0_part15_skel
  unfold ins pt
  iintro ⟨⟨⟨H0, H1, H2, H3, H4⟩, H6, H7⟩, Hk⟩
  sl_exec
  rw [wp_ret]; imodintro
  have e : late6_run.sl.v457 c v18 k0_h6 J = cols128 (head128 (k0_pay39 (xqAt J.x 0 (rw0 (mate c))) (wqAt J.wq)) (kAt J.k 0) (vAt J.v 0)) := by
    rw [← xq_read J.x (k0_off4 c) (k0_off4_inb c k0_h6) 0 (rw0 (mate c)) (off4_eq c k0_h6)]
    unfold late6_run.sl.v457
    unfold late6_run.sl.H7_8
    refine readCov_cols128 _ _ _ _ _ _ _ _ _ ?_ ?_ ?_ ?_ ?_ ?_ ?_ ?_
    · rfl
    · rfl
    · rfl
    · rfl
    · rfl
    · rfl
    · rfl
    · rfl
  rw [e]
  iapply Hk
  isplitl [H0 H1 H2 H3 H4]
  · isplitl [H0]; · iexact H0
    isplitl [H1]; · iexact H1
    isplitl [H2]; · iexact H2
    isplitl [H3]; · iexact H3
    iexact H4
  isplitl [H6]
  · iexists (A6.view.writes (Elt F) f6 [⟨Rect.unit (s := S512x768) (k0_off5 c) S128x768.size (k0_off5_inb c k0_h6), quarterV J 0 (rw0 (mate c))⟩])
    isplitr
    · ipureintro
      exact stored c f6 _ _ _ _ (off5_eq c k0_h6)
    · iexact H6
  · iexists _; iexact H7

/-- On devices 0 and 3, the device's own quarter, as the kernel spells it. -/
abbrev own6 (d0 : Dev nD) (k0_h6 : k0_cond6 d0 = 1#1) : Prog (TpuEff nD τ sig (Elt F) Λ₀ .tc) PUnit := do
  let v486 : Vec F S1x128x768 .f32 ← Prog.lift (.load A0 (Rect.unit (s := S2x256x768) (k0_off9 d0) S1x128x768.size (k0_off9_inb d0 k0_h6)).toLoadRect (View.loadsAt_vmem h_S1x128x768))
  let v488 : Vec F S768x512 .f32 ← Prog.lift (.load A1 (Rect.unit (s := S768x512) ![0, 0] S768x512.size inb_S768x512_S768x512_0_0).toLoadRect (View.loadsAt_vmem h_S768x512))
  let v492 : Vec F S1x1x64x512 .f32 ← Prog.lift (.load A3 (Rect.unit (s := S2x8x64x512) ![0, 0, 0, 0] S1x1x64x512.size inb_S2x8x64x512_S1x1x64x512_0_0_0_0).toLoadRect (View.loadsAt_vmem h_S1x1x64x512))
  let v494 : Vec F S1x1x512x64 .f32 ← Prog.lift (.load A4 (Rect.unit (s := S2x8x512x64) ![0, 0, 0, 0] S1x1x512x64.size inb_S2x8x512x64_S1x1x512x64_0_0_0_0).toLoadRect (View.loadsAt_vmem h_S1x1x512x64))
  let v509 : Vec F S128x64 .f32 ← Prog.lift (.load A7 (Rect.unit (s := S256x512) ![0, 0] S128x64.size inb_S256x512_S128x64_0_0).toLoadRect (View.loadsAt_vmem h_S128x64))
  Prog.lift (.store A7 (Rect.unit (s := S256x512) ![0, 0] S128x64.size inb_S256x512_S128x64_0_0) (k0_pay63 v486 v488 v492 v494) Finset.univ (View.stores_vmem_bits_univ h_S128x64 rfl) (.inl rfl))
  let v513 : Vec F S1x1x64x512 .f32 ← Prog.lift (.load A3 (Rect.unit (s := S2x8x64x512) ![0, 1, 0, 0] S1x1x64x512.size inb_S2x8x64x512_S1x1x64x512_0_1_0_0).toLoadRect (View.loadsAt_vmem h_S1x1x64x512))
  let v550 : FVec F S128x64 .f32 ← k0_part18 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) cc0_scratch6 cc0_scratch7 cc0_scratch8 cc0_scratch9 (k0_pay62 v486 v488) (k0_pay64 v486 v488) (k0_pay65 v513)
  let ⟨v579, v582⟩ : Σ' (v579 : FVec F S512x64 .f32), FVec F S128x512 .f32 ← k0_part19 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) cc0_scratch6 cc0_scratch7 cc0_scratch8 cc0_scratch9 (k0_pay62 v486 v488) v550
  let v617 : FVec F S128x64 .f32 ← k0_part20 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) cc0_scratch6 cc0_scratch7 cc0_scratch8 cc0_scratch9 (k0_pay62 v486 v488) v579 v582
  let ⟨v642, v650, v652⟩ : Σ' (v642 : FVec F S512x64 .f32) (v650 : FVec F S128x512 .f32), FVec F S128x1 .f32 ← k0_part21 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) cc0_scratch6 cc0_scratch7 cc0_scratch8 cc0_scratch9 (k0_pay62 v486 v488) v617
  let v656 : Vec F S128x64 .f32 ← Prog.lift (.load A7 (Rect.unit (s := S256x512) ![0, 448] S128x64.size inb_S256x512_S128x64_0_448).toLoadRect (View.loadsAt_vmem h_S128x64))
  Prog.lift (.store A7 (Rect.unit (s := S256x512) ![0, 448] S128x64.size inb_S256x512_S128x64_0_448) (k0_pay126 v642 v650 v652) Finset.univ (View.stores_vmem_bits_univ h_S128x64 rfl) (.inl rfl))
  let v659 : Vec F S128x512 .f32 ← Prog.lift (.load A7 (Rect.unit (s := S256x512) ![0, 0] S128x512.size inb_S256x512_S128x512_0_0).toLoadRect (View.loadsAt_vmem h_S128x512))
  let v660 : Vec F S512x768 .f32 ← Prog.lift (.load A2 (Rect.unit (s := S512x768) ![0, 0] S512x768.size inb_S512x768_S512x768_0_0).toLoadRect (View.loadsAt_vmem h_S512x768))
  let v664 : Vec F S128x768 .f32 ← Prog.lift (.load A6 (Rect.unit (s := S512x768) (k0_off10 d0) S128x768.size (k0_off10_inb d0 k0_h6)).toLoadRect (View.loadsAt_vmem h_S128x768))
  Prog.lift (.store A6 (Rect.unit (s := S512x768) (k0_off10 d0) S128x768.size (k0_off10_inb d0 k0_h6)) (k0_pay127 v659 v660) Finset.univ (View.stores_vmem_bits_univ h_S128x768 rfl) (.inl rfl))
  pure ⟨⟩

set_option maxRecDepth 65536 in
set_option maxHeartbeats 4000000 in
/-- On devices 0 and 3, the device's own quarter: stored in the accumulator's rows of that quarter. -/
theorem own6_run (c : Dev nD) (k0_h6 : k0_cond6 c = 1#1) (J : Inp F) (f6 : Bf (F := F) c A6) (f7 : Bf (F := F) c A7) (Kt : PUnit → sProp 𝕄) :
    iprop((ins c J ∗ pt c A6 f6 ∗ pt c A7 f7)
        ∗ ((ins c J ∗ (∃ f6', ⌜Stored c f6 f6' (qk c) (quarterV J 0 (rw0 c))⌝ ∗ pt c A6 f6') ∗ (∃ f7', pt (F := F) c A7 f7')) -∗ Kt ⟨⟩))
      ⊢ wp frame (wpE (defs₀ (F := F)) 𝒱₀ (c : Thread nD τ) none) Set.univ (own6 (F := F) c k0_h6) Kt := by
  simp only [own6, k0_part18_eq_skeleton, k0_part19_eq_skeleton, k0_part20_eq_skeleton, k0_part21_eq_skeleton]
  unfold k0_part18_skel k0_part19_skel k0_part20_skel k0_part21_skel
  unfold ins pt
  iintro ⟨⟨⟨H0, H1, H2, H3, H4⟩, H6, H7⟩, Hk⟩
  sl_exec
  rw [wp_ret]; imodintro
  have e : own6_run.sl.v659 c k0_h6 J = cols128 (head128 (k0_pay39 (xqAt J.x 0 (rw0 c)) (wqAt J.wq)) (kAt J.k 0) (vAt J.v 0)) := by
    rw [← xq_read J.x (k0_off9 c) (k0_off9_inb c k0_h6) 0 (rw0 c) (off9_eq c k0_h6)]
    unfold own6_run.sl.v659
    unfold own6_run.sl.H7_8
    refine readCov_cols128 _ _ _ _ _ _ _ _ _ ?_ ?_ ?_ ?_ ?_ ?_ ?_ ?_
    · rfl
    · rfl
    · rfl
    · rfl
    · rfl
    · rfl
    · rfl
    · rfl
  rw [e]
  iapply Hk
  isplitl [H0 H1 H2 H3 H4]
  · isplitl [H0]; · iexact H0
    isplitl [H1]; · iexact H1
    isplitl [H2]; · iexact H2
    isplitl [H3]; · iexact H3
    iexact H4
  isplitl [H6]
  · iexists (A6.view.writes (Elt F) f6 [⟨Rect.unit (s := S512x768) (k0_off10 c) S128x768.size (k0_off10_inb c k0_h6), quarterV J 0 (rw0 c)⟩])
    isplitr
    · ipureintro
      exact stored c f6 _ _ _ _ (off10_eq c k0_h6)
    · iexact H6
  · iexists _; iexact H7

/-- On devices 1 and 2, the mate's quarter, as the kernel spells it. -/
abbrev late10 (d0 : Dev nD) (v18 : BitVec 32) (k0_h10 : k0_cond10 d0 = 1#1) : Prog (TpuEff nD τ sig (Elt F) Λ₀ .tc) PUnit := do
  let ⟨v281, v288, v310, v312⟩ : Σ' (v281 : BitVec 32) (v288 : FVec F S128x512 .f32) (v310 : FVec F S128x64 .f32), FVec F S64x512 .f32 ← k0_part22 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) cc0_scratch6 cc0_scratch7 cc0_scratch8 cc0_scratch9 d0 v18 k0_h10
  let v348 : FVec F S128x64 .f32 ← k0_part23 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) cc0_scratch6 cc0_scratch7 cc0_scratch8 cc0_scratch9 v288 v310 v312
  let ⟨v377, v378, v379⟩ : Σ' (v377 : FVec F S512x64 .f32) (v378 : FVec F S128x512 .f32), FVec F S128x512 .f32 ← k0_part24 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) cc0_scratch6 cc0_scratch7 cc0_scratch8 cc0_scratch9 v288 v348
  let v415 : FVec F S128x64 .f32 ← k0_part25 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) cc0_scratch6 cc0_scratch7 cc0_scratch8 cc0_scratch9 v288 v377 v378 v379
  let ⟨v440, v448, v449⟩ : Σ' (v440 : FVec F S512x64 .f32) (v448 : FVec F S128x512 .f32), FVec F S128 .f32 ← k0_part26 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) cc0_scratch6 cc0_scratch7 cc0_scratch8 cc0_scratch9 v288 v415
  let v454 : Vec F S128x64 .f32 ← Prog.lift (.load A7 (Rect.unit (s := S256x512) ![0, 448] S128x64.size inb_S256x512_S128x64_0_448).toLoadRect (View.loadsAt_vmem h_S128x64))
  Prog.lift (.store A7 (Rect.unit (s := S256x512) ![0, 448] S128x64.size inb_S256x512_S128x64_0_448) (k0_pay97 v440 v448 v449) Finset.univ (View.stores_vmem_bits_univ h_S128x64 rfl) (.inl rfl))
  let v457 : Vec F S128x512 .f32 ← Prog.lift (.load A7 (Rect.unit (s := S256x512) ![0, 0] S128x512.size inb_S256x512_S128x512_0_0).toLoadRect (View.loadsAt_vmem h_S128x512))
  let v458 : Vec F S512x768 .f32 ← Prog.lift (.load A2 (Rect.unit (s := S512x768) ![0, 0] S512x768.size inb_S512x768_S512x768_0_0).toLoadRect (View.loadsAt_vmem h_S512x768))
  let v462 : Vec F S128x768 .f32 ← Prog.lift (.load A6 (Rect.unit (s := S512x768) (k0_off12 d0) S128x768.size (k0_off12_inb d0 k0_h10)).toLoadRect (View.loadsAt_vmem h_S128x768))
  Prog.lift (.store A6 (Rect.unit (s := S512x768) (k0_off12 d0) S128x768.size (k0_off12_inb d0 k0_h10)) (k0_pay98 v457 v458) Finset.univ (View.stores_vmem_bits_univ h_S128x768 rfl) (.inl rfl))
  pure ⟨⟩

set_option maxRecDepth 65536 in
set_option maxHeartbeats 4000000 in
/-- On devices 1 and 2, the mate's quarter: stored in the accumulator's rows of that quarter. -/
theorem late10_run (c : Dev nD) (v18 : BitVec 32) (k0_h10 : k0_cond10 c = 1#1) (J : Inp F) (f6 : Bf (F := F) c A6) (f7 : Bf (F := F) c A7) (Kt : PUnit → sProp 𝕄) :
    iprop((ins c J ∗ pt c A6 f6 ∗ pt c A7 f7)
        ∗ ((ins c J ∗ (∃ f6', ⌜Stored c f6 f6' (qk (mate c)) (quarterV J 1 (rw0 (mate c)))⌝ ∗ pt c A6 f6') ∗ (∃ f7', pt (F := F) c A7 f7')) -∗ Kt ⟨⟩))
      ⊢ wp frame (wpE (defs₀ (F := F)) 𝒱₀ (c : Thread nD τ) none) Set.univ (late10 (F := F) c v18 k0_h10) Kt := by
  simp only [late10, k0_part22_eq_skeleton, k0_part23_eq_skeleton, k0_part24_eq_skeleton, k0_part25_eq_skeleton, k0_part26_eq_skeleton]
  unfold k0_part22_skel k0_part23_skel k0_part24_skel k0_part25_skel k0_part26_skel
  unfold ins pt
  iintro ⟨⟨⟨H0, H1, H2, H3, H4⟩, H6, H7⟩, Hk⟩
  sl_exec
  rw [wp_ret]; imodintro
  have e : late10_run.sl.v457 c v18 k0_h10 J = cols128 (head128 (k0_pay39 (xqAt J.x 1 (rw0 (mate c))) (wqAt J.wq)) (kAt J.k 1) (vAt J.v 1)) := by
    rw [← xq_read J.x (k0_off11 c) (k0_off11_inb c k0_h10) 1 (rw0 (mate c)) (off11_eq c k0_h10)]
    unfold late10_run.sl.v457
    unfold late10_run.sl.H7_8
    refine readCov_cols128 _ _ _ _ _ _ _ _ _ ?_ ?_ ?_ ?_ ?_ ?_ ?_ ?_
    · rfl
    · rfl
    · rfl
    · rfl
    · rfl
    · rfl
    · rfl
    · rfl
  rw [e]
  iapply Hk
  isplitl [H0 H1 H2 H3 H4]
  · isplitl [H0]; · iexact H0
    isplitl [H1]; · iexact H1
    isplitl [H2]; · iexact H2
    isplitl [H3]; · iexact H3
    iexact H4
  isplitl [H6]
  · iexists (A6.view.writes (Elt F) f6 [⟨Rect.unit (s := S512x768) (k0_off12 c) S128x768.size (k0_off12_inb c k0_h10), quarterV J 1 (rw0 (mate c))⟩])
    isplitr
    · ipureintro
      exact stored c f6 _ _ _ _ (off12_eq c k0_h10)
    · iexact H6
  · iexists _; iexact H7

/-- On devices 1 and 2, the device's own quarter, as the kernel spells it. -/
abbrev own10 (d0 : Dev nD) (k0_h10 : k0_cond10 d0 = 1#1) : Prog (TpuEff nD τ sig (Elt F) Λ₀ .tc) PUnit := do
  let v486 : Vec F S1x128x768 .f32 ← Prog.lift (.load A0 (Rect.unit (s := S2x256x768) (k0_off16 d0) S1x128x768.size (k0_off16_inb d0 k0_h10)).toLoadRect (View.loadsAt_vmem h_S1x128x768))
  let v488 : Vec F S768x512 .f32 ← Prog.lift (.load A1 (Rect.unit (s := S768x512) ![0, 0] S768x512.size inb_S768x512_S768x512_0_0).toLoadRect (View.loadsAt_vmem h_S768x512))
  let v492 : Vec F S1x1x64x512 .f32 ← Prog.lift (.load A3 (Rect.unit (s := S2x8x64x512) ![1, 0, 0, 0] S1x1x64x512.size inb_S2x8x64x512_S1x1x64x512_1_0_0_0).toLoadRect (View.loadsAt_vmem h_S1x1x64x512))
  let v494 : Vec F S1x1x512x64 .f32 ← Prog.lift (.load A4 (Rect.unit (s := S2x8x512x64) ![1, 0, 0, 0] S1x1x512x64.size inb_S2x8x512x64_S1x1x512x64_1_0_0_0).toLoadRect (View.loadsAt_vmem h_S1x1x512x64))
  let v509 : Vec F S128x64 .f32 ← Prog.lift (.load A7 (Rect.unit (s := S256x512) ![0, 0] S128x64.size inb_S256x512_S128x64_0_0).toLoadRect (View.loadsAt_vmem h_S128x64))
  Prog.lift (.store A7 (Rect.unit (s := S256x512) ![0, 0] S128x64.size inb_S256x512_S128x64_0_0) (k0_pay103 v486 v488 v492 v494) Finset.univ (View.stores_vmem_bits_univ h_S128x64 rfl) (.inl rfl))
  let v513 : Vec F S1x1x64x512 .f32 ← Prog.lift (.load A3 (Rect.unit (s := S2x8x64x512) ![1, 1, 0, 0] S1x1x64x512.size inb_S2x8x64x512_S1x1x64x512_1_1_0_0).toLoadRect (View.loadsAt_vmem h_S1x1x64x512))
  let v550 : FVec F S128x64 .f32 ← k0_part29 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) cc0_scratch6 cc0_scratch7 cc0_scratch8 cc0_scratch9 (k0_pay102 v486 v488) (k0_pay104 v486 v488) (k0_pay105 v513)
  let ⟨v579, v582⟩ : Σ' (v579 : FVec F S512x64 .f32), FVec F S128x512 .f32 ← k0_part30 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) cc0_scratch6 cc0_scratch7 cc0_scratch8 cc0_scratch9 (k0_pay102 v486 v488) v550
  let v617 : FVec F S128x64 .f32 ← k0_part31 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) cc0_scratch6 cc0_scratch7 cc0_scratch8 cc0_scratch9 (k0_pay102 v486 v488) v579 v582
  let ⟨v642, v650, v652⟩ : Σ' (v642 : FVec F S512x64 .f32) (v650 : FVec F S128x512 .f32), FVec F S128x1 .f32 ← k0_part32 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) cc0_scratch6 cc0_scratch7 cc0_scratch8 cc0_scratch9 (k0_pay102 v486 v488) v617
  let v656 : Vec F S128x64 .f32 ← Prog.lift (.load A7 (Rect.unit (s := S256x512) ![0, 448] S128x64.size inb_S256x512_S128x64_0_448).toLoadRect (View.loadsAt_vmem h_S128x64))
  Prog.lift (.store A7 (Rect.unit (s := S256x512) ![0, 448] S128x64.size inb_S256x512_S128x64_0_448) (k0_pay128 v642 v650 v652) Finset.univ (View.stores_vmem_bits_univ h_S128x64 rfl) (.inl rfl))
  let v659 : Vec F S128x512 .f32 ← Prog.lift (.load A7 (Rect.unit (s := S256x512) ![0, 0] S128x512.size inb_S256x512_S128x512_0_0).toLoadRect (View.loadsAt_vmem h_S128x512))
  let v660 : Vec F S512x768 .f32 ← Prog.lift (.load A2 (Rect.unit (s := S512x768) ![0, 0] S512x768.size inb_S512x768_S512x768_0_0).toLoadRect (View.loadsAt_vmem h_S512x768))
  let v664 : Vec F S128x768 .f32 ← Prog.lift (.load A6 (Rect.unit (s := S512x768) (k0_off17 d0) S128x768.size (k0_off17_inb d0 k0_h10)).toLoadRect (View.loadsAt_vmem h_S128x768))
  Prog.lift (.store A6 (Rect.unit (s := S512x768) (k0_off17 d0) S128x768.size (k0_off17_inb d0 k0_h10)) (k0_pay129 v659 v660) Finset.univ (View.stores_vmem_bits_univ h_S128x768 rfl) (.inl rfl))
  pure ⟨⟩

set_option maxRecDepth 65536 in
set_option maxHeartbeats 4000000 in
/-- On devices 1 and 2, the device's own quarter: stored in the accumulator's rows of that quarter. -/
theorem own10_run (c : Dev nD) (k0_h10 : k0_cond10 c = 1#1) (J : Inp F) (f6 : Bf (F := F) c A6) (f7 : Bf (F := F) c A7) (Kt : PUnit → sProp 𝕄) :
    iprop((ins c J ∗ pt c A6 f6 ∗ pt c A7 f7)
        ∗ ((ins c J ∗ (∃ f6', ⌜Stored c f6 f6' (qk c) (quarterV J 1 (rw0 c))⌝ ∗ pt c A6 f6') ∗ (∃ f7', pt (F := F) c A7 f7')) -∗ Kt ⟨⟩))
      ⊢ wp frame (wpE (defs₀ (F := F)) 𝒱₀ (c : Thread nD τ) none) Set.univ (own10 (F := F) c k0_h10) Kt := by
  simp only [own10, k0_part29_eq_skeleton, k0_part30_eq_skeleton, k0_part31_eq_skeleton, k0_part32_eq_skeleton]
  unfold k0_part29_skel k0_part30_skel k0_part31_skel k0_part32_skel
  unfold ins pt
  iintro ⟨⟨⟨H0, H1, H2, H3, H4⟩, H6, H7⟩, Hk⟩
  sl_exec
  rw [wp_ret]; imodintro
  have e : own10_run.sl.v659 c k0_h10 J = cols128 (head128 (k0_pay39 (xqAt J.x 1 (rw0 c)) (wqAt J.wq)) (kAt J.k 1) (vAt J.v 1)) := by
    rw [← xq_read J.x (k0_off16 c) (k0_off16_inb c k0_h10) 1 (rw0 c) (off16_eq c k0_h10)]
    unfold own10_run.sl.v659
    unfold own10_run.sl.H7_8
    refine readCov_cols128 _ _ _ _ _ _ _ _ _ ?_ ?_ ?_ ?_ ?_ ?_ ?_ ?_
    · rfl
    · rfl
    · rfl
    · rfl
    · rfl
    · rfl
    · rfl
    · rfl
  rw [e]
  iapply Hk
  isplitl [H0 H1 H2 H3 H4]
  · isplitl [H0]; · iexact H0
    isplitl [H1]; · iexact H1
    isplitl [H2]; · iexact H2
    isplitl [H3]; · iexact H3
    iexact H4
  isplitl [H6]
  · iexists (A6.view.writes (Elt F) f6 [⟨Rect.unit (s := S512x768) (k0_off17 c) S128x768.size (k0_off17_inb c k0_h10), quarterV J 1 (rw0 c)⟩])
    isplitr
    · ipureintro
      exact stored c f6 _ _ _ _ (off17_eq c k0_h10)
    · iexact H6
  · iexists _; iexact H7

end Cert.KernelIdeal.Hand
-- ==== Proof.Sends.lean ====
/-
  The sends each device makes early, before its second batch's quarters, and late, once its mate's quarter is computed.
-/
module

public import proofs.«01_k».proof.Proof.Talk
public import proofs.«01_k».proof.Proof.Quarter

@[expose] public section

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Which sends are early -/

/-- A send is early when the receiver's quarter lies in the other batch. -/
def e (c : Dev nD) (r : Fin 3) : Bool := decide (bt (peer c r) ≠ bt c)

/-- The send with index 0 pays its debt. -/
theorem debt0 (c : Dev nD) (b1 b2 : Bool) : debt c false b1 b2 = debt c true b1 b2 + tRs c 0 := by
  unfold debt due; simp only [cond_true, cond_false, add_zero]
/-- The send with index 1 pays its debt. -/
theorem debt1 (c : Dev nD) (b0 b2 : Bool) : debt c b0 false b2 = debt c b0 true b2 + tRs c 1 := by
  unfold debt due; simp only [cond_true, cond_false, add_zero]; rw [add_right_comm]
/-- The send with index 2 pays its debt. -/
theorem debt2 (c : Dev nD) (b0 b1 : Bool) : debt c b0 b1 false = debt c b0 b1 true + tRs c 2 := by
  unfold debt due; simp only [cond_true, cond_false, add_zero]; rw [add_right_comm _ (tRs c 2), add_right_comm _ (tRs c 2)]

/-- The records of the three sends. -/
def sendsCtx (I : Dev nD → Inp F) (K : GSem nD τ sig → ℕ) (c : Dev nD) : sProp 𝕄 :=
  iprop(sendCtx I K c 0 ∗ sendCtx I K c 1 ∗ sendCtx I K c 2)
/-- This may be consulted any number of times. -/
instance sendsCtx_persistent (I : Dev nD → Inp F) (K : GSem nD τ sig → ℕ) (c : Dev nD) :
    BI.Persistent (sendsCtx I K c) := by unfold sendsCtx; infer_instance

/-- The three sends' states and the debt. -/
def sends (c : Dev nD) (b0 b1 b2 : Bool) : sProp 𝕄 :=
  iprop(st (F := F) c 0 b0 ∗ st (F := F) c 1 b1 ∗ st (F := F) c 2 b2 ∗ (∃ W, owes (c : Thread nD τ) (debt c b0 b1 b2) W))

/-- The other batch's quarters, computed. -/
def Other (I : Dev nD → Inp F) (c : Dev nD) (f6 : Bf (F := F) c A6) : Prop := ∀ d, bt d ≠ bt c → RdAt c f6 (qk d) (blk I c d)

/-- The kernel's test: the quarter of the peer with index 0 lies in the other batch. -/
theorem cond3_iff (c : Dev nD) : k0_cond3 c = 1#1 ↔ bt (peer c 0) ≠ bt c := by revert c; decide
/-- The kernel's test: the quarter of the peer with index 1 lies in the other batch. -/
theorem cond4_iff (c : Dev nD) : k0_cond4 c = 1#1 ↔ bt (peer c 1) ≠ bt c := by revert c; decide
/-- The kernel's test: the quarter of the peer with index 2 lies in the other batch. -/
theorem cond5_iff (c : Dev nD) : k0_cond5 c = 1#1 ↔ bt (peer c 2) ≠ bt c := by revert c; decide
/-- The early send with index 0 reads the quarter of the peer with index 0. -/
theorem off1_eq (c : Dev nD) (h : k0_cond3 c = 1#1) : k0_off1 c = ![qk (peer c 0), 0] := by revert c; decide
/-- The early send with index 1 reads the quarter of the peer with index 1. -/
theorem off2_eq (c : Dev nD) (h : k0_cond4 c = 1#1) : k0_off2 c = ![qk (peer c 1), 0] := by revert c; decide
/-- The early send with index 2 reads the quarter of the peer with index 2. -/
theorem off3_eq (c : Dev nD) (h : k0_cond5 c = 1#1) : k0_off3 c = ![qk (peer c 2), 0] := by revert c; decide
/-- The early send with index 0 goes to the peer with index 0. -/
theorem dev4_eq (c : Dev nD) (h : k0_cond3 c = 1#1) : (⟨k0_dev4 c, k0_dev4_lt c h⟩ : Dev nD) = peer c 0 := by revert c; decide
/-- The early send with index 1 goes to the peer with index 1. -/
theorem dev5_eq (c : Dev nD) (h : k0_cond4 c = 1#1) : (⟨k0_dev5 c, k0_dev5_lt c h⟩ : Dev nD) = peer c 1 := by revert c; decide
/-- The early send with index 2 goes to the peer with index 2. -/
theorem dev6_eq (c : Dev nD) (h : k0_cond5 c = 1#1) : (⟨k0_dev6 c, k0_dev6_lt c h⟩ : Dev nD) = peer c 2 := by revert c; decide

/-- A quarter in the other batch is sent early. -/
theorem early_true {c : Dev nD} {r : Fin 3} (h : bt (peer c r) ≠ bt c) : false = false ∧ e c r = true := ⟨rfl, decide_eq_true h⟩
/-- A quarter in the own batch is not sent early. -/
theorem early_false {c : Dev nD} {r : Fin 3} (h : ¬bt (peer c r) ≠ bt c) : e c r = false := decide_eq_false h

/-- A store may fill a slot of the send buffer. -/
theorem slot_stores (r : Fin 3) : (A8.access (slotR r)).Stores Finset.univ :=
  fin3 (P := fun r => (A8.access (slotR r)).Stores Finset.univ)
    (View.stores_vmem h_S1x128x768 ((Memref.isWhole_whole _).storeExact_slice rfl _ packedbf16_S3x128x768_S1x128x768_0_0_0) (fun _ => rfl))
    (View.stores_vmem h_S1x128x768 ((Memref.isWhole_whole _).storeExact_slice rfl _ packedbf16_S3x128x768_S1x128x768_1_0_0) (fun _ => rfl))
    (View.stores_vmem h_S1x128x768 ((Memref.isWhole_whole _).storeExact_slice rfl _ packedbf16_S3x128x768_S1x128x768_2_0_0) (fun _ => rfl)) r
/-- A slot of the send buffer is whole words. -/
theorem slot_words8 (r : Fin 3) : (slotM A8 r).view.WordExact :=
  fin3 (P := fun r => (slotM A8 r).view.WordExact)
    (((Memref.isWhole_whole _).wordExact_slice rfl _ wordsbf16_S3x128x768_S1x128x768_0_0_0).reshape _ _)
    (((Memref.isWhole_whole _).wordExact_slice rfl _ wordsbf16_S3x128x768_S1x128x768_1_0_0).reshape _ _)
    (((Memref.isWhole_whole _).wordExact_slice rfl _ wordsbf16_S3x128x768_S1x128x768_2_0_0).reshape _ _) r
/-- A slot of the shares' receive buffer is whole words. -/
theorem slot_words9 (r : Fin 3) : (slotM A9 r).view.WordExact :=
  fin3 (P := fun r => (slotM A9 r).view.WordExact)
    (((Memref.isWhole_whole _).wordExact_slice rfl _ wordsbf16_S3x128x768_S1x128x768_0_0_0).reshape _ _)
    (((Memref.isWhole_whole _).wordExact_slice rfl _ wordsbf16_S3x128x768_S1x128x768_1_0_0).reshape _ _)
    (((Memref.isWhole_whole _).wordExact_slice rfl _ wordsbf16_S3x128x768_S1x128x768_2_0_0).reshape _ _) r

/-- The send with index `r`, under its condition. -/
abbrev sendIf (r : Fin 3) (P : Prop) [Decidable P] (off : Fin 2 → ℕ) (hin : P → ∀ a, off a + S128x768.size a ≤ S512x768.size a)
    (pay : Vec F S128x768 .f32 → FVec F S1x128x768 .bf16) (dst : P → Dev nD) : Prog (TpuEff nD τ sig (Elt F) Λ₀ .tc) PUnit :=
  if h : P then sendP r off (hin h) pay (dst h) (slot_stores r) (.inl rfl) (slot_words8 r) (slot_words9 r.rev) ⟨⟨rfl, Or.inl rfl⟩, trivial⟩
  else pure ⟨⟩

/-- The early sends, in order. -/
abbrev early (d0 : Dev nD) : Prog (TpuEff nD τ sig (Elt F) Λ₀ .tc) PUnit := do
  sendIf 0 (k0_cond3 d0 = 1#1) (k0_off1 d0) (k0_off1_inb d0) k0_pay123 (fun h => ⟨k0_dev4 d0, k0_dev4_lt d0 h⟩)
  sendIf 1 (k0_cond4 d0 = 1#1) (k0_off2 d0) (k0_off2_inb d0) k0_pay124 (fun h => ⟨k0_dev5 d0, k0_dev5_lt d0 h⟩)
  sendIf 2 (k0_cond5 d0 = 1#1) (k0_off3 d0) (k0_off3_inb d0) k0_pay125 (fun h => ⟨k0_dev6 d0, k0_dev6_lt d0 h⟩)
  pure ⟨⟩

set_option maxRecDepth 65536 in
/-- The printed part is the early sends. -/
theorem early_eq (d0 : Dev nD) (v5 v8 v11 v25 v32 v39 : BitVec 32) (v49 : BitVec 1) (v50 : BitVec 32) :
    k0_part35 (F := F) A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) cc0_scratch6 cc0_scratch7 cc0_scratch8 cc0_scratch9 d0 v5 v8 v11 v25 v32 v39 v49 v50 = early d0 := by
  rw [k0_part35_eq_skeleton]
  unfold k0_part35_skel early sendIf
  by_cases h3 : k0_cond3 d0 = 1#1 <;> by_cases h4 : k0_cond4 d0 = 1#1 <;> by_cases h5 : k0_cond5 d0 = 1#1 <;>
    simp only [dif_pos, dif_neg, h3, h4, h5, not_false_eq_true] <;> rfl

set_option maxHeartbeats 2000000 in
/-- The early sends, from the other batch's quarters. -/
theorem early_run (I : Dev nD → Inp F) (K : GSem nD τ sig → ℕ) (c : Dev nD) (f6 : Bf (F := F) c A6) (Kt : PUnit → sProp 𝕄) (h6 : Other I c f6) :
    iprop((sendsCtx I K c ∗ pt c A6 f6 ∗ sends c false false false)
        ∗ ((pt c A6 f6 ∗ sends c (e c 0) (e c 1) (e c 2)) -∗ Kt ⟨⟩))
      ⊢ wp frame (wpE (defs₀ (F := F)) 𝒱₀ (c : Thread nD τ) none) Set.univ (early (F := F) c) Kt := by
  unfold early sends sendsCtx
  iintro ⟨⟨⟨#HC0, #HC1, #HC2⟩, H6, Hs0, Hs1, Hs2, HO⟩, Hk⟩
  rw [wp_bind]
  iapply (send_if I K c 0 (k0_cond3 c = 1#1) (k0_off1 c) (k0_off1_inb c) k0_pay123 (fun h => ⟨k0_dev4 c, k0_dev4_lt c h⟩) _ _ _ _ _
    f6 (fun b => debt c b false false) false (e c 0) _
    (fun h => early_true ((cond3_iff c).mp h)) (fun h => early_false (fun h' => h ((cond3_iff c).mpr h')))
    (off1_eq c) (dev4_eq c) (fun _ => rfl) (debt0 c _ _) (fun h => h6 _ ((cond3_iff c).mp h)))
  isplitl [H6 Hs0 HO]
  · isplitr; · iexact HC0
    isplitl [H6]; · iexact H6
    isplitl [Hs0]; · iexact Hs0
    iexact HO
  iintro ⟨H6, Hs0, HO⟩
  rw [wp_bind]
  iapply (send_if I K c 1 (k0_cond4 c = 1#1) (k0_off2 c) (k0_off2_inb c) k0_pay124 (fun h => ⟨k0_dev5 c, k0_dev5_lt c h⟩) _ _ _ _ _
    f6 (fun b => debt c (e c 0) b false) false (e c 1) _
    (fun h => early_true ((cond4_iff c).mp h)) (fun h => early_false (fun h' => h ((cond4_iff c).mpr h')))
    (off2_eq c) (dev5_eq c) (fun _ => rfl) (debt1 c _ _) (fun h => h6 _ ((cond4_iff c).mp h)))
  isplitl [H6 Hs1 HO]
  · isplitr; · iexact HC1
    isplitl [H6]; · iexact H6
    isplitl [Hs1]; · iexact Hs1
    iexact HO
  iintro ⟨H6, Hs1, HO⟩
  rw [wp_bind]
  iapply (send_if I K c 2 (k0_cond5 c = 1#1) (k0_off3 c) (k0_off3_inb c) k0_pay125 (fun h => ⟨k0_dev6 c, k0_dev6_lt c h⟩) _ _ _ _ _
    f6 (fun b => debt c (e c 0) (e c 1) b) false (e c 2) _
    (fun h => early_true ((cond5_iff c).mp h)) (fun h => early_false (fun h' => h ((cond5_iff c).mpr h')))
    (off3_eq c) (dev6_eq c) (fun _ => rfl) (debt2 c _ _) (fun h => h6 _ ((cond5_iff c).mp h)))
  isplitl [H6 Hs2 HO]
  · isplitr; · iexact HC2
    isplitl [H6]; · iexact H6
    isplitl [Hs2]; · iexact Hs2
    iexact HO
  iintro ⟨H6, Hs2, HO⟩
  rw [Prog.pure_eq_ret, wp_ret]; imodintro
  iapply Hk
  isplitl [H6]; · iexact H6
  isplitl [Hs0]; · iexact Hs0
  isplitl [Hs1]; · iexact Hs1
  isplitl [Hs2]; · iexact Hs2
  iexact HO

end Cert.KernelIdeal.Hand
-- ==== Proof.Second.lean ====
/-
  The second phase of a device: its mate's quarter, the sends that had to wait for it, and its own quarter.
-/
module

public import proofs.«01_k».proof.Proof.Sends

@[expose] public section

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The mate's quarter lies in the same batch. -/
theorem bt_mate (c : Dev nD) : bt (mate c) = bt c := by revert c; decide
/-- A peer whose quarter lies in the same batch is the mate. -/
theorem peer_mate (c : Dev nD) (r : Fin 3) (h : ¬bt (peer c r) ≠ bt c) : peer c r = mate c := by revert c r; decide

/-- The kernel's test, own batch 0: the peer with index 0 is the mate. -/
theorem cond7_iff (c : Dev nD) (h : k0_cond6 c = 1#1) : k0_cond7 c = 1#1 ↔ ¬bt (peer c 0) ≠ bt c := by revert c; decide
/-- Own batch 0: the send with index 0 reads the quarter of the peer with index 0. -/
theorem off6_eq (c : Dev nD) (h : k0_cond6 c = 1#1) (h' : k0_cond7 c = 1#1) : k0_off6 c = ![qk (peer c 0), 0] := by revert c; decide
/-- Own batch 0: the send with index 0 goes to the peer with index 0. -/
theorem dev7_eq (c : Dev nD) (h : k0_cond6 c = 1#1) (h' : k0_cond7 c = 1#1) : (⟨k0_dev7 c, k0_dev7_lt c h h'⟩ : Dev nD) = peer c 0 := by revert c; decide
/-- The kernel's test, own batch 0: the peer with index 1 is the mate. -/
theorem cond8_iff (c : Dev nD) (h : k0_cond6 c = 1#1) : k0_cond8 c = 1#1 ↔ ¬bt (peer c 1) ≠ bt c := by revert c; decide
/-- Own batch 0: the send with index 1 reads the quarter of the peer with index 1. -/
theorem off7_eq (c : Dev nD) (h : k0_cond6 c = 1#1) (h' : k0_cond8 c = 1#1) : k0_off7 c = ![qk (peer c 1), 0] := by revert c; decide
/-- Own batch 0: the send with index 1 goes to the peer with index 1. -/
theorem dev8_eq (c : Dev nD) (h : k0_cond6 c = 1#1) (h' : k0_cond8 c = 1#1) : (⟨k0_dev8 c, k0_dev8_lt c h h'⟩ : Dev nD) = peer c 1 := by revert c; decide
/-- The kernel's test, own batch 0: the peer with index 2 is the mate. -/
theorem cond9_iff (c : Dev nD) (h : k0_cond6 c = 1#1) : k0_cond9 c = 1#1 ↔ ¬bt (peer c 2) ≠ bt c := by revert c; decide
/-- Own batch 0: the send with index 2 reads the quarter of the peer with index 2. -/
theorem off8_eq (c : Dev nD) (h : k0_cond6 c = 1#1) (h' : k0_cond9 c = 1#1) : k0_off8 c = ![qk (peer c 2), 0] := by revert c; decide
/-- Own batch 0: the send with index 2 goes to the peer with index 2. -/
theorem dev9_eq (c : Dev nD) (h : k0_cond6 c = 1#1) (h' : k0_cond9 c = 1#1) : (⟨k0_dev9 c, k0_dev9_lt c h h'⟩ : Dev nD) = peer c 2 := by revert c; decide
/-- The device's own batch is 0. -/
theorem bt_own6 (c : Dev nD) (h : k0_cond6 c = 1#1) : bt c = 0 := by revert c; decide
/-- The share of the mate's quarter, when the own batch is 0. -/
theorem blk_mate6 (I : Dev nD → Inp F) (c : Dev nD) (h : k0_cond6 c = 1#1) : blk I c (mate c) = quarterV (I c) 0 (rw0 (mate c)) := by
  unfold blk; rw [if_pos (bt_mate c), bt_mate, bt_own6 c h]
/-- The share of the device's own quarter, when the own batch is 0. -/
theorem blk_own6 (I : Dev nD → Inp F) (c : Dev nD) (h : k0_cond6 c = 1#1) : blk I c c = quarterV (I c) 0 (rw0 c) := by
  unfold blk; rw [if_pos rfl, bt_own6 c h]

/-- The second phase of the devices whose own batch is 0. -/
abbrev mid6 (d0 : Dev nD) (v18 : BitVec 32) (h : k0_cond6 d0 = 1#1) : Prog (TpuEff nD τ sig (Elt F) Λ₀ .tc) PUnit := do
  late6 d0 v18 h
  sendIf 0 (k0_cond7 d0 = 1#1) (k0_off6 d0) (k0_off6_inb d0 h) k0_pay59 (fun h' => ⟨k0_dev7 d0, k0_dev7_lt d0 h h'⟩)
  sendIf 1 (k0_cond8 d0 = 1#1) (k0_off7 d0) (k0_off7_inb d0 h) k0_pay60 (fun h' => ⟨k0_dev8 d0, k0_dev8_lt d0 h h'⟩)
  sendIf 2 (k0_cond9 d0 = 1#1) (k0_off8 d0) (k0_off8_inb d0 h) k0_pay61 (fun h' => ⟨k0_dev9 d0, k0_dev9_lt d0 h h'⟩)
  own6 d0 h

set_option maxHeartbeats 2000000 in
/-- The second phase: every share has been sent, and the device's own quarter holds its share. -/
theorem mid6_run (I : Dev nD → Inp F) (K : GSem nD τ sig → ℕ) (c : Dev nD) (v18 : BitVec 32) (h : k0_cond6 c = 1#1)
    (f6 : Bf (F := F) c A6) (f7 : Bf (F := F) c A7) (Kt : PUnit → sProp 𝕄) :
    iprop((sendsCtx I K c ∗ ins c (I c) ∗ pt c A6 f6 ∗ pt c A7 f7 ∗ sends c (e c 0) (e c 1) (e c 2))
        ∗ ((ins c (I c) ∗ (∃ f6', ⌜RdAt c f6' (qk c) (blk I c c)⌝ ∗ pt c A6 f6') ∗ (∃ f7', pt (F := F) c A7 f7')
          ∗ sends c true true true) -∗ Kt ⟨⟩))
      ⊢ wp frame (wpE (defs₀ (F := F)) 𝒱₀ (c : Thread nD τ) none) Set.univ (mid6 (F := F) c v18 h) Kt := by
  unfold mid6 sends sendsCtx
  iintro ⟨⟨⟨#HC0, #HC1, #HC2⟩, Hin, H6, H7, Hs0, Hs1, Hs2, HO⟩, Hk⟩
  rw [wp_bind]
  iapply (late6_run c v18 h (I c) f6 f7)
  isplitl [Hin H6 H7]
  · isplitl [Hin]; · iexact Hin
    isplitl [H6]; · iexact H6
    iexact H7
  iintro ⟨Hin, ⟨%g6, %hg, H6⟩, ⟨%g7, H7⟩⟩
  have hm : ∀ r : Fin 3, ¬bt (peer c r) ≠ bt c → RdAt c g6 (qk (peer c r)) (blk I c (peer c r)) := fun r hr => by
    rw [peer_mate c r hr, blk_mate6 I c h]; exact hg.1
  rw [wp_bind]
  iapply (send_if I K c 0 (k0_cond7 c = 1#1) (k0_off6 c) (k0_off6_inb c h) k0_pay59 (fun h' => ⟨k0_dev7 c, k0_dev7_lt c h h'⟩) _ _ _ _ _
    g6 (fun b => debt c b (e c 1) (e c 2)) (e c 0) true _
    (fun h' => ⟨early_false ((cond7_iff c h).mp h'), rfl⟩) (fun h' => (early_true (Decidable.not_not.mp (fun hh => h' ((cond7_iff c h).mpr hh)))).2.symm)
    (off6_eq c h) (dev7_eq c h) (fun _ => rfl) (debt0 c _ _) (fun h' => hm _ ((cond7_iff c h).mp h')))
  isplitl [H6 Hs0 HO]
  · isplitr; · iexact HC0
    isplitl [H6]; · iexact H6
    isplitl [Hs0]; · iexact Hs0
    iexact HO
  iintro ⟨H6, Hs0, HO⟩
  rw [wp_bind]
  iapply (send_if I K c 1 (k0_cond8 c = 1#1) (k0_off7 c) (k0_off7_inb c h) k0_pay60 (fun h' => ⟨k0_dev8 c, k0_dev8_lt c h h'⟩) _ _ _ _ _
    g6 (fun b => debt c true b (e c 2)) (e c 1) true _
    (fun h' => ⟨early_false ((cond8_iff c h).mp h'), rfl⟩) (fun h' => (early_true (Decidable.not_not.mp (fun hh => h' ((cond8_iff c h).mpr hh)))).2.symm)
    (off7_eq c h) (dev8_eq c h) (fun _ => rfl) (debt1 c _ _) (fun h' => hm _ ((cond8_iff c h).mp h')))
  isplitl [H6 Hs1 HO]
  · isplitr; · iexact HC1
    isplitl [H6]; · iexact H6
    isplitl [Hs1]; · iexact Hs1
    iexact HO
  iintro ⟨H6, Hs1, HO⟩
  rw [wp_bind]
  iapply (send_if I K c 2 (k0_cond9 c = 1#1) (k0_off8 c) (k0_off8_inb c h) k0_pay61 (fun h' => ⟨k0_dev9 c, k0_dev9_lt c h h'⟩) _ _ _ _ _
    g6 (fun b => debt c true true b) (e c 2) true _
    (fun h' => ⟨early_false ((cond9_iff c h).mp h'), rfl⟩) (fun h' => (early_true (Decidable.not_not.mp (fun hh => h' ((cond9_iff c h).mpr hh)))).2.symm)
    (off8_eq c h) (dev9_eq c h) (fun _ => rfl) (debt2 c _ _) (fun h' => hm _ ((cond9_iff c h).mp h')))
  isplitl [H6 Hs2 HO]
  · isplitr; · iexact HC2
    isplitl [H6]; · iexact H6
    isplitl [Hs2]; · iexact Hs2
    iexact HO
  iintro ⟨H6, Hs2, HO⟩
  iapply (own6_run c h (I c) g6 g7)
  isplitl [Hin H6 H7]
  · isplitl [Hin]; · iexact Hin
    isplitl [H6]; · iexact H6
    iexact H7
  iintro ⟨Hin, ⟨%k6, %hk, H6⟩, H7⟩
  iapply Hk
  isplitl [Hin]; · iexact Hin
  isplitl [H6]
  · iexists k6
    isplitr
    · ipureintro; rw [blk_own6 I c h]; exact hk.1
    · iexact H6
  isplitl [H7]; · iexact H7
  isplitl [Hs0]; · iexact Hs0
  isplitl [Hs1]; · iexact Hs1
  isplitl [Hs2]; · iexact Hs2
  iexact HO

/-- The kernel's test, own batch 1: the peer with index 0 is the mate. -/
theorem cond11_iff (c : Dev nD) (h : k0_cond10 c = 1#1) : k0_cond11 c = 1#1 ↔ ¬bt (peer c 0) ≠ bt c := by revert c; decide
/-- Own batch 1: the send with index 0 reads the quarter of the peer with index 0. -/
theorem off13_eq (c : Dev nD) (h : k0_cond10 c = 1#1) (h' : k0_cond11 c = 1#1) : k0_off13 c = ![qk (peer c 0), 0] := by revert c; decide
/-- Own batch 1: the send with index 0 goes to the peer with index 0. -/
theorem dev10_eq (c : Dev nD) (h : k0_cond10 c = 1#1) (h' : k0_cond11 c = 1#1) : (⟨k0_dev10 c, k0_dev10_lt c h h'⟩ : Dev nD) = peer c 0 := by revert c; decide
/-- The kernel's test, own batch 1: the peer with index 1 is the mate. -/
theorem cond12_iff (c : Dev nD) (h : k0_cond10 c = 1#1) : k0_cond12 c = 1#1 ↔ ¬bt (peer c 1) ≠ bt c := by revert c; decide
/-- Own batch 1: the send with index 1 reads the quarter of the peer with index 1. -/
theorem off14_eq (c : Dev nD) (h : k0_cond10 c = 1#1) (h' : k0_cond12 c = 1#1) : k0_off14 c = ![qk (peer c 1), 0] := by revert c; decide
/-- Own batch 1: the send with index 1 goes to the peer with index 1. -/
theorem dev11_eq (c : Dev nD) (h : k0_cond10 c = 1#1) (h' : k0_cond12 c = 1#1) : (⟨k0_dev11 c, k0_dev11_lt c h h'⟩ : Dev nD) = peer c 1 := by revert c; decide
/-- The kernel's test, own batch 1: the peer with index 2 is the mate. -/
theorem cond13_iff (c : Dev nD) (h : k0_cond10 c = 1#1) : k0_cond13 c = 1#1 ↔ ¬bt (peer c 2) ≠ bt c := by revert c; decide
/-- Own batch 1: the send with index 2 reads the quarter of the peer with index 2. -/
theorem off15_eq (c : Dev nD) (h : k0_cond10 c = 1#1) (h' : k0_cond13 c = 1#1) : k0_off15 c = ![qk (peer c 2), 0] := by revert c; decide
/-- Own batch 1: the send with index 2 goes to the peer with index 2. -/
theorem dev12_eq (c : Dev nD) (h : k0_cond10 c = 1#1) (h' : k0_cond13 c = 1#1) : (⟨k0_dev12 c, k0_dev12_lt c h h'⟩ : Dev nD) = peer c 2 := by revert c; decide
/-- The device's own batch is 1. -/
theorem bt_own10 (c : Dev nD) (h : k0_cond10 c = 1#1) : bt c = 1 := by revert c; decide
/-- The share of the mate's quarter, when the own batch is 1. -/
theorem blk_mate10 (I : Dev nD → Inp F) (c : Dev nD) (h : k0_cond10 c = 1#1) : blk I c (mate c) = quarterV (I c) 1 (rw0 (mate c)) := by
  unfold blk; rw [if_pos (bt_mate c), bt_mate, bt_own10 c h]
/-- The share of the device's own quarter, when the own batch is 1. -/
theorem blk_own10 (I : Dev nD → Inp F) (c : Dev nD) (h : k0_cond10 c = 1#1) : blk I c c = quarterV (I c) 1 (rw0 c) := by
  unfold blk; rw [if_pos rfl, bt_own10 c h]

/-- The second phase of the devices whose own batch is 1. -/
abbrev mid10 (d0 : Dev nD) (v18 : BitVec 32) (h : k0_cond10 d0 = 1#1) : Prog (TpuEff nD τ sig (Elt F) Λ₀ .tc) PUnit := do
  late10 d0 v18 h
  sendIf 0 (k0_cond11 d0 = 1#1) (k0_off13 d0) (k0_off13_inb d0 h) k0_pay99 (fun h' => ⟨k0_dev10 d0, k0_dev10_lt d0 h h'⟩)
  sendIf 1 (k0_cond12 d0 = 1#1) (k0_off14 d0) (k0_off14_inb d0 h) k0_pay100 (fun h' => ⟨k0_dev11 d0, k0_dev11_lt d0 h h'⟩)
  sendIf 2 (k0_cond13 d0 = 1#1) (k0_off15 d0) (k0_off15_inb d0 h) k0_pay101 (fun h' => ⟨k0_dev12 d0, k0_dev12_lt d0 h h'⟩)
  own10 d0 h

set_option maxHeartbeats 2000000 in
/-- The second phase: every share has been sent, and the device's own quarter holds its share. -/
theorem mid10_run (I : Dev nD → Inp F) (K : GSem nD τ sig → ℕ) (c : Dev nD) (v18 : BitVec 32) (h : k0_cond10 c = 1#1)
    (f6 : Bf (F := F) c A6) (f7 : Bf (F := F) c A7) (Kt : PUnit → sProp 𝕄) :
    iprop((sendsCtx I K c ∗ ins c (I c) ∗ pt c A6 f6 ∗ pt c A7 f7 ∗ sends c (e c 0) (e c 1) (e c 2))
        ∗ ((ins c (I c) ∗ (∃ f6', ⌜RdAt c f6' (qk c) (blk I c c)⌝ ∗ pt c A6 f6') ∗ (∃ f7', pt (F := F) c A7 f7')
          ∗ sends c true true true) -∗ Kt ⟨⟩))
      ⊢ wp frame (wpE (defs₀ (F := F)) 𝒱₀ (c : Thread nD τ) none) Set.univ (mid10 (F := F) c v18 h) Kt := by
  unfold mid10 sends sendsCtx
  iintro ⟨⟨⟨#HC0, #HC1, #HC2⟩, Hin, H6, H7, Hs0, Hs1, Hs2, HO⟩, Hk⟩
  rw [wp_bind]
  iapply (late10_run c v18 h (I c) f6 f7)
  isplitl [Hin H6 H7]
  · isplitl [Hin]; · iexact Hin
    isplitl [H6]; · iexact H6
    iexact H7
  iintro ⟨Hin, ⟨%g6, %hg, H6⟩, ⟨%g7, H7⟩⟩
  have hm : ∀ r : Fin 3, ¬bt (peer c r) ≠ bt c → RdAt c g6 (qk (peer c r)) (blk I c (peer c r)) := fun r hr => by
    rw [peer_mate c r hr, blk_mate10 I c h]; exact hg.1
  rw [wp_bind]
  iapply (send_if I K c 0 (k0_cond11 c = 1#1) (k0_off13 c) (k0_off13_inb c h) k0_pay99 (fun h' => ⟨k0_dev10 c, k0_dev10_lt c h h'⟩) _ _ _ _ _
    g6 (fun b => debt c b (e c 1) (e c 2)) (e c 0) true _
    (fun h' => ⟨early_false ((cond11_iff c h).mp h'), rfl⟩) (fun h' => (early_true (Decidable.not_not.mp (fun hh => h' ((cond11_iff c h).mpr hh)))).2.symm)
    (off13_eq c h) (dev10_eq c h) (fun _ => rfl) (debt0 c _ _) (fun h' => hm _ ((cond11_iff c h).mp h')))
  isplitl [H6 Hs0 HO]
  · isplitr; · iexact HC0
    isplitl [H6]; · iexact H6
    isplitl [Hs0]; · iexact Hs0
    iexact HO
  iintro ⟨H6, Hs0, HO⟩
  rw [wp_bind]
  iapply (send_if I K c 1 (k0_cond12 c = 1#1) (k0_off14 c) (k0_off14_inb c h) k0_pay100 (fun h' => ⟨k0_dev11 c, k0_dev11_lt c h h'⟩) _ _ _ _ _
    g6 (fun b => debt c true b (e c 2)) (e c 1) true _
    (fun h' => ⟨early_false ((cond12_iff c h).mp h'), rfl⟩) (fun h' => (early_true (Decidable.not_not.mp (fun hh => h' ((cond12_iff c h).mpr hh)))).2.symm)
    (off14_eq c h) (dev11_eq c h) (fun _ => rfl) (debt1 c _ _) (fun h' => hm _ ((cond12_iff c h).mp h')))
  isplitl [H6 Hs1 HO]
  · isplitr; · iexact HC1
    isplitl [H6]; · iexact H6
    isplitl [Hs1]; · iexact Hs1
    iexact HO
  iintro ⟨H6, Hs1, HO⟩
  rw [wp_bind]
  iapply (send_if I K c 2 (k0_cond13 c = 1#1) (k0_off15 c) (k0_off15_inb c h) k0_pay101 (fun h' => ⟨k0_dev12 c, k0_dev12_lt c h h'⟩) _ _ _ _ _
    g6 (fun b => debt c true true b) (e c 2) true _
    (fun h' => ⟨early_false ((cond13_iff c h).mp h'), rfl⟩) (fun h' => (early_true (Decidable.not_not.mp (fun hh => h' ((cond13_iff c h).mpr hh)))).2.symm)
    (off15_eq c h) (dev12_eq c h) (fun _ => rfl) (debt2 c _ _) (fun h' => hm _ ((cond13_iff c h).mp h')))
  isplitl [H6 Hs2 HO]
  · isplitr; · iexact HC2
    isplitl [H6]; · iexact H6
    isplitl [Hs2]; · iexact Hs2
    iexact HO
  iintro ⟨H6, Hs2, HO⟩
  iapply (own10_run c h (I c) g6 g7)
  isplitl [Hin H6 H7]
  · isplitl [Hin]; · iexact Hin
    isplitl [H6]; · iexact H6
    iexact H7
  iintro ⟨Hin, ⟨%k6, %hk, H6⟩, H7⟩
  iapply Hk
  isplitl [Hin]; · iexact Hin
  isplitl [H6]
  · iexists k6
    isplitr
    · ipureintro; rw [blk_own10 I c h]; exact hk.1
    · iexact H6
  isplitl [H7]; · iexact H7
  isplitl [Hs0]; · iexact Hs0
  isplitl [Hs1]; · iexact Hs1
  isplitl [Hs2]; · iexact Hs2
  iexact HO

/-- The own batch is 1 when it is not 0. -/
theorem cond10_iff (c : Dev nD) : k0_cond10 c = 1#1 ↔ ¬k0_cond6 c = 1#1 := by revert c; decide

/-- The second phase of every device. -/
abbrev mid (d0 : Dev nD) (v18 : BitVec 32) : Prog (TpuEff nD τ sig (Elt F) Λ₀ .tc) PUnit :=
  if h : k0_cond6 d0 = 1#1 then mid6 d0 v18 h else mid10 d0 v18 ((cond10_iff d0).mpr h)

/-- The second phase: the mate's quarter computed and sent, then the device's own computed. -/
theorem mid_run (I : Dev nD → Inp F) (K : GSem nD τ sig → ℕ) (c : Dev nD) (v18 : BitVec 32)
    (f6 : Bf (F := F) c A6) (f7 : Bf (F := F) c A7) (Kt : PUnit → sProp 𝕄) :
    iprop((sendsCtx I K c ∗ ins c (I c) ∗ pt c A6 f6 ∗ pt c A7 f7 ∗ sends c (e c 0) (e c 1) (e c 2))
        ∗ ((ins c (I c) ∗ (∃ f6', ⌜RdAt c f6' (qk c) (blk I c c)⌝ ∗ pt c A6 f6') ∗ (∃ f7', pt (F := F) c A7 f7')
          ∗ sends c true true true) -∗ Kt ⟨⟩))
      ⊢ wp frame (wpE (defs₀ (F := F)) 𝒱₀ (c : Thread nD τ) none) Set.univ (mid (F := F) c v18) Kt := by
  unfold mid
  by_cases h : k0_cond6 c = 1#1
  · rw [dif_pos h]; exact mid6_run I K c v18 h f6 f7 Kt
  · rw [dif_neg h]; exact mid10_run I K c v18 _ f6 f7 Kt

/-- A share's arrival: wait for it, then add it to the device's quarter. -/
abbrev recvP (k : Fin 3) (off : Fin 2 → ℕ) (hin : ∀ a, off a + S128x768.size a ≤ S512x768.size a)
    (pay : Vec F S128x768 .f32 → Vec F S1x128x768 .bf16 → FVec F S128x768 .f32) : Prog (TpuEff nD τ sig (Elt F) Λ₀ .tc) PUnit := do
  Prog.lift (.waitDma2 (rsRecvS k) (slotM A9 k) (slotM A9 k) (slot_words9 k) (slot_words9 k))
  let v ← Prog.lift (.load A6 (Rect.unit (s := S512x768) off S128x768.size hin).toLoadRect (View.loadsAt_vmem h_S128x768))
  let w ← Prog.lift (.load A9 (slotR k).toLoadRect (View.loadsAt_vmem h_S1x128x768))
  let _ ← Prog.lift (.load A6 (Rect.unit (s := S512x768) off S128x768.size hin).toLoadRect (View.loadsAt_vmem h_S128x768))
  Prog.lift (.store A6 (Rect.unit (s := S512x768) off S128x768.size hin) (pay v w) Finset.univ (View.stores_vmem_bits_univ h_S128x768 rfl) (.inl rfl))

set_option maxRecDepth 65536 in
set_option maxHeartbeats 4000000 in
/-- The printed part is the second phase followed by the first share's arrival. -/
theorem mid_eq (d0 : Dev nD) (v2 v5 v8 v11 v18 v25 v32 v39 : BitVec 32) (v49 : BitVec 1) (v50 : BitVec 32) :
    ∃ w : BitVec 32, k0_part36 (F := F) A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) cc0_scratch6 cc0_scratch7 cc0_scratch8 cc0_scratch9 d0 v2 v5 v8 v11 v18 v25 v32 v39 v49 v50
      = mid d0 v18 >>= fun _ => recvP 0 (k0_off18 d0) (k0_off18_inb d0) k0_pay130 >>= fun _ => pure w := by
  refine ⟨Scalar.muli v2 1#32, ?_⟩
  rw [k0_part36_eq_skeleton]
  unfold k0_part36_skel mid mid6 mid10 late6 late10 own6 own10 sendIf
  by_cases h6 : k0_cond6 d0 = 1#1
  · have h10 : ¬k0_cond10 d0 = 1#1 := fun h => (cond10_iff d0).mp h h6
    by_cases h7 : k0_cond7 d0 = 1#1 <;> by_cases h8 : k0_cond8 d0 = 1#1 <;> by_cases h9 : k0_cond9 d0 = 1#1 <;>
      simp only [k0_part16_eq_skeleton, k0_part17_eq_skeleton, k0_part16_skel, k0_part17_skel, dif_pos, dif_neg, h6, h10, h7, h8, h9, not_false_eq_true] <;> rfl
  · have h10 : k0_cond10 d0 = 1#1 := (cond10_iff d0).mpr h6
    by_cases h7 : k0_cond11 d0 = 1#1 <;> by_cases h8 : k0_cond12 d0 = 1#1 <;> by_cases h9 : k0_cond13 d0 = 1#1 <;>
      simp only [k0_part27_eq_skeleton, k0_part28_eq_skeleton, k0_part27_skel, k0_part28_skel, dif_pos, dif_neg, h6, h10, h7, h8, h9, not_false_eq_true] <;> rfl

end Cert.KernelIdeal.Hand
-- ==== Proof.First.lean ====
/-
  The start of a device's run: the barrier with its three peers, by which each hands the others the slots they may write,
  and the batch computed first, the one whose quarters the device does not own.
-/
module

public import proofs.«01_k».proof.Proof.Second
public import Idealize.ShloMosaic.Lib.Ring

@[expose] public section

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The three slots of a buffer -/

/-- Different slots share no element. -/
theorem slots_disjoint (k k' : Fin 3) (h : k ≠ k') : Disjoint (slotR k).set (slotR k').set := by
  refine Finset.disjoint_left.mpr fun i hi hj => h (Fin.ext ?_)
  have h1 := Rect.mem_set_unit.mp hi 0
  have h2 := Rect.mem_set_unit.mp hj 0
  have e1 : k.val ≤ (i 0).val ∧ (i 0).val < k.val + 1 := h1
  have e2 : k'.val ≤ (i 0).val ∧ (i 0).val < k'.val + 1 := h2
  omega
/-- The three slots are the whole buffer. -/
theorem slots_cover : (Finset.univ : Finset (Fin 3)).biUnion (fun k => (slotR k).set) = Finset.univ := by
  refine Finset.eq_univ_iff_forall.mpr fun i => Finset.mem_biUnion.mpr ⟨(⟨(i 0).val, (i 0).isLt⟩ : Fin 3), Finset.mem_univ _, ?_⟩
  refine Rect.mem_set_unit.mpr fun a => ?_
  match a with
  | ⟨0, _⟩ => exact ⟨le_refl _, Nat.lt_succ_self _⟩
  | ⟨1, _⟩ => exact ⟨Nat.zero_le _, by have := (i 1).isLt; show (i 1).val < 0 + 128; rw [Nat.zero_add]; exact this⟩
  | ⟨2, _⟩ => exact ⟨Nat.zero_le _, by have := (i 2).isLt; show (i 2).val < 0 + 768; rw [Nat.zero_add]; exact this⟩

/-- A slot of the send buffer is its rows of the buffer. -/
theorem set8 (k : Fin 3) : (slotM A8 k).view.set = (slotR k).set := (slot_set A8 k).trans (View.set_slice_whole _ _)
/-- Owning a slot of the send buffer is owning its rows. -/
theorem slotPt8 (c : Dev nD) (k : Fin 3) (f : Bf (F := F) c A8) :
    slotPt A8 k c f = (A8.view.loc (c : Thread nD τ) ↦[(slotR k).set]{fullShare} f : sProp 𝕄) := by unfold slotPt; rw [set8]
/-- The send buffer, whole, gives its three slots. -/
theorem split8 (c : Dev nD) : iprop(∃ f, pt (F := F) c A8 f)
    ⊢ (iprop((∃ f, slotPt A8 0 c f) ∗ (∃ f, slotPt A8 1 c f) ∗ ∃ f, slotPt A8 2 c f) : sProp 𝕄) :=
  Ring.slots3_split (ℓ := A8.view.loc (c : Thread nD τ)) (fun k => (slotR k).set) slots_disjoint slots_cover
    (fun f => slotPt A8 0 c f) (fun f => slotPt A8 1 c f) (fun f => slotPt A8 2 c f) (slotPt8 c 0) (slotPt8 c 1) (slotPt8 c 2)
/-- The three slots give the send buffer, whole. -/
theorem join8 (c : Dev nD) : (iprop((∃ f, slotPt A8 0 c f) ∗ (∃ f, slotPt A8 1 c f) ∗ ∃ f, slotPt A8 2 c f) : sProp 𝕄)
    ⊢ iprop(∃ f, pt (F := F) c A8 f) :=
  Ring.slots3_join (ℓ := A8.view.loc (c : Thread nD τ)) (fun k => (slotR k).set) slots_disjoint slots_cover
    (fun f => slotPt A8 0 c f) (fun f => slotPt A8 1 c f) (fun f => slotPt A8 2 c f) (slotPt8 c 0) (slotPt8 c 1) (slotPt8 c 2)
/-- A slot of the shares' receive buffer is its rows of the buffer. -/
theorem set9 (k : Fin 3) : (slotM A9 k).view.set = (slotR k).set := (slot_set A9 k).trans (View.set_slice_whole _ _)
/-- Owning a slot of the shares' receive buffer is owning its rows. -/
theorem slotPt9 (c : Dev nD) (k : Fin 3) (f : Bf (F := F) c A9) :
    slotPt A9 k c f = (A9.view.loc (c : Thread nD τ) ↦[(slotR k).set]{fullShare} f : sProp 𝕄) := by unfold slotPt; rw [set9]
/-- The shares' receive buffer, whole, gives its three slots. -/
theorem split9 (c : Dev nD) : iprop(∃ f, pt (F := F) c A9 f)
    ⊢ (iprop((∃ f, slotPt A9 0 c f) ∗ (∃ f, slotPt A9 1 c f) ∗ ∃ f, slotPt A9 2 c f) : sProp 𝕄) :=
  Ring.slots3_split (ℓ := A9.view.loc (c : Thread nD τ)) (fun k => (slotR k).set) slots_disjoint slots_cover
    (fun f => slotPt A9 0 c f) (fun f => slotPt A9 1 c f) (fun f => slotPt A9 2 c f) (slotPt9 c 0) (slotPt9 c 1) (slotPt9 c 2)
/-- The three slots give the shares' receive buffer, whole. -/
theorem join9 (c : Dev nD) : (iprop((∃ f, slotPt A9 0 c f) ∗ (∃ f, slotPt A9 1 c f) ∗ ∃ f, slotPt A9 2 c f) : sProp 𝕄)
    ⊢ iprop(∃ f, pt (F := F) c A9 f) :=
  Ring.slots3_join (ℓ := A9.view.loc (c : Thread nD τ)) (fun k => (slotR k).set) slots_disjoint slots_cover
    (fun f => slotPt A9 0 c f) (fun f => slotPt A9 1 c f) (fun f => slotPt A9 2 c f) (slotPt9 c 0) (slotPt9 c 1) (slotPt9 c 2)
/-- A slot of the summed quarters' receive buffer is its rows of the buffer. -/
theorem set11 (k : Fin 3) : (slotM A11 k).view.set = (slotR k).set := (slot_set A11 k).trans (View.set_slice_whole _ _)
/-- Owning a slot of the summed quarters' receive buffer is owning its rows. -/
theorem slotPt11 (c : Dev nD) (k : Fin 3) (f : Bf (F := F) c A11) :
    slotPt A11 k c f = (A11.view.loc (c : Thread nD τ) ↦[(slotR k).set]{fullShare} f : sProp 𝕄) := by unfold slotPt; rw [set11]
/-- The summed quarters' receive buffer, whole, gives its three slots. -/
theorem split11 (c : Dev nD) : iprop(∃ f, pt (F := F) c A11 f)
    ⊢ (iprop((∃ f, slotPt A11 0 c f) ∗ (∃ f, slotPt A11 1 c f) ∗ ∃ f, slotPt A11 2 c f) : sProp 𝕄) :=
  Ring.slots3_split (ℓ := A11.view.loc (c : Thread nD τ)) (fun k => (slotR k).set) slots_disjoint slots_cover
    (fun f => slotPt A11 0 c f) (fun f => slotPt A11 1 c f) (fun f => slotPt A11 2 c f) (slotPt11 c 0) (slotPt11 c 1) (slotPt11 c 2)
/-- The three slots give the summed quarters' receive buffer, whole. -/
theorem join11 (c : Dev nD) : (iprop((∃ f, slotPt A11 0 c f) ∗ (∃ f, slotPt A11 1 c f) ∗ ∃ f, slotPt A11 2 c f) : sProp 𝕄)
    ⊢ iprop(∃ f, pt (F := F) c A11 f) :=
  Ring.slots3_join (ℓ := A11.view.loc (c : Thread nD τ)) (fun k => (slotR k).set) slots_disjoint slots_cover
    (fun f => slotPt A11 0 c f) (fun f => slotPt A11 1 c f) (fun f => slotPt A11 2 c f) (slotPt11 c 0) (slotPt11 c 1) (slotPt11 c 2)

/-! ## The barrier -/

/-- The signal to the peer with index `r`: it hands over the device's own slots `r` of both receive buffers. -/
abbrev signalP (dst : Dev nD) : Prog (TpuEff nD τ sig (Elt F) Λ₀ .tc) PUnit :=
  semSignalWord dst (SemArray.scalar (sig.barrier 0 rfl) : Sems sig S_).sem 1#32

/-- What the signal to peer `r` consults and hands over. -/
def signalCtx (c : Dev nD) (r : Fin 3) : sProp 𝕄 :=
  iprop(reached ER (barCell (peer c r)) 0 ∗ reached ER (rsRecv c r) 0 ∗ reached ER (agRecv c r) 0)
/-- This may be consulted any number of times. -/
instance signalCtx_persistent (c : Dev nD) (r : Fin 3) : BI.Persistent (signalCtx (F := F) c r) := by unfold signalCtx; infer_instance

/-- The signal pays one duty of the peer's barrier and hands over the device's own two slots. -/
theorem signal_run (I : Dev nD → Inp F) (K : GSem nD τ sig → ℕ) (c : Dev nD) (r : Fin 3) (dst : Dev nD) (hdst : dst = peer c r)
    (O O' : CellTallies nD τ sig Unit) (hO : O' = O + tBar c r) (Kt : PUnit → sProp 𝕄) :
    iprop((invs I K ∗ signalCtx c r ∗ (∃ f, slotPt (F := F) A9 r c f) ∗ (∃ f, slotPt (F := F) A11 r c f)
          ∗ dutyTok ER (barCell (peer c r)) 0 r.rev ∗ (∃ W, owes (c : Thread nD τ) O' W))
        ∗ ((∃ W, owes (c : Thread nD τ) O W) -∗ Kt ⟨⟩))
      ⊢ wp frame (wpE (defs₀ (F := F)) 𝒱₀ (c : Thread nD τ) none) Set.univ (signalP (F := F) dst) Kt := by
  subst hdst
  unfold signalCtx
  show _ ⊢ wp frame (wpE (defs₀ (F := F)) 𝒱₀ (c : Thread nD τ) none) Set.univ
    (.op (.semSignal (peer c r : Thread nD τ) barrier0 ((1 : ℕ) : ℤ)) .ret) Kt
  iintro ⟨⟨#HI, ⟨#Hr, #Hr9, #Hr11⟩, H9, H11, Ht, ⟨%W, HO⟩⟩, Hk⟩
  iapply (Rounds.wp_signal 𝒱₀ ER (sched I) (c : Thread nD τ) none (dst := (peer c r : Thread nD τ)) (sem := barrier0) (r := 0) (d := r.rev)
      (κ := K (barCell (peer c r))) (by rw [duties_bar]; exact Finset.mem_univ _) (amount_bar I _ _) () O hO) $$ [HO Ht H9 H11]
  · isplitr; · iapply (inv_at I K (bar_mem (peer c r))); iexact HI
    isplitl [HO]; · iexact HO
    isplitl [Ht]; · iexact Ht
    isplitl [H9 H11]
    · rw [payload_bar]; unfold barPay; rw [peer_peer, Fin.rev_rev]
      isplitl [H9]; · iexact H9
      isplitl [H11]; · iexact H11
      isplitr; · iexact Hr9
      iexact Hr11
    · iexact Hr
  iintro HO
  rw [wp_ret]; imodintro
  iapply Hk
  iexists W; iexact HO

/-- The wait for the three signals. -/
abbrev awaitP : Prog (TpuEff nD τ sig (Elt F) Λ₀ .tc) PUnit := semWaitWord (SemArray.scalar (sig.barrier 0 rfl) : Sems sig S_).sem 3#32

/-- The wait gives the device the slots of its three peers it is to write. -/
theorem await_run (I : Dev nD → Inp F) (K : GSem nD τ sig → ℕ) (c : Dev nD) (Kt : PUnit → sProp 𝕄) :
    iprop((invs I K ∗ levAts L lv ∗ cred (tallyAt (barCell c) () 3) ∗ atPos ER (barCell c) 0 ∅ 0
          ∗ (∃ W, owes (c : Thread nD τ) (debt c false false false) W))
        ∗ ((barPay c 0 ∗ barPay c 1 ∗ barPay c 2 ∗ atPos ER (barCell c) 1 ∅ 0
          ∗ (∃ W, owes (c : Thread nD τ) (debt c false false false) W)) -∗ Kt ⟨⟩))
      ⊢ wp frame (wpE (defs₀ (F := F)) 𝒱₀ (c : Thread nD τ) none) Set.univ (awaitP (F := F)) Kt := by
  show _ ⊢ wp frame (wpE (defs₀ (F := F)) 𝒱₀ (c : Thread nD τ) none) Set.univ
    (.op (.semWait barrier0 ((3 : ℕ) : ℤ)) .ret) Kt
  iintro ⟨⟨#HI, #Hlev, Hc, Hat, ⟨%W, HO⟩⟩, Hk⟩
  iapply (Rounds.wp_wait_rest_token 𝒱₀ ER (sched I) (c : Thread nD τ) none (κ := K (barCell c))
      (wpE_semWait_eq 𝒱₀ (c : Thread nD τ) none Set.univ) (Set.mem_univ _) () (O := debt c false false false) (W := W) (R := 0) (m := 0) (T := ∅)
      ((Nat.zero_add _).trans (expect_bar I c).symm)) $$ [Hc HO Hat]
  · isplitr; · iapply (inv_at I K (bar_mem c)); iexact HI
    isplitl [Hc]; · iexact Hc
    isplitl [HO]; · iexact HO
    isplitr; · iapply (mayWait_bar c); iexact Hlev
    iexact Hat
  iintro ⟨HO, Hat, -, Hpay⟩
  ihave Hp := (Entails.of_eq ((rest_bar I c).trans (Ring.bigSep_fin3 _))) $$ Hpay
  icases Hp with ⟨H0, H1, H2⟩
  rw [wp_ret]; imodintro
  iapply Hk
  isplitl [H0]; · iexact H0
  isplitl [H1]; · iexact H1
  isplitl [H2]; · iexact H2
  isplitl [Hat]; · iexact Hat
  iexists _; iexact HO

/-! ## The first batch -/

/-- The batch computed first: batch 1 on devices 0 and 3, batch 0 on devices 1 and 2. -/
abbrev firstBatch (d0 : Dev nD) : Prog (TpuEff nD τ sig (Elt F) Λ₀ .tc) PUnit :=
  if k0_cond6 d0 = 1#1 then batch1 else batch0

/-- A quarter of batch 1, on a device whose own batch is 0: its rows, and the half of the batch that is its share. -/
theorem other6 (I : Dev nD → Inp F) (c d : Dev nD) (h : k0_cond6 c = 1#1) (hd : bt d ≠ bt c) :
    qk d = 256 + 128 * (rw0 d).val ∧ blk I c d = half (I c) 1 (rw0 d) := by
  have e : bt d = 1 := by revert c d; decide
  exact ⟨by unfold qk; rw [e]; rfl, by unfold blk; rw [if_neg hd, e]⟩
/-- A quarter of batch 0, on a device whose own batch is 1: its rows, and the half of the batch that is its share. -/
theorem other10 (I : Dev nD → Inp F) (c d : Dev nD) (h : ¬k0_cond6 c = 1#1) (hd : bt d ≠ bt c) :
    qk d = 0 + 128 * (rw0 d).val ∧ blk I c d = half (I c) 0 (rw0 d) := by
  have e : bt d = 0 := by revert c d; decide
  exact ⟨by unfold qk; rw [e]; rfl, by unfold blk; rw [if_neg hd, e]⟩

/-- The first batch: the quarters of the other batch are in the accumulator. -/
theorem firstBatch_run (I : Dev nD → Inp F) (c : Dev nD) (f6 : Bf (F := F) c A6) (f7 : Bf (F := F) c A7) (Kt : PUnit → sProp 𝕄) :
    iprop((ins c (I c) ∗ pt c A6 f6 ∗ pt c A7 f7)
        ∗ ((ins c (I c) ∗ (∃ f6', ⌜Other I c f6'⌝ ∗ pt c A6 f6') ∗ (∃ f7', pt (F := F) c A7 f7')) -∗ Kt ⟨⟩))
      ⊢ wp frame (wpE (defs₀ (F := F)) 𝒱₀ (c : Thread nD τ) none) Set.univ (firstBatch (F := F) c) Kt := by
  unfold firstBatch
  by_cases h : k0_cond6 c = 1#1
  · rw [if_pos h]
    iintro ⟨H, Hk⟩
    iapply (batch1_run c (I c) f6 f7 Kt)
    isplitl [H]; · iexact H
    iintro ⟨Hi, ⟨%f6', %h6, H6⟩, H7⟩
    iapply Hk
    isplitl [Hi]; · iexact Hi
    isplitl [H6]
    · iexists f6'
      isplitr [H6]
      · ipureintro
        intro d hd
        rw [(other6 I c d h hd).1, (other6 I c d h hd).2]
        exact h6 _
      · iexact H6
    iexact H7
  · rw [if_neg h]
    iintro ⟨H, Hk⟩
    iapply (batch0_run c (I c) f6 f7 Kt)
    isplitl [H]; · iexact H
    iintro ⟨Hi, ⟨%f6', %h6, H6⟩, H7⟩
    iapply Hk
    isplitl [Hi]; · iexact Hi
    isplitl [H6]
    · iexists f6'
      isplitr [H6]
      · ipureintro
        intro d hd
        rw [(other10 I c d h hd).1, (other10 I c d h hd).2]
        exact h6 _
      · iexact H6
    iexact H7

/-- The barrier, then the first batch. -/
abbrev first (d0 : Dev nD) : Prog (TpuEff nD τ sig (Elt F) Λ₀ .tc) PUnit := do
  signalP ⟨k0_dev1 d0, k0_dev1_lt d0⟩
  signalP ⟨k0_dev2 d0, k0_dev2_lt d0⟩
  signalP ⟨k0_dev3 d0, k0_dev3_lt d0⟩
  awaitP
  firstBatch d0

/-- The device's number, as the kernel computes it. -/
abbrev placeW (d0 : Dev nD) : BitVec 32 := Scalar.remsi (Scalar.divsi (Dev.word d0) 1#32) 4#32
/-- Whether the device's own quarter lies in batch 0, as the kernel computes it. -/
abbrev own0W (v2 : BitVec 32) : BitVec 1 := Scalar.ori (Scalar.cmpi .eq v2 0#32) (Scalar.cmpi .eq v2 3#32)

/-- The kernel's test for an own quarter in batch 0. -/
theorem cond1_word (d0 : Dev nD) : (Scalar.cmpi .ne (Scalar.extui (own0W (placeW d0)) : BitVec 32) 0#32 = 1#1) ↔ k0_cond6 d0 = 1#1 := by revert d0; decide
/-- The kernel's test for an own quarter in batch 1. -/
theorem cond2_word (d0 : Dev nD) : (Scalar.cmpi .ne (Scalar.extui (Scalar.xori (own0W (placeW d0)) 1#1) : BitVec 32) 0#32 = 1#1) ↔ ¬k0_cond6 d0 = 1#1 := by
  revert d0; decide

set_option maxRecDepth 65536 in
set_option maxHeartbeats 4000000 in
/-- The printed part is the barrier and the first batch. -/
theorem first_eq (d0 : Dev nD) (v5 v8 v11 v29 : BitVec 32) :
    ∃ w, k0_part34 (F := F) A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) cc0_scratch6 cc0_scratch7 cc0_scratch8 cc0_scratch9 d0 (placeW d0) v5 v8 v11 v29
      = first d0 >>= fun _ => pure w := by
  refine ⟨?w, ?_⟩
  case w =>
    exact ⟨Scalar.addi v29 (Scalar.select (Scalar.cmpi .sle v8 1#32) 0#32 128#32),
      Scalar.addi (Scalar.select (Scalar.ori (Scalar.cmpi .eq v11 0#32) (Scalar.cmpi .eq v11 3#32)) 0#32 256#32)
        (Scalar.select (Scalar.cmpi .sle v11 1#32) 0#32 128#32),
      own0W (placeW d0), Scalar.select (own0W (placeW d0)) 1#32 0#32⟩
  rw [k0_part34_eq_skeleton]
  unfold k0_part34_skel first firstBatch signalP awaitP
  by_cases h : k0_cond6 d0 = 1#1
  · have h1 := (cond1_word d0).mpr h
    have h2 : ¬_ := fun h' => (cond2_word d0).mp h' h
    simp only [dif_pos h1, dif_neg h2, if_pos h, batch1] <;> rfl
  · have h1 : ¬_ := fun h' => h ((cond1_word d0).mp h')
    have h2 := (cond2_word d0).mpr h
    simp only [dif_neg h1, dif_pos h2, if_neg h, batch0] <;> rfl

/-- The signal with index 0 goes to the peer with index 0. -/
theorem dev1_eq (c : Dev nD) : (⟨k0_dev1 c, k0_dev1_lt c⟩ : Dev nD) = peer c 0 := by revert c; decide
/-- The signal with index 1 goes to the peer with index 1. -/
theorem dev2_eq (c : Dev nD) : (⟨k0_dev2 c, k0_dev2_lt c⟩ : Dev nD) = peer c 1 := by revert c; decide
/-- The signal with index 2 goes to the peer with index 2. -/
theorem dev3_eq (c : Dev nD) : (⟨k0_dev3 c, k0_dev3_lt c⟩ : Dev nD) = peer c 2 := by revert c; decide

/-- What the barrier consults. -/
def shakeCtx (I : Dev nD → Inp F) (K : GSem nD τ sig → ℕ) (c : Dev nD) : sProp 𝕄 :=
  iprop(invs I K ∗ levAts L lv ∗ signalCtx c 0 ∗ signalCtx c 1 ∗ signalCtx c 2)
/-- This may be consulted any number of times. -/
instance shakeCtx_persistent (I : Dev nD → Inp F) (K : GSem nD τ sig → ℕ) (c : Dev nD) :
    BI.Persistent (shakeCtx I K c) := by unfold shakeCtx; infer_instance

set_option maxHeartbeats 2000000 in
/-- The first phase: the peers' slots are in hand, and the other batch's quarters in the accumulator. -/
theorem first_run (I : Dev nD → Inp F) (K : GSem nD τ sig → ℕ) (c : Dev nD) (f6 : Bf (F := F) c A6) (f7 : Bf (F := F) c A7) (Kt : PUnit → sProp 𝕄) :
    iprop((shakeCtx I K c ∗ ins c (I c) ∗ pt c A6 f6 ∗ pt c A7 f7 ∗ (∃ f, pt (F := F) c A9 f) ∗ (∃ f, pt (F := F) c A11 f)
          ∗ dutyTok ER (barCell (peer c 0)) 0 2 ∗ dutyTok ER (barCell (peer c 1)) 0 1 ∗ dutyTok ER (barCell (peer c 2)) 0 0
          ∗ cred (tallyAt (barCell c) () 3) ∗ atPos ER (barCell c) 0 ∅ 0 ∗ (∃ W, owes (c : Thread nD τ) (O₀ c) W))
        ∗ ((ins c (I c) ∗ (∃ f6', ⌜Other I c f6'⌝ ∗ pt c A6 f6') ∗ (∃ f7', pt (F := F) c A7 f7')
          ∗ barPay c 0 ∗ barPay c 1 ∗ barPay c 2 ∗ atPos ER (barCell c) 1 ∅ 0
          ∗ (∃ W, owes (c : Thread nD τ) (debt c false false false) W)) -∗ Kt ⟨⟩))
      ⊢ wp frame (wpE (defs₀ (F := F)) 𝒱₀ (c : Thread nD τ) none) Set.univ (first (F := F) c) Kt := by
  unfold first shakeCtx
  iintro ⟨⟨⟨#HI, #Hlev, #Hs0, #Hs1, #Hs2⟩, Hi, H6, H7, H9, H11, Ht0, Ht1, Ht2, Hc, Hat, HO⟩, Hk⟩
  ihave H9s := (split9 c) $$ H9
  icases H9s with ⟨H90, H91, H92⟩
  ihave H11s := (split11 c) $$ H11
  icases H11s with ⟨H110, H111, H112⟩
  rw [wp_bind]
  iapply (signal_run I K c 0 _ (dev1_eq c) (debt c false false false + tBar c 2 + tBar c 1) (O₀ c) rfl)
  isplitl [H90 H110 Ht0 HO]
  · isplitr; · iexact HI
    isplitr; · iexact Hs0
    isplitl [H90]; · iexact H90
    isplitl [H110]; · iexact H110
    isplitl [Ht0]; · iexact Ht0
    iexact HO
  iintro HO
  rw [wp_bind]
  iapply (signal_run I K c 1 _ (dev2_eq c) (debt c false false false + tBar c 2) _ rfl)
  isplitl [H91 H111 Ht1 HO]
  · isplitr; · iexact HI
    isplitr; · iexact Hs1
    isplitl [H91]; · iexact H91
    isplitl [H111]; · iexact H111
    isplitl [Ht1]; · iexact Ht1
    iexact HO
  iintro HO
  rw [wp_bind]
  iapply (signal_run I K c 2 _ (dev3_eq c) (debt c false false false) _ rfl)
  isplitl [H92 H112 Ht2 HO]
  · isplitr; · iexact HI
    isplitr; · iexact Hs2
    isplitl [H92]; · iexact H92
    isplitl [H112]; · iexact H112
    isplitl [Ht2]; · iexact Ht2
    iexact HO
  iintro HO
  rw [wp_bind]
  iapply (await_run I K c)
  isplitl [Hc Hat HO]
  · isplitr; · iexact HI
    isplitr; · iexact Hlev
    isplitl [Hc]; · iexact Hc
    isplitl [Hat]; · iexact Hat
    iexact HO
  iintro ⟨Hb0, Hb1, Hb2, Hat, HO⟩
  iapply (firstBatch_run I c f6 f7)
  isplitl [Hi H6 H7]
  · isplitl [Hi]; · iexact Hi
    isplitl [H6]; · iexact H6
    iexact H7
  iintro ⟨Hi, H6, H7⟩
  iapply Hk
  isplitl [Hi]; · iexact Hi
  isplitl [H6]; · iexact H6
  isplitl [H7]; · iexact H7
  isplitl [Hb0]; · iexact Hb0
  isplitl [Hb1]; · iexact Hb1
  isplitl [Hb2]; · iexact Hb2
  isplitl [Hat]; · iexact Hat
  iexact HO

end Cert.KernelIdeal.Hand
-- ==== Proof.Tail.lean ====
/-
  The end of a device's run, step by step: the peers' shares arrive and are added, the summed quarter is sent to the three
  peers and stored in the result, the peers' summed quarters arrive and are stored in the result, and every send is waited
  for.
-/
module

public import proofs.«01_k».proof.Proof.First
public import Idealize.ShloMosaic.Lib.ValueLayout

@[expose] public section

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

/-! ## Waiting for a copy -/

/-- What a share's send hands back. -/
theorem dmaPay_rsSend (I : Dev nD → Inp F) (c : Dev nD) (k : Fin 3) : dmaPay I c (rsSendS k) = rsSendPay c k := payload_rsSend I c k 0
/-- What a share's arrival hands over. -/
theorem dmaPay_rsRecv (I : Dev nD → Inp F) (c : Dev nD) (k : Fin 3) : dmaPay I c (rsRecvS k) = rsRecvPay I c k := payload_rsRecv I c k 0
/-- What a summed quarter's send hands back. -/
theorem dmaPay_agSend (I : Dev nD → Inp F) (c : Dev nD) (k : Fin 3) : dmaPay I c (agSendS k) = agSendPay I c k := payload_agSend I c k 0
/-- What a summed quarter's arrival hands over. -/
theorem dmaPay_agRecv (I : Dev nD → Inp F) (c : Dev nD) (k : Fin 3) : dmaPay I c (agRecvS k) = agRecvPay I c k := payload_agRecv I c k 0

/-- A copy's wait hands over what the copy's cell holds. -/
theorem wait_run (I : Dev nD → Inp F) (K : GSem nD τ sig → ℕ) (c : Dev nD) (i : DmaSem sig) (hi : 6 ≤ i.val)
    (hmem : ((c : Thread nD τ), (SemLoc.dma i : SemLoc sig)) ∈ barCells ∪ scCells)
    {sp sp' : Space} {s s' : Shape} {e e' : EltTy} (src : Memref sig .tc sp' s' e') (dst : Memref sig .tc sp s e)
    (h1 : src.view.WordExact) (h2 : dst.view.WordExact) (hN : dst.view.dmaCredit = N)
    (O : CellTallies nD τ sig Unit) (hO : (levAts L lv : sProp 𝕄) ⊢ MayWait (c : Thread nD τ) (.dma i) () O)
    {α : Type} (k : PUnit → Prog (TpuEff nD τ sig (Elt F) Λ₀ .tc) α) (Q : α → sProp 𝕄) :
    iprop((invs I K ∗ levAts L lv ∗ cred (tallyAt ((c : Thread nD τ), .dma i) () N) ∗ atPos ER ((c : Thread nD τ), .dma i) 0 ∅ 0
          ∗ (∃ W, owes (c : Thread nD τ) O W))
        ∗ ((dmaPay I c i ∗ atPos ER ((c : Thread nD τ), .dma i) 1 ∅ 0 ∗ (∃ W, owes (c : Thread nD τ) O W))
          -∗ wp frame (wpE (defs₀ (F := F)) 𝒱₀ (c : Thread nD τ) none) Set.univ (k ⟨⟩) Q))
      ⊢ wp frame (wpE (defs₀ (F := F)) 𝒱₀ (c : Thread nD τ) none) Set.univ (.op (.waitDma2 i src dst h1 h2) k) Q := by
  iintro ⟨⟨#HI, #Hlev, Hc, Hat, ⟨%W, HO⟩⟩, Hk⟩
  iapply (Rounds.wp_wait_rest_token 𝒱₀ ER (sched I) (c : Thread nD τ) none (κ := K ((c : Thread nD τ), .dma i))
      (wpE_waitDma2_eq 𝒱₀ (c : Thread nD τ) none Set.univ) (Set.mem_univ _) () (O := O) (W := W) (R := 0) (m := 0) (T := ∅)
      ((Nat.zero_add _).trans (hN.trans (expect_dma I c i hi).symm))) $$ [Hc HO Hat]
  · isplitr; · iapply (inv_at I K hmem); iexact HI
    isplitl [Hc]; · rw [hN]; iexact Hc
    isplitl [HO]; · iexact HO
    isplitr; · iapply hO; iexact Hlev
    iexact Hat
  iintro ⟨HO, Hat, -, Hpay⟩
  ihave Hp := (Entails.of_eq (rest_dma I c i hi)) $$ Hpay
  iapply Hk
  isplitl [Hp]; · iexact Hp
  isplitl [Hat]; · iexact Hat
  iexists _; iexact HO

/-- A device that owes nothing may wait on any cell. -/
theorem mayWait_none (c : Dev nD) (sm : SemLoc sig) : (levAts L lv : sProp 𝕄) ⊢ MayWait (c : Thread nD τ) sm () 0 := by
  rw [MayWait_zero]; iintro _; iempintro

/-- What every wait consults. -/
def waitCtx (I : Dev nD → Inp F) (K : GSem nD τ sig → ℕ) : sProp 𝕄 := iprop(invs I K ∗ levAts L lv)
/-- This may be consulted any number of times. -/
instance waitCtx_persistent (I : Dev nD → Inp F) (K : GSem nD τ sig → ℕ) : BI.Persistent (waitCtx I K) := by unfold waitCtx; infer_instance

/-! ## A share arrives -/

/-- Where the device's own quarter is kept. -/
theorem off18_eq (c : Dev nD) : k0_off18 c = ![qk c, 0] := by revert c; decide

/-- What was read through a slot, as the slot's load returns it. -/
theorem slot_read (M : Memref sig .tc .vmem S3x128x768 .bf16) (k : Fin 3) (f : M.view.ty.Contents (Elt F)) :
    shapeCast S128x768 ((M.access (slotR k)).read (Elt F) f) shapeCasts_S1x128x768_S128x768 = (slotM M k).view.read (Elt F) f := by
  refine Eq.symm ((Memref.read_squeeze_slice M (slotR k) _ _ shapeCasts_S1x128x768_S128x768 _).trans ?_)
  rw [View.readAt_rect]

set_option maxHeartbeats 1000000 in
/-- A share arrives and is added to the device's quarter. -/
theorem recv_run (I : Dev nD → Inp F) (K : GSem nD τ sig → ℕ) (c : Dev nD) (k : Fin 3) (off : Fin 2 → ℕ)
    (hin : ∀ a, off a + S128x768.size a ≤ S512x768.size a)
    (pay : Vec F S128x768 .f32 → Vec F S1x128x768 .bf16 → FVec F S128x768 .f32)
    (f6 : Bf (F := F) c A6) (a : FVec F S128x768 .f32) (Kt : PUnit → sProp 𝕄)
    (hoff : off = ![qk c, 0]) (hpay : ∀ v w, pay v w = plus v (shapeCast S128x768 w shapeCasts_S1x128x768_S128x768))
    (h6 : RdAt c f6 (qk c) a) :
    iprop((waitCtx I K ∗ pt c A6 f6 ∗ cred (tallyAt (rsRecv c k) () N) ∗ atPos ER (rsRecv c k) 0 ∅ 0
          ∗ (∃ W, owes (c : Thread nD τ) (debtAg c) W))
        ∗ (((∃ f6', ⌜RdAt c f6' (qk c) (plus a (sent I (peer c k) c))⌝ ∗ pt c A6 f6') ∗ (∃ f, slotPt (F := F) A9 k c f)
          ∗ atPos ER (rsRecv c k) 1 ∅ 0 ∗ (∃ W, owes (c : Thread nD τ) (debtAg c) W)) -∗ Kt ⟨⟩))
      ⊢ wp frame (wpE (defs₀ (F := F)) 𝒱₀ (c : Thread nD τ) none) Set.univ (recvP k off hin pay) Kt := by
  subst hoff
  unfold waitCtx
  simp only [recvP, Prog.lift, Prog.bind_op, Prog.bind_ret]
  iintro ⟨⟨⟨#HI, #Hlev⟩, H6, Hc, Hat, HO⟩, Hk⟩
  iapply (wait_run I K c (rsRecvS k) (by show 6 ≤ 9 + k.val; omega) (rsRecv_mem c k) (slotM A9 k) (slotM A9 k) _ _ rfl (debtAg c) (mayWait_rsRecv c k))
  isplitl [Hc Hat HO]
  · isplitr; · iexact HI
    isplitr; · iexact Hlev
    isplitl [Hc]; · iexact Hc
    isplitl [Hat]; · iexact Hat
    iexact HO
  rw [dmaPay_rsRecv]
  unfold rsRecvPay
  iintro ⟨⟨%f9, %h9, H9⟩, Hat, HO⟩
  iapply (wp_load 𝒱₀ (c : Thread nD τ) none Set.univ (m := A6) (S := Finset.univ) (q := fullShare) (f := f6) (Finset.subset_univ _)) $$ [H6]
  · iexact H6
  iintro H6
  rw [h6 hin]
  iapply (wp_load_rect 𝒱₀ (c : Thread nD τ) none Set.univ (m := A9) (r := slotR k) (S := (slotM A9 k).view.set) (q := fullShare) (f := f9)
    (Finset.subset_of_eq (slot_set A9 k).symm)) $$ [H9]
  · iexact H9
  iintro H9
  iapply (wp_load 𝒱₀ (c : Thread nD τ) none Set.univ (m := A6) (S := Finset.univ) (q := fullShare) (f := f6) (Finset.subset_univ _)) $$ [H6]
  · iexact H6
  iintro H6
  iapply (wp_store 𝒱₀ (c : Thread nD τ) none Set.univ (m := A6) (r := Rect.unit (s := S512x768) ![qk c, 0] S128x768.size hin) (S := Finset.univ) (f := f6)
    (Finset.subset_univ _)) $$ [H6]
  · iexact H6
  iintro H6
  rw [wp_ret]; imodintro
  iapply Hk
  have hv : pay a ((A9.access (slotR k)).read (Elt F) f9) = plus a (sent I (peer c k) c) := by rw [hpay, slot_read A9 k f9, h9]
  isplitl [H6]
  · iexists _
    isplitr [H6]
    · ipureintro
      exact rdAt_store c f6 ![qk c, 0] hin _ (qk c) rfl
    · rw [hv]; iexact H6
  isplitl [H9]; · iexists f9; iexact H9
  isplitl [Hat]; · iexact Hat
  iexact HO

/-! ## The summed quarter is narrowed and sent -/

/-- The summed quarter, narrowed, into the buffer it is sent from. -/
abbrev gatherP (d0 : Dev nD) : Prog (TpuEff nD τ sig (Elt F) Λ₀ .tc) PUnit := do
  let v ← Prog.lift (.load A6 (Rect.unit (s := S512x768) (k0_off18 d0) S128x768.size (k0_off18_inb d0)).toLoadRect (View.loadsAt_vmem h_S128x768))
  let _ ← Prog.lift (.load A10 (Rect.unit (s := S128x768) ![0, 0] S128x768.size inb_S128x768_S128x768_0_0).toLoadRect (View.loadsAt_vmem h_S128x768))
  Prog.lift (.store A10 (Rect.unit (s := S128x768) ![0, 0] S128x768.size inb_S128x768_S128x768_0_0) (k0_pay134 v) Finset.univ
    (View.stores_vmem h_S128x768 ((Memref.isWhole_whole _).storeExact_slice rfl _ packedbf16_S128x768_S128x768_0_0) (fun _ => rfl)) (.inl rfl))

/-- The buffer of the summed quarter, all of it. -/
theorem set10 : A10.view.set = Finset.univ := View.set_whole _

/-- The buffer sent from, in its three shares. -/
theorem shares (I : Dev nD → Inp F) (c : Dev nD) :
    (pt c A10 (gat I c : Bf (F := F) c A10) : sProp 𝕄) ⊣⊢ iprop(srcPt I c (sh 0) ∗ srcPt I c (sh 1) ∗ srcPt I c (sh 2)) := by
  have e : (pt c A10 (gat I c : Bf (F := F) c A10) : sProp 𝕄) = srcPt I c fullShare := by unfold srcPt; rw [set10]
  rw [e]
  exact (pointsTo_share (PosShare.mem_left_op_right fullShare)).trans
    (Laws.sep_congr_right (pointsTo_share (PosShare.mem_left_op_right fullShare.right)))

set_option maxHeartbeats 1000000 in
/-- The summed quarter is narrowed into the buffer it is sent from, which is then held in three shares. -/
theorem gather_run (I : Dev nD → Inp F) (c : Dev nD) (f6 : Bf (F := F) c A6) (f10 : Bf (F := F) c A10) (Kt : PUnit → sProp 𝕄)
    (h6 : RdAt c f6 (qk c) (red I c)) :
    iprop((pt c A6 f6 ∗ pt c A10 f10) ∗ ((pt c A6 f6 ∗ srcPt I c (sh 0) ∗ srcPt I c (sh 1) ∗ srcPt I c (sh 2)) -∗ Kt ⟨⟩))
      ⊢ wp frame (wpE (defs₀ (F := F)) 𝒱₀ (c : Thread nD τ) none) Set.univ (gatherP (F := F) c) Kt := by
  unfold gatherP
  simp only [Prog.lift, Prog.bind_op, Prog.bind_ret]
  have hr : A6.view.readAt (Elt F) (Rect.unit (s := S512x768) (k0_off18 c) S128x768.size (k0_off18_inb c)).toLoadRect f6 = red I c := by
    have e := off18_eq c
    generalize k0_off18_inb c = hin
    revert hin
    rw [e]
    exact h6
  iintro ⟨⟨H6, H10⟩, Hk⟩
  iapply (wp_load 𝒱₀ (c : Thread nD τ) none Set.univ (m := A6) (S := Finset.univ) (q := fullShare) (f := f6) (Finset.subset_univ _)) $$ [H6]
  · iexact H6
  iintro H6
  rw [hr]
  iapply (wp_load 𝒱₀ (c : Thread nD τ) none Set.univ (m := A10) (S := Finset.univ) (q := fullShare) (f := f10) (Finset.subset_univ _)) $$ [H10]
  · iexact H10
  iintro H10
  iapply (wp_store 𝒱₀ (c : Thread nD τ) none Set.univ (m := A10) (r := Rect.unit (s := S128x768) ![0, 0] S128x768.size inb_S128x768_S128x768_0_0)
    (S := Finset.univ) (f := f10) (Finset.subset_univ _)) $$ [H10]
  · iexact H10
  iintro H10
  rw [wp_ret]; imodintro
  iapply Hk
  isplitl [H6]; · iexact H6
  have e : (A10.access (Rect.unit (s := S128x768) ![0, 0] S128x768.size inb_S128x768_S128x768_0_0)).write (Elt F) f10 (k0_pay134 (red I c)) Finset.univ
      = (gat I c : Bf (F := F) c A10) := by
    funext y
    refine Eq.trans ?_ (congrFun (shapeCast_self (gat I c) shapeCasts_S128x768_S128x768) y)
    exact View.read_writes_cons_hit_of_coords A10.view f10 (Rect.unit (s := S128x768) ![0, 0] S128x768.size inb_S128x768_S128x768_0_0)
      (k0_pay134 (red I c)) [] y y (fun a => by match a with
        | ⟨0, _⟩ => show (y 0).val = 0 + 1 * (y 0).val; omega
        | ⟨1, _⟩ => show (y 1).val = 0 + 1 * (y 1).val; omega)
  rw [e]
  iapply (shares I c).1
  iexact H10

/-- A slot of the summed quarters' receive buffer is whole words. -/
theorem slot_words11 (r : Fin 3) : (slotM A11 r).view.WordExact :=
  fin3 (P := fun r => (slotM A11 r).view.WordExact)
    (((Memref.isWhole_whole _).wordExact_slice rfl _ wordsbf16_S3x128x768_S1x128x768_0_0_0).reshape _ _)
    (((Memref.isWhole_whole _).wordExact_slice rfl _ wordsbf16_S3x128x768_S1x128x768_1_0_0).reshape _ _)
    (((Memref.isWhole_whole _).wordExact_slice rfl _ wordsbf16_S3x128x768_S1x128x768_2_0_0).reshape _ _) r

/-- The copy of the summed quarter to the peer with index `r`. -/
abbrev agP (r : Fin 3) (dst : Dev nD) : Prog (TpuEff nD τ sig (Elt F) Λ₀ .tc) PUnit :=
  Prog.lift (.enqueueDma A10 (.remote (Dev.tc dst) (slotM A11 r.rev) (.dma (agSendS r))) (.dma (agRecvS r.rev))
    (Memref.isWhole_whole _).wordExact (slot_words11 r.rev) ⟨⟨rfl, Or.inl rfl⟩, trivial⟩)

/-- What the copy of the summed quarter needs. -/
def agBefore (c : Dev nD) (r : Fin 3) : sProp 𝕄 :=
  iprop((∃ f, slotPt (F := F) A11 r.rev (peer c r) f) ∗ reached ER (agRecv (peer c r) r.rev) 0 ∗ reached ER (agSend c r) 0
    ∗ dutyTok ER (agSend c r) 0 0 ∗ dutyTok ER (agRecv (peer c r) r.rev) 0 0)

/-- The copy of the summed quarter is started, and one debt is paid. -/
theorem ag_run (I : Dev nD → Inp F) (K : GSem nD τ sig → ℕ) (c : Dev nD) (r : Fin 3) (dst : Dev nD) (hdst : dst = peer c r)
    (O O' : CellTallies nD τ sig Unit) (hO : O' = O + tAg c r) (Kt : PUnit → sProp 𝕄) :
    iprop((waitCtx I K ∗ srcPt I c (sh r) ∗ agBefore c r ∗ (∃ W, owes (c : Thread nD τ) O' W))
        ∗ ((cred (tallyAt (agSend c r) () N) ∗ (∃ W, owes (c : Thread nD τ) O W)) -∗ Kt ⟨⟩))
      ⊢ wp frame (wpE (defs₀ (F := F)) 𝒱₀ (c : Thread nD τ) none) Set.univ (agP (F := F) r dst) Kt := by
  subst hdst
  unfold agBefore waitCtx
  simp only [agP, Prog.lift]
  iintro ⟨⟨⟨#HI, -⟩, H10, ⟨⟨%f11, H11⟩, #HrR, #HrS, HtS, HtR⟩, ⟨%W, HO⟩⟩, Hk⟩
  iapply (Rounds.wp_send_pointsTo 𝒱₀ ER (sched I) (c : Thread nD τ) none (c' := (peer c r : Thread nD τ)) (src := A10) (dst := slotM A11 r.rev)
      (sS := .dma (agSendS r)) (sem := .dma (agRecvS r.rev)) (q := sh r) (fs := (gat I c : Bf (F := F) c A10)) (κ₁ := K (agSend c r)) (κ₂ := K (agRecv (peer c r) r.rev))
      (r₁ := 0) (r₂ := 0) (d₁ := 0) (d₂ := 0) (fd := f11)
      (by rw [duties_dma I c _ (by show 6 ≤ 12 + r.val; omega)]; exact Finset.mem_singleton_self _)
      (by rw [duties_dma I (peer c r) _ (by show 6 ≤ 15 + r.rev.val; omega)]; exact Finset.mem_singleton_self _)
      () () N rfl (amount_dma I c _ 0) (amount_dma I (peer c r) _ 0) O hO (W := W)
      (by rw [payload_agSend]; exact BI.Entails.refl _)
      (by
        rw [payload_agRecv]; unfold agRecvPay; rw [peer_peer]
        iintro H; iexists _; isplitr [H]
        · ipureintro; exact View.read_write_univ (Val := Elt F) (v := (slotM A11 r.rev).view) f11 _
        · iexact H)) $$ [H10 H11 HO HtS HtR]
  · isplitr; · iapply (inv_at I K (agSend_mem c r)); iexact HI
    isplitr; · iapply (inv_at I K (agRecv_mem (peer c r) r.rev)); iexact HI
    isplitl [H10]; · iexact H10
    isplitl [H11]; · iexact H11
    isplitl [HO]; · iexact HO
    isplitl [HtS]; · iexact HtS
    isplitr; · iexact HrS
    isplitl [HtR]; · iexact HtR
    iexact HrR
  iintro ⟨Hc, HO⟩
  rw [wp_ret]; imodintro
  iapply Hk
  isplitl [Hc]; · iexact Hc
  iexists W; iexact HO

/-! ## The quarters of the result -/

/-- Device `d`'s quarter of the result. -/
abbrev oqR (d : Dev nD) : Rect S2x256x768 := Rect.unit (s := S2x256x768) ![(bt d).val, 128 * (rw0 d).val, 0] S1x128x768.size (inb_xq (bt d) (rw0 d))

/-- Device `d`'s quarter of the result holds `v`. -/
def OutAt (c : Dev nD) (f5 : Bf (F := F) c A5) (d : Dev nD) (v : FVec F S128x768 .f32) : Prop :=
  ∀ j : S1x128x768.Idx, A5.view.read (Elt F) f5 ((oqR d).emb j) = shapeCast S1x128x768 v shapeCasts_S128x768_S1x128x768 j

/-- Different devices' quarters differ in batch or in rows. -/
theorem quarter_ne (d d' : Dev nD) (h : d ≠ d') : bt d ≠ bt d' ∨ rw0 d ≠ rw0 d' := by revert d d'; decide

/-- A store places a quarter of the result. -/
theorem outAt_store (c : Dev nD) (f5 : Bf (F := F) c A5) (off : Fin 3 → ℕ) (hin : ∀ a, off a + S1x128x768.size a ≤ S2x256x768.size a)
    (v : FVec F S128x768 .f32) (d : Dev nD) (h : off = ![(bt d).val, 128 * (rw0 d).val, 0]) :
    OutAt c (A5.view.writes (Elt F) f5 [⟨Rect.unit (s := S2x256x768) off S1x128x768.size hin, shapeCast S1x128x768 v shapeCasts_S128x768_S1x128x768⟩]) d v := by
  subst h
  intro j
  exact View.read_writes_cons_emb A5.view f5 (oqR d) (shapeCast S1x128x768 v shapeCasts_S128x768_S1x128x768) [] j

/-- A store of one quarter of the result leaves the others as they were. -/
theorem outAt_keep (c : Dev nD) (f5 : Bf (F := F) c A5) (off : Fin 3 → ℕ) (hin : ∀ a, off a + S1x128x768.size a ≤ S2x256x768.size a)
    (w : FVec F S1x128x768 .f32) (d : Dev nD) (h : off = ![(bt d).val, 128 * (rw0 d).val, 0]) (d' : Dev nD) (hd : d' ≠ d)
    (v : FVec F S128x768 .f32) (h5 : OutAt c f5 d' v) :
    OutAt c (A5.view.writes (Elt F) f5 [⟨Rect.unit (s := S2x256x768) off S1x128x768.size hin, w⟩]) d' v := by
  subst h
  intro j
  rw [← h5 j]
  rcases quarter_ne d' d hd with hb | hr
  · refine View.read_writes_cons_miss_of_axis A5.view f5 ⟨oqR d, w⟩ [] _ 0 (bt d).val 1 rfl rfl rfl ?_
    have e : (((oqR d').emb j) 0).val = (bt d').val + 1 * (j 0).val := rfl
    have hj : (j 0).val < 1 := (j 0).isLt
    have : (bt d').val ≠ (bt d).val := fun h => hb (Fin.ext h)
    omega
  · refine View.read_writes_cons_miss_of_axis A5.view f5 ⟨oqR d, w⟩ [] _ 1 (128 * (rw0 d).val) 128 rfl rfl rfl ?_
    have e : (((oqR d').emb j) 1).val = 128 * (rw0 d').val + 1 * (j 1).val := rfl
    have hj : (j 1).val < 128 := (j 1).isLt
    have : (rw0 d').val ≠ (rw0 d).val := fun h => hr (Fin.ext h)
    omega

/-- The owner of a quarter, by batch and half. -/
theorem owner_bt (b r : Fin 2) : bt (owner b r) = b ∧ rw0 (owner b r) = r := by revert b r; decide

/-- The four quarters make the result. -/
theorem out_eq (I : Dev nD → Inp F) (c : Dev nD) (f5 : Bf (F := F) c A5) (h : ∀ d, OutAt c f5 d (piece I c d)) : f5 = outV I c := by
  funext y
  have hy1 : (y 1).val < 256 := (y 1).isLt
  have ho := owner_bt (y 0) ⟨(y 1).val / 128, by omega⟩
  let i : Fin 128 := ⟨(y 1).val % 128, Nat.mod_lt _ (by decide)⟩
  have hj := h (owner (y 0) ⟨(y 1).val / 128, by omega⟩) (ix3 (0 : Fin 1) i (y 2 : Fin 768))
  have he : (oqR (owner (y 0) ⟨(y 1).val / 128, by omega⟩)).emb (ix3 (0 : Fin 1) i (y 2 : Fin 768)) = y := by
    refine Rect.emb_eq_of_coords _ _ _ fun a => ?_
    match a with
    | ⟨0, _⟩ => show (y 0).val = (bt (owner (y 0) ⟨(y 1).val / 128, _⟩)).val + 1 * 0; rw [ho.1]; rfl
    | ⟨1, _⟩ =>
      show (y 1).val = 128 * (rw0 (owner (y 0) ⟨(y 1).val / 128, _⟩)).val + 1 * ((y 1).val % 128)
      rw [ho.2]; show (y 1).val = 128 * ((y 1).val / 128) + 1 * ((y 1).val % 128); omega
    | ⟨2, _⟩ => show (y 2).val = 0 + 1 * (y 2).val; omega
  rw [he] at hj
  refine Eq.trans hj ((shapeCast_ab_1ab_apply (piece I c _) _ (0 : Fin 1) i (y 2 : Fin 768)).trans ?_)
  unfold outV
  refine congrArg (piece I c _) (funext fun a => ?_)
  match a with
  | ⟨0, _⟩ => rfl
  | ⟨1, _⟩ => rfl

/-- The device's own quarter, into the result. -/
abbrev ownP (d0 : Dev nD) : Prog (TpuEff nD τ sig (Elt F) Λ₀ .tc) PUnit := do
  let v ← Prog.lift (.load A6 (Rect.unit (s := S512x768) (k0_off18 d0) S128x768.size (k0_off18_inb d0)).toLoadRect (View.loadsAt_vmem h_S128x768))
  let _ ← Prog.lift (.load A5 (Rect.unit (s := S2x256x768) (k0_off19 d0) S1x128x768.size (k0_off19_inb d0)).toLoadRect (View.loadsAt_vmem h_S1x128x768))
  Prog.lift (.store A5 (Rect.unit (s := S2x256x768) (k0_off19 d0) S1x128x768.size (k0_off19_inb d0)) (k0_pay135 v) Finset.univ (View.stores_vmem_bits_univ h_S1x128x768 rfl) (.inl rfl))

/-- Where the device's own quarter of the result lies. -/
theorem off19_eq (c : Dev nD) : k0_off19 c = ![(bt c).val, 128 * (rw0 c).val, 0] := by revert c; decide

/-- After a quarter of the result has been stored: it is there, and the other quarters are as they were. -/
def Placed (c : Dev nD) (f5 f5' : Bf (F := F) c A5) (d : Dev nD) (v : FVec F S128x768 .f32) : Prop :=
  OutAt c f5' d v ∧ ∀ d', d' ≠ d → ∀ w, OutAt c f5 d' w → OutAt c f5' d' w

set_option maxHeartbeats 1000000 in
/-- The device's own summed quarter is placed in its result. -/
theorem own_run (I : Dev nD → Inp F) (c : Dev nD) (f6 : Bf (F := F) c A6) (f5 : Bf (F := F) c A5) (Kt : PUnit → sProp 𝕄)
    (h6 : RdAt c f6 (qk c) (red I c)) :
    iprop((pt c A6 f6 ∗ pt c A5 f5) ∗ ((pt c A6 f6 ∗ (∃ f5', ⌜Placed c f5 f5' c (red I c)⌝ ∗ pt c A5 f5')) -∗ Kt ⟨⟩))
      ⊢ wp frame (wpE (defs₀ (F := F)) 𝒱₀ (c : Thread nD τ) none) Set.univ (ownP (F := F) c) Kt := by
  unfold ownP
  simp only [Prog.lift, Prog.bind_op, Prog.bind_ret]
  have hr : A6.view.readAt (Elt F) (Rect.unit (s := S512x768) (k0_off18 c) S128x768.size (k0_off18_inb c)).toLoadRect f6 = red I c := by
    have e := off18_eq c
    generalize k0_off18_inb c = hin
    revert hin
    rw [e]
    exact h6
  iintro ⟨⟨H6, H5⟩, Hk⟩
  iapply (wp_load 𝒱₀ (c : Thread nD τ) none Set.univ (m := A6) (S := Finset.univ) (q := fullShare) (f := f6) (Finset.subset_univ _)) $$ [H6]
  · iexact H6
  iintro H6
  rw [hr]
  iapply (wp_load 𝒱₀ (c : Thread nD τ) none Set.univ (m := A5) (S := Finset.univ) (q := fullShare) (f := f5) (Finset.subset_univ _)) $$ [H5]
  · iexact H5
  iintro H5
  iapply (wp_store 𝒱₀ (c : Thread nD τ) none Set.univ (m := A5) (r := Rect.unit (s := S2x256x768) (k0_off19 c) S1x128x768.size (k0_off19_inb c))
    (S := Finset.univ) (f := f5) (Finset.subset_univ _)) $$ [H5]
  · iexact H5
  iintro H5
  rw [wp_ret]; imodintro
  iapply Hk
  isplitl [H6]; · iexact H6
  iexists _
  isplitr [H5]
  swap
  · iexact H5
  · ipureintro
    exact ⟨outAt_store c f5 _ (k0_off19_inb c) (red I c) c (off19_eq c),
      fun d' hd w h => outAt_keep c f5 _ (k0_off19_inb c) _ c (off19_eq c) d' hd w h⟩

/-- A peer's summed quarter arrives, and is stored in the result. -/
abbrev takeP (k : Fin 3) (off : Fin 3 → ℕ) (hin : ∀ a, off a + S1x128x768.size a ≤ S2x256x768.size a)
    (pay : Vec F S1x128x768 .bf16 → FVec F S1x128x768 .f32) : Prog (TpuEff nD τ sig (Elt F) Λ₀ .tc) PUnit := do
  Prog.lift (.waitDma2 (agRecvS k) (slotM A11 k) (slotM A11 k) (slot_words11 k) (slot_words11 k))
  let v ← Prog.lift (.load A11 (slotR k).toLoadRect (View.loadsAt_vmem h_S1x128x768))
  let _ ← Prog.lift (.load A5 (Rect.unit (s := S2x256x768) off S1x128x768.size hin).toLoadRect (View.loadsAt_vmem h_S1x128x768))
  Prog.lift (.store A5 (Rect.unit (s := S2x256x768) off S1x128x768.size hin) (pay v) Finset.univ (View.stores_vmem_bits_univ h_S1x128x768 rfl) (.inl rfl))

set_option maxHeartbeats 1000000 in
/-- A peer's summed quarter arrives and is placed in the result. -/
theorem take_run (I : Dev nD → Inp F) (K : GSem nD τ sig → ℕ) (c : Dev nD) (k : Fin 3) (off : Fin 3 → ℕ)
    (hin : ∀ a, off a + S1x128x768.size a ≤ S2x256x768.size a)
    (pay : Vec F S1x128x768 .bf16 → FVec F S1x128x768 .f32) (f5 : Bf (F := F) c A5) (Kt : PUnit → sProp 𝕄)
    (hoff : off = ![(bt (peer c k)).val, 128 * (rw0 (peer c k)).val, 0])
    (hpay : ∀ w, pay w = shapeCast S1x128x768 (extf .f32 (shapeCast S128x768 w shapeCasts_S1x128x768_S128x768) bitsLt_bf16_f32) shapeCasts_S128x768_S1x128x768) :
    iprop((waitCtx I K ∗ pt c A5 f5 ∗ cred (tallyAt (agRecv c k) () N) ∗ atPos ER (agRecv c k) 0 ∅ 0
          ∗ (∃ W, owes (c : Thread nD τ) 0 W))
        ∗ (((∃ f5', ⌜Placed c f5 f5' (peer c k) (extf .f32 (gat I (peer c k)) bitsLt_bf16_f32)⌝ ∗ pt c A5 f5') ∗ (∃ f, slotPt (F := F) A11 k c f)
          ∗ atPos ER (agRecv c k) 1 ∅ 0 ∗ (∃ W, owes (c : Thread nD τ) 0 W)) -∗ Kt ⟨⟩))
      ⊢ wp frame (wpE (defs₀ (F := F)) 𝒱₀ (c : Thread nD τ) none) Set.univ (takeP k off hin pay) Kt := by
  unfold waitCtx
  simp only [takeP, Prog.lift, Prog.bind_op, Prog.bind_ret]
  iintro ⟨⟨⟨#HI, #Hlev⟩, H5, Hc, Hat, HO⟩, Hk⟩
  iapply (wait_run I K c (agRecvS k) (by show 6 ≤ 15 + k.val; omega) (agRecv_mem c k) (slotM A11 k) (slotM A11 k) _ _ rfl 0 (mayWait_none c _))
  isplitl [Hc Hat HO]
  · isplitr; · iexact HI
    isplitr; · iexact Hlev
    isplitl [Hc]; · iexact Hc
    isplitl [Hat]; · iexact Hat
    iexact HO
  rw [dmaPay_agRecv]
  unfold agRecvPay
  iintro ⟨⟨%f11, %h11, H11⟩, Hat, HO⟩
  iapply (wp_load_rect 𝒱₀ (c : Thread nD τ) none Set.univ (m := A11) (r := slotR k) (S := (slotM A11 k).view.set) (q := fullShare) (f := f11)
    (Finset.subset_of_eq (slot_set A11 k).symm)) $$ [H11]
  · iexact H11
  iintro H11
  iapply (wp_load 𝒱₀ (c : Thread nD τ) none Set.univ (m := A5) (S := Finset.univ) (q := fullShare) (f := f5) (Finset.subset_univ _)) $$ [H5]
  · iexact H5
  iintro H5
  iapply (wp_store 𝒱₀ (c : Thread nD τ) none Set.univ (m := A5) (r := Rect.unit (s := S2x256x768) off S1x128x768.size hin)
    (S := Finset.univ) (f := f5) (Finset.subset_univ _)) $$ [H5]
  · iexact H5
  iintro H5
  rw [wp_ret]; imodintro
  iapply Hk
  have hv : pay ((A11.access (slotR k)).read (Elt F) f11)
      = shapeCast S1x128x768 (extf .f32 (gat I (peer c k)) bitsLt_bf16_f32) shapeCasts_S128x768_S1x128x768 := by rw [hpay, slot_read A11 k f11, h11]
  have hp : Placed c f5 (A5.view.writes (Elt F) f5 [⟨Rect.unit (s := S2x256x768) off S1x128x768.size hin,
      shapeCast S1x128x768 (extf .f32 (gat I (peer c k)) bitsLt_bf16_f32) shapeCasts_S128x768_S1x128x768⟩])
      (peer c k) (extf .f32 (gat I (peer c k)) bitsLt_bf16_f32) :=
    ⟨outAt_store c f5 off hin (extf .f32 (gat I (peer c k)) bitsLt_bf16_f32) (peer c k) hoff,
      fun d' hd w h => outAt_keep c f5 off hin (shapeCast S1x128x768 (extf .f32 (gat I (peer c k)) bitsLt_bf16_f32) shapeCasts_S128x768_S1x128x768)
        (peer c k) hoff d' hd w h⟩
  rw [View.writes_singleton, ← hv] at hp
  isplitl [H5]
  · iexists _
    isplitr [H5]
    · ipureintro; exact hp
    · iexact H5
  isplitl [H11]; · iexists f11; iexact H11
  isplitl [Hat]; · iexact Hat
  iexact HO

/-! ## The sends are waited for -/

/-- The wait for a share's send. -/
abbrev doneRs (r : Fin 3) : Prog (TpuEff nD τ sig (Elt F) Λ₀ .tc) PUnit :=
  Prog.lift (.waitDma2 (rsSendS r) (slotM A9 r.rev) (slotM A8 r) (slot_words9 r.rev) (slot_words8 r))
/-- The wait for a summed quarter's send. -/
abbrev doneAg (r : Fin 3) : Prog (TpuEff nD τ sig (Elt F) Λ₀ .tc) PUnit :=
  Prog.lift (.waitDma2 (agSendS r) (slotM A11 r.rev) A10 (slot_words11 r.rev) (Memref.isWhole_whole _).wordExact)

/-- After the wait for a share's send, its slot is the device's again. -/
theorem doneRs_run (I : Dev nD → Inp F) (K : GSem nD τ sig → ℕ) (c : Dev nD) (r : Fin 3) (Kt : PUnit → sProp 𝕄) :
    iprop((waitCtx I K ∗ after c r ∗ atPos ER (rsSend c r) 0 ∅ 0 ∗ (∃ W, owes (c : Thread nD τ) 0 W))
        ∗ (((∃ f, slotPt (F := F) A8 r c f) ∗ atPos ER (rsSend c r) 1 ∅ 0 ∗ (∃ W, owes (c : Thread nD τ) 0 W)) -∗ Kt ⟨⟩))
      ⊢ wp frame (wpE (defs₀ (F := F)) 𝒱₀ (c : Thread nD τ) none) Set.univ (doneRs (F := F) r) Kt := by
  unfold waitCtx after
  simp only [doneRs, Prog.lift]
  iintro ⟨⟨⟨#HI, #Hlev⟩, Hc, Hat, HO⟩, Hk⟩
  iapply (wait_run I K c (rsSendS r) (by show 6 ≤ 6 + r.val; omega) (rsSend_mem c r) (slotM A9 r.rev) (slotM A8 r) _ _ rfl 0 (mayWait_none c _))
  isplitl [Hc Hat HO]
  · isplitr; · iexact HI
    isplitr; · iexact Hlev
    isplitl [Hc]; · iexact Hc
    isplitl [Hat]; · iexact Hat
    iexact HO
  rw [dmaPay_rsSend]
  unfold rsSendPay
  iintro ⟨H8, Hat, HO⟩
  rw [wp_ret]; imodintro
  iapply Hk
  isplitl [H8]; · iexact H8
  isplitl [Hat]; · iexact Hat
  iexact HO

/-- After the wait for a summed quarter's send, its share of the source is the device's again. -/
theorem doneAg_run (I : Dev nD → Inp F) (K : GSem nD τ sig → ℕ) (c : Dev nD) (r : Fin 3) (Kt : PUnit → sProp 𝕄) :
    iprop((waitCtx I K ∗ cred (tallyAt (agSend c r) () N) ∗ atPos ER (agSend c r) 0 ∅ 0 ∗ (∃ W, owes (c : Thread nD τ) 0 W))
        ∗ ((srcPt I c (sh r) ∗ atPos ER (agSend c r) 1 ∅ 0 ∗ (∃ W, owes (c : Thread nD τ) 0 W)) -∗ Kt ⟨⟩))
      ⊢ wp frame (wpE (defs₀ (F := F)) 𝒱₀ (c : Thread nD τ) none) Set.univ (doneAg (F := F) r) Kt := by
  unfold waitCtx
  simp only [doneAg, Prog.lift]
  iintro ⟨⟨⟨#HI, #Hlev⟩, Hc, Hat, HO⟩, Hk⟩
  iapply (wait_run I K c (agSendS r) (by show 6 ≤ 12 + r.val; omega) (agSend_mem c r) (slotM A11 r.rev) A10 _ _ rfl 0 (mayWait_none c _))
  isplitl [Hc Hat HO]
  · isplitr; · iexact HI
    isplitr; · iexact Hlev
    isplitl [Hc]; · iexact Hc
    isplitl [Hat]; · iexact Hat
    iexact HO
  rw [dmaPay_agSend]
  unfold agSendPay
  iintro ⟨H10, Hat, HO⟩
  rw [wp_ret]; imodintro
  iapply Hk
  isplitl [H10]; · iexact H10
  isplitl [Hat]; · iexact Hat
  iexact HO

end Cert.KernelIdeal.Hand
-- ==== Proof.Body.lean ====
/-
  A device's whole run: the printed body as the phases in order, and what it starts from and ends with.
-/
module

public import proofs.«01_k».proof.Proof.Tail

@[expose] public section

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The end of the run -/

/-- The copy of the summed quarter with index 0 goes to the peer with index 0. -/
theorem dev13_eq (c : Dev nD) : (⟨k0_dev13 c, k0_dev13_lt c⟩ : Dev nD) = peer c 0 := by revert c; decide
/-- The copy of the summed quarter with index 1 goes to the peer with index 1. -/
theorem dev14_eq (c : Dev nD) : (⟨k0_dev14 c, k0_dev14_lt c⟩ : Dev nD) = peer c 1 := by revert c; decide
/-- The copy of the summed quarter with index 2 goes to the peer with index 2. -/
theorem dev15_eq (c : Dev nD) : (⟨k0_dev15 c, k0_dev15_lt c⟩ : Dev nD) = peer c 2 := by revert c; decide
/-- What arrives in slot 0 is placed in the quarter of the peer with index 0. -/
theorem off20_0_eq (c : Dev nD) : k0_off20 c 0#32 = ![(bt (peer c 0)).val, 128 * (rw0 (peer c 0)).val, 0] := by revert c; decide
/-- What arrives in slot 1 is placed in the quarter of the peer with index 1. -/
theorem off20_1_eq (c : Dev nD) : k0_off20 c 1#32 = ![(bt (peer c 1)).val, 128 * (rw0 (peer c 1)).val, 0] := by revert c; decide
/-- What arrives in slot 2 is placed in the quarter of the peer with index 2. -/
theorem off20_2_eq (c : Dev nD) : k0_off20 c 2#32 = ![(bt (peer c 2)).val, 128 * (rw0 (peer c 2)).val, 0] := by revert c; decide

/-- From the second share on: the sum, the exchange of the summed quarters, the waits for the sends. -/
abbrev shareTail (d0 : Dev nD) : Prog (TpuEff nD τ sig (Elt F) Λ₀ .tc) PUnit := do
  recvP 1 (k0_off18 d0) (k0_off18_inb d0) k0_pay131
  recvP 2 (k0_off18 d0) (k0_off18_inb d0) (fun v w => k0_pay133 (k0_pay132 v w))
/-- The summed quarter is narrowed, sent to the three peers and placed in the device's own result. -/
abbrev gatherTail (d0 : Dev nD) : Prog (TpuEff nD τ sig (Elt F) Λ₀ .tc) PUnit := do
  gatherP d0
  agP 0 ⟨k0_dev13 d0, k0_dev13_lt d0⟩
  agP 1 ⟨k0_dev14 d0, k0_dev14_lt d0⟩
  agP 2 ⟨k0_dev15 d0, k0_dev15_lt d0⟩
  ownP d0
/-- The three peers' summed quarters are taken as they arrive. -/
abbrev takeTail (d0 : Dev nD) : Prog (TpuEff nD τ sig (Elt F) Λ₀ .tc) PUnit := do
  takeP 0 (k0_off20 d0 0#32) (k0_off20_inb d0 0) (fun w => k0_pay137 (k0_pay136 w))
  takeP 1 (k0_off20 d0 1#32) (k0_off20_inb d0 1) k0_pay138
  takeP 2 (k0_off20 d0 2#32) (k0_off20_inb d0 2) k0_pay139
/-- The six sends are waited for. -/
abbrev doneTail : Prog (TpuEff nD τ sig (Elt F) Λ₀ .tc) PUnit := do
  doneRs 0
  doneRs 1
  doneRs 2
  doneAg 0
  doneAg 1
  doneAg 2
  pure ⟨⟩

/-- The printed parts from the second share on, in order. -/
abbrev printedTail (d0 : Dev nD) (v2 v5 v8 v11 v18 v97 : BitVec 32) : Prog (TpuEff nD τ sig (Elt F) Λ₀ .tc) PUnit := do
  let v128 : FVec F S128x768 .f32 ← k0_part37 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) cc0_scratch6 cc0_scratch7 cc0_scratch8 cc0_scratch9 d0 v2 v18 v97
  k0_part38 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) cc0_scratch6 cc0_scratch7 cc0_scratch8 cc0_scratch9 d0 v5 v8 v11 v18 v128
  let ⟨v187, v190, v191⟩ : Σ' (v187 : BitVec 32) (v190 : FVec F S128x768 .f32), BitVec 1 ← k0_part39 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) cc0_scratch6 cc0_scratch7 cc0_scratch8 cc0_scratch9 d0 v2 v5 v18
  let ⟨v218, v220, v221⟩ : Σ' (v218 : BitVec 32) (v220 : BitVec 32), FVec F S1x128x768 .f32 ← k0_part40 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) cc0_scratch6 cc0_scratch7 cc0_scratch8 cc0_scratch9 d0 v2 v8 v187 v190 v191
  k0_part41 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) cc0_scratch6 cc0_scratch7 cc0_scratch8 cc0_scratch9 d0 v2 v11 v218 v220 v221
  k0_part42 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) cc0_scratch6 cc0_scratch7 cc0_scratch8 cc0_scratch9
  doneAg 1
  doneAg 2
  pure ⟨⟩

set_option maxRecDepth 65536 in
set_option maxHeartbeats 4000000 in
/-- They are the phases above. -/
theorem tail_eq (d0 : Dev nD) (v2 v5 v8 v11 v18 v97 : BitVec 32) :
    printedTail (F := F) d0 v2 v5 v8 v11 v18 v97 = shareTail d0 >>= fun _ => gatherTail d0 >>= fun _ => takeTail d0 >>= fun _ => doneTail := by
  unfold printedTail
  simp only [k0_part37_eq_skeleton, k0_part38_eq_skeleton, k0_part39_eq_skeleton, k0_part40_eq_skeleton, k0_part41_eq_skeleton, k0_part42_eq_skeleton]
  rfl

universe v in
/-- Equal programs, continued alike, are equal. -/
theorem bind_eq {E : Type → Type v} {α γ : Type} {p q : Prog E α} (e : p = q) (k : α → Prog E γ) : (p >>= k) = (q >>= k) := by rw [e]
universe v in
/-- A program that returns a fixed value hands that value on. -/
theorem then_pure {E : Type → Type v} {α β γ : Type} (p : Prog E α) (w : β) (k : β → Prog E γ) :
    ((p >>= fun _ => (pure w : Prog E β)) >>= k) = p >>= fun _ => k w := by
  rw [bind_assoc]; simp only [pure_bind]

/-- The columns and rows the kernel computes of a device's place. -/
abbrev rowW (v2 : BitVec 32) : BitVec 32 :=
  Scalar.addi (Scalar.select (own0W v2) 0#32 256#32) (Scalar.select (Scalar.cmpi .sle v2 1#32) 0#32 128#32)

set_option maxRecDepth 65536 in
set_option maxHeartbeats 4000000 in
/-- The printed body is the phases in order. -/
theorem body_eq : cc0_body (F := F) A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) cc0_scratch6 cc0_scratch7 cc0_scratch8 cc0_scratch9
    = Prog.lift .deviceId >>= fun d0 => first d0 >>= fun _ => early d0 >>= fun _ => mid d0 (rowW (placeW d0)) >>= fun _ =>
        recvP 0 (k0_off18 d0) (k0_off18_inb d0) k0_pay130 >>= fun _ => shareTail d0 >>= fun _ => gatherTail d0 >>= fun _ => takeTail d0 >>= fun _ => doneTail := by
  rw [cc0_body_eq_skeleton]
  unfold cc0_body_skel
  rw [k0_part33_eq_skeleton]
  unfold k0_part33_skel
  refine (bind_assoc _ _ _).trans ?_
  refine bind_congr fun d0 => ?_
  refine (pure_bind _ _).trans ?_
  obtain ⟨w1, e1⟩ := first_eq (F := F) d0 (Scalar.remsi (Scalar.addi (Scalar.addi (placeW d0) 1#32) 0#32) 4#32)
    (Scalar.remsi (Scalar.addi (Scalar.addi (placeW d0) 1#32) 1#32) 4#32) (Scalar.remsi (Scalar.addi (Scalar.addi (placeW d0) 1#32) 2#32) 4#32)
    (Scalar.select (own0W (Scalar.remsi (Scalar.addi (Scalar.addi (placeW d0) 1#32) 1#32) 4#32)) 0#32 256#32)
  refine (bind_eq e1 _).trans ?_
  refine (then_pure _ _ _).trans ?_
  refine bind_congr fun _ => ?_
  refine (bind_eq (early_eq d0 _ _ _ _ _ _ _ _) _).trans ?_
  refine bind_congr fun _ => ?_
  obtain ⟨w2, e2⟩ := mid_eq (F := F) d0 (placeW d0) (Scalar.remsi (Scalar.addi (Scalar.addi (placeW d0) 1#32) 0#32) 4#32)
    (Scalar.remsi (Scalar.addi (Scalar.addi (placeW d0) 1#32) 1#32) 4#32) (Scalar.remsi (Scalar.addi (Scalar.addi (placeW d0) 1#32) 2#32) 4#32)
    (rowW (placeW d0)) (rowW (Scalar.remsi (Scalar.addi (Scalar.addi (placeW d0) 1#32) 0#32) 4#32)) w1.1 w1.2.1 w1.2.2.1 w1.2.2.2
  refine (bind_eq e2 _).trans ?_
  refine (bind_assoc _ _ _).trans ?_
  refine bind_congr fun _ => ?_
  refine (then_pure _ _ _).trans ?_
  refine bind_congr fun _ => ?_
  exact tail_eq d0 _ _ _ _ _ _

/-! ## What a device starts from and ends with -/

/-- What may be consulted about slot `r`. -/
def knownAt (c : Dev nD) (r : Fin 3) : sProp 𝕄 :=
  iprop(reached ER (barCell (peer c r)) 0 ∗ reached ER (rsSend c r) 0 ∗ reached ER (rsRecv c r) 0 ∗ reached ER (agSend c r) 0 ∗ reached ER (agRecv c r) 0)
/-- This may be consulted any number of times. -/
instance knownAt_persistent (c : Dev nD) (r : Fin 3) : BI.Persistent (knownAt (F := F) c r) := by unfold knownAt; infer_instance

/-- The duties with index `r`: the signal, the two copies. -/
def toksAt (c : Dev nD) (r : Fin 3) : sProp 𝕄 :=
  iprop(dutyTok ER (barCell (peer c r)) 0 r.rev ∗ dutyTok ER (rsSend c r) 0 0 ∗ dutyTok ER (rsRecv (peer c r) r.rev) 0 0
    ∗ dutyTok ER (agSend c r) 0 0 ∗ dutyTok ER (agRecv (peer c r) r.rev) 0 0)
/-- The waits of slot `r`: the four cells' places and the two arrivals' credit. -/
def waitsAt (c : Dev nD) (r : Fin 3) : sProp 𝕄 :=
  iprop(atPos ER (rsSend c r) 0 ∅ 0 ∗ atPos ER (rsRecv c r) 0 ∅ 0 ∗ atPos ER (agSend c r) 0 ∅ 0 ∗ atPos ER (agRecv c r) 0 ∅ 0
    ∗ cred (tallyAt (rsRecv c r) () N) ∗ cred (tallyAt (agRecv c r) () N))
/-- The four cells after their round. -/
def overAt (c : Dev nD) (r : Fin 3) : sProp 𝕄 :=
  iprop(atPos ER (rsSend c r) 1 ∅ 0 ∗ atPos ER (rsRecv c r) 1 ∅ 0 ∗ atPos ER (agSend c r) 1 ∅ 0 ∗ atPos ER (agRecv c r) 1 ∅ 0)
/-- The four counters at zero. -/
def zeroAt (c : Dev nD) (r : Fin 3) : sProp 𝕄 :=
  iprop(semVal (rsSend c r) 0 ∗ semVal (rsRecv c r) 0 ∗ semVal (agSend c r) 0 ∗ semVal (agRecv c r) 0)

/-- The scratch buffers, at some contents. -/
def scr (c : Dev nD) : sProp 𝕄 :=
  iprop((∃ f, pt (F := F) c A6 f) ∗ (∃ f, pt (F := F) c A7 f) ∗ (∃ f, pt (F := F) c A8 f) ∗ (∃ f, pt (F := F) c A9 f)
    ∗ (∃ f, pt (F := F) c A10 f) ∗ (∃ f, pt (F := F) c A11 f))

/-- What the body may consult: what the waits consult, and what is known of the three slots. -/
def bodyCtx (I : Dev nD → Inp F) (K : GSem nD τ sig → ℕ) (c : Dev nD) : sProp 𝕄 :=
  iprop(waitCtx I K ∗ knownAt c 0 ∗ knownAt c 1 ∗ knownAt c 2)
/-- This may be consulted any number of times. -/
instance bodyCtx_persistent (I : Dev nD → Inp F) (K : GSem nD τ sig → ℕ) (c : Dev nD) : BI.Persistent (bodyCtx I K c) := by unfold bodyCtx; infer_instance

/-- What the body starts from. -/
def bodyPre (I : Dev nD → Inp F) (c : Dev nD) : sProp 𝕄 :=
  iprop(ins c (I c) ∗ (∃ f, pt (F := F) c A5 f) ∗ scr (F := F) c ∗ toksAt (F := F) c 0 ∗ toksAt (F := F) c 1 ∗ toksAt (F := F) c 2
    ∗ waitsAt (F := F) c 0 ∗ waitsAt (F := F) c 1 ∗ waitsAt (F := F) c 2
    ∗ cred (tallyAt (barCell c) () 3) ∗ atPos ER (barCell c) 0 ∅ 0 ∗ (∃ W, owes (c : Thread nD τ) (O₀ c) W))
/-- What the body ends with. -/
def bodyPost (I : Dev nD → Inp F) (c : Dev nD) : sProp 𝕄 :=
  iprop(ins c (I c) ∗ pt c A5 (outV I c : Bf (F := F) c A5) ∗ scr (F := F) c ∗ zeroAt (F := F) c 0 ∗ zeroAt (F := F) c 1 ∗ zeroAt (F := F) c 2
    ∗ semVal (barCell c) 0 ∗ (∃ W, owes (c : Thread nD τ) 0 W))

/-! ## The phases of the end, run -/

set_option maxHeartbeats 2000000 in
/-- The second and third shares arrive: the device's quarter then holds the sum of the four shares. -/
theorem shareTail_run (I : Dev nD → Inp F) (K : GSem nD τ sig → ℕ) (c : Dev nD) (f6 : Bf (F := F) c A6) (Kt : PUnit → sProp 𝕄)
    (h6 : RdAt c f6 (qk c) (plus (blk I c c) (sent I (peer c 0) c))) :
    iprop((waitCtx I K ∗ pt c A6 f6 ∗ cred (tallyAt (rsRecv c 1) () N) ∗ cred (tallyAt (rsRecv c 2) () N)
          ∗ atPos ER (rsRecv c 1) 0 ∅ 0 ∗ atPos ER (rsRecv c 2) 0 ∅ 0 ∗ (∃ W, owes (c : Thread nD τ) (debtAg c) W))
        ∗ (((∃ f6', ⌜RdAt c f6' (qk c) (red I c)⌝ ∗ pt c A6 f6') ∗ (∃ f, slotPt (F := F) A9 1 c f) ∗ (∃ f, slotPt (F := F) A9 2 c f)
          ∗ atPos ER (rsRecv c 1) 1 ∅ 0 ∗ atPos ER (rsRecv c 2) 1 ∅ 0 ∗ (∃ W, owes (c : Thread nD τ) (debtAg c) W)) -∗ Kt ⟨⟩))
      ⊢ wp frame (wpE (defs₀ (F := F)) 𝒱₀ (c : Thread nD τ) none) Set.univ (shareTail (F := F) c) Kt := by
  unfold shareTail
  iintro ⟨⟨#HC, H6, Hc1, Hc2, Ha1, Ha2, HO⟩, Hk⟩
  rw [wp_bind]
  iapply (recv_run I K c 1 (k0_off18 c) (k0_off18_inb c) k0_pay131 f6 _ _ (off18_eq c) (fun v w => shapeCast_self _ _) h6)
  isplitl [H6 Hc1 Ha1 HO]
  · isplitr; · iexact HC
    isplitl [H6]; · iexact H6
    isplitl [Hc1]; · iexact Hc1
    isplitl [Ha1]; · iexact Ha1
    iexact HO
  iintro ⟨⟨%g6, %h6', H6⟩, H91, Ha1, HO⟩
  iapply (recv_run I K c 2 (k0_off18 c) (k0_off18_inb c) (fun v w => k0_pay133 (k0_pay132 v w)) g6 _ _ (off18_eq c) (fun v w => shapeCast_self _ _) h6')
  isplitl [H6 Hc2 Ha2 HO]
  · isplitr; · iexact HC
    isplitl [H6]; · iexact H6
    isplitl [Hc2]; · iexact Hc2
    isplitl [Ha2]; · iexact Ha2
    iexact HO
  iintro ⟨H6, H92, Ha2, HO⟩
  iapply Hk
  isplitl [H6]; · iexact H6
  isplitl [H91]; · iexact H91
  isplitl [H92]; · iexact H92
  isplitl [Ha1]; · iexact Ha1
  isplitl [Ha2]; · iexact Ha2
  iexact HO

set_option maxHeartbeats 2000000 in
/-- The summed quarter is sent to the three peers and placed in the device's own result. -/
theorem gatherTail_run (I : Dev nD → Inp F) (K : GSem nD τ sig → ℕ) (c : Dev nD) (f6 : Bf (F := F) c A6) (f10 : Bf (F := F) c A10)
    (f5 : Bf (F := F) c A5) (Kt : PUnit → sProp 𝕄) (h6 : RdAt c f6 (qk c) (red I c)) :
    iprop((waitCtx I K ∗ pt c A6 f6 ∗ pt c A10 f10 ∗ pt c A5 f5 ∗ agBefore (F := F) c 0 ∗ agBefore (F := F) c 1 ∗ agBefore (F := F) c 2
          ∗ (∃ W, owes (c : Thread nD τ) (debtAg c) W))
        ∗ ((pt c A6 f6 ∗ (∃ f5', ⌜Placed c f5 f5' c (red I c)⌝ ∗ pt c A5 f5') ∗ cred (tallyAt (agSend c 0) () N) ∗ cred (tallyAt (agSend c 1) () N)
          ∗ cred (tallyAt (agSend c 2) () N) ∗ (∃ W, owes (c : Thread nD τ) 0 W)) -∗ Kt ⟨⟩))
      ⊢ wp frame (wpE (defs₀ (F := F)) 𝒱₀ (c : Thread nD τ) none) Set.univ (gatherTail (F := F) c) Kt := by
  unfold gatherTail
  iintro ⟨⟨#HC, H6, H10, H5, Hb0, Hb1, Hb2, HO⟩, Hk⟩
  rw [wp_bind]
  iapply (gather_run I c f6 f10 _ h6)
  isplitl [H6 H10]
  · isplitl [H6]; · iexact H6
    iexact H10
  iintro ⟨H6, Hs0, Hs1, Hs2⟩
  rw [wp_bind]
  iapply (ag_run I K c 0 _ (dev13_eq c) (tAg c 2 + tAg c 1) (debtAg c) rfl)
  isplitl [Hs0 Hb0 HO]
  · isplitr; · iexact HC
    isplitl [Hs0]; · iexact Hs0
    isplitl [Hb0]; · iexact Hb0
    iexact HO
  iintro ⟨Hc0, HO⟩
  rw [wp_bind]
  iapply (ag_run I K c 1 _ (dev14_eq c) (tAg c 2) _ rfl)
  isplitl [Hs1 Hb1 HO]
  · isplitr; · iexact HC
    isplitl [Hs1]; · iexact Hs1
    isplitl [Hb1]; · iexact Hb1
    iexact HO
  iintro ⟨Hc1, HO⟩
  rw [wp_bind]
  iapply (ag_run I K c 2 _ (dev15_eq c) 0 _ (zero_add _).symm)
  isplitl [Hs2 Hb2 HO]
  · isplitr; · iexact HC
    isplitl [Hs2]; · iexact Hs2
    isplitl [Hb2]; · iexact Hb2
    iexact HO
  iintro ⟨Hc2, HO⟩
  iapply (own_run I c f6 f5 _ h6)
  isplitl [H6 H5]
  · isplitl [H6]; · iexact H6
    iexact H5
  iintro ⟨H6, H5⟩
  iapply Hk
  isplitl [H6]; · iexact H6
  isplitl [H5]; · iexact H5
  isplitl [Hc0]; · iexact Hc0
  isplitl [Hc1]; · iexact Hc1
  isplitl [Hc2]; · iexact Hc2
  iexact HO

/-- A peer is another device. -/
theorem peer_ne (c : Dev nD) (r : Fin 3) : peer c r ≠ c := by revert c r; decide
/-- Different indices name different peers. -/
theorem peer_inj (c : Dev nD) (r r' : Fin 3) (h : r ≠ r') : peer c r ≠ peer c r' := by revert c r r'; decide
/-- Every device is the device itself or one of its three peers. -/
theorem peer_all (c d : Dev nD) : d = c ∨ d = peer c 0 ∨ d = peer c 1 ∨ d = peer c 2 := by revert c d; decide

/-- The four stores make the result. -/
theorem four (I : Dev nD → Inp F) (c : Dev nD) (g0 g1 g2 g3 g4 : Bf (F := F) c A5) (h0 : Placed c g0 g1 c (red I c))
    (h1 : Placed c g1 g2 (peer c 0) (extf .f32 (gat I (peer c 0)) bitsLt_bf16_f32))
    (h2 : Placed c g2 g3 (peer c 1) (extf .f32 (gat I (peer c 1)) bitsLt_bf16_f32))
    (h3 : Placed c g3 g4 (peer c 2) (extf .f32 (gat I (peer c 2)) bitsLt_bf16_f32)) : g4 = outV I c := by
  refine out_eq I c g4 fun d => ?_
  have hp : ∀ r, piece I c (peer c r) = extf .f32 (gat I (peer c r)) bitsLt_bf16_f32 := fun r => if_neg (peer_ne c r)
  rcases peer_all c d with rfl | rfl | rfl | rfl
  · have e : piece I d d = red I d := if_pos rfl
    rw [e]
    exact h3.2 _ (peer_ne d 2).symm _ (h2.2 _ (peer_ne d 1).symm _ (h1.2 _ (peer_ne d 0).symm _ h0.1))
  · rw [hp]; exact h3.2 _ (peer_inj c 0 2 (by decide)) _ (h2.2 _ (peer_inj c 0 1 (by decide)) _ h1.1)
  · rw [hp]; exact h3.2 _ (peer_inj c 1 2 (by decide)) _ h2.1
  · rw [hp]; exact h3.1

set_option maxHeartbeats 2000000 in
/-- The three summed quarters arrive, and the result is complete. -/
theorem takeTail_run (I : Dev nD → Inp F) (K : GSem nD τ sig → ℕ) (c : Dev nD) (f5 g5 : Bf (F := F) c A5) (Kt : PUnit → sProp 𝕄)
    (h0 : Placed c f5 g5 c (red I c)) :
    iprop((waitCtx I K ∗ pt c A5 g5 ∗ cred (tallyAt (agRecv c 0) () N) ∗ cred (tallyAt (agRecv c 1) () N) ∗ cred (tallyAt (agRecv c 2) () N)
          ∗ atPos ER (agRecv c 0) 0 ∅ 0 ∗ atPos ER (agRecv c 1) 0 ∅ 0 ∗ atPos ER (agRecv c 2) 0 ∅ 0 ∗ (∃ W, owes (c : Thread nD τ) 0 W))
        ∗ ((pt c A5 (outV I c : Bf (F := F) c A5) ∗ ((∃ f, slotPt (F := F) A11 0 c f) ∗ (∃ f, slotPt (F := F) A11 1 c f) ∗ ∃ f, slotPt (F := F) A11 2 c f)
          ∗ atPos ER (agRecv c 0) 1 ∅ 0 ∗ atPos ER (agRecv c 1) 1 ∅ 0 ∗ atPos ER (agRecv c 2) 1 ∅ 0 ∗ (∃ W, owes (c : Thread nD τ) 0 W)) -∗ Kt ⟨⟩))
      ⊢ wp frame (wpE (defs₀ (F := F)) 𝒱₀ (c : Thread nD τ) none) Set.univ (takeTail (F := F) c) Kt := by
  unfold takeTail
  iintro ⟨⟨#HC, H5, Hc0, Hc1, Hc2, Ha0, Ha1, Ha2, HO⟩, Hk⟩
  rw [wp_bind]
  iapply (take_run I K c 0 (k0_off20 c 0#32) (k0_off20_inb c 0) (fun w => k0_pay137 (k0_pay136 w)) g5 _ (off20_0_eq c) (fun _ => rfl))
  isplitl [H5 Hc0 Ha0 HO]
  · isplitr; · iexact HC
    isplitl [H5]; · iexact H5
    isplitl [Hc0]; · iexact Hc0
    isplitl [Ha0]; · iexact Ha0
    iexact HO
  iintro ⟨⟨%g1, %h1, H5⟩, Hs0, Ha0, HO⟩
  rw [wp_bind]
  iapply (take_run I K c 1 (k0_off20 c 1#32) (k0_off20_inb c 1) k0_pay138 g1 _ (off20_1_eq c) (fun _ => rfl))
  isplitl [H5 Hc1 Ha1 HO]
  · isplitr; · iexact HC
    isplitl [H5]; · iexact H5
    isplitl [Hc1]; · iexact Hc1
    isplitl [Ha1]; · iexact Ha1
    iexact HO
  iintro ⟨⟨%g2, %h2, H5⟩, Hs1, Ha1, HO⟩
  iapply (take_run I K c 2 (k0_off20 c 2#32) (k0_off20_inb c 2) k0_pay139 g2 _ (off20_2_eq c) (fun _ => rfl))
  isplitl [H5 Hc2 Ha2 HO]
  · isplitr; · iexact HC
    isplitl [H5]; · iexact H5
    isplitl [Hc2]; · iexact Hc2
    isplitl [Ha2]; · iexact Ha2
    iexact HO
  iintro ⟨⟨%g3, %h3, H5⟩, Hs2, Ha2, HO⟩
  rw [four I c f5 g5 g1 g2 g3 h0 h1 h2 h3]
  iapply Hk
  isplitl [H5]; · iexact H5
  isplitl [Hs0 Hs1 Hs2]
  · isplitl [Hs0]; · iexact Hs0
    isplitl [Hs1]; · iexact Hs1
    iexact Hs2
  isplitl [Ha0]; · iexact Ha0
  isplitl [Ha1]; · iexact Ha1
  isplitl [Ha2]; · iexact Ha2
  iexact HO

set_option maxHeartbeats 2000000 in
/-- The waits for the six sends give back what was sent from. -/
theorem doneTail_run (I : Dev nD → Inp F) (K : GSem nD τ sig → ℕ) (c : Dev nD) (Kt : PUnit → sProp 𝕄) :
    iprop((waitCtx I K ∗ (after (F := F) c 0 ∗ after (F := F) c 1 ∗ after (F := F) c 2)
          ∗ (cred (tallyAt (agSend c 0) () N) ∗ cred (tallyAt (agSend c 1) () N) ∗ cred (tallyAt (agSend c 2) () N))
          ∗ (atPos ER (rsSend c 0) 0 ∅ 0 ∗ atPos ER (rsSend c 1) 0 ∅ 0 ∗ atPos ER (rsSend c 2) 0 ∅ 0)
          ∗ (atPos ER (agSend c 0) 0 ∅ 0 ∗ atPos ER (agSend c 1) 0 ∅ 0 ∗ atPos ER (agSend c 2) 0 ∅ 0) ∗ (∃ W, owes (c : Thread nD τ) 0 W))
        ∗ (((∃ f, pt (F := F) c A8 f) ∗ (∃ f, pt (F := F) c A10 f)
          ∗ (atPos ER (rsSend c 0) 1 ∅ 0 ∗ atPos ER (rsSend c 1) 1 ∅ 0 ∗ atPos ER (rsSend c 2) 1 ∅ 0)
          ∗ (atPos ER (agSend c 0) 1 ∅ 0 ∗ atPos ER (agSend c 1) 1 ∅ 0 ∗ atPos ER (agSend c 2) 1 ∅ 0) ∗ (∃ W, owes (c : Thread nD τ) 0 W))
          -∗ |={Set.univ}=> Kt ⟨⟩))
      ⊢ wp frame (wpE (defs₀ (F := F)) 𝒱₀ (c : Thread nD τ) none) Set.univ (doneTail (F := F)) Kt := by
  unfold doneTail
  iintro ⟨⟨#HC, ⟨Hc0, Hc1, Hc2⟩, ⟨Hg0, Hg1, Hg2⟩, ⟨Ha0, Ha1, Ha2⟩, ⟨Hb0, Hb1, Hb2⟩, HO⟩, Hk⟩
  rw [wp_bind]
  iapply (doneRs_run I K c 0)
  isplitl [Hc0 Ha0 HO]
  · isplitr; · iexact HC
    isplitl [Hc0]; · iexact Hc0
    isplitl [Ha0]; · iexact Ha0
    iexact HO
  iintro ⟨H80, Ha0, HO⟩
  rw [wp_bind]
  iapply (doneRs_run I K c 1)
  isplitl [Hc1 Ha1 HO]
  · isplitr; · iexact HC
    isplitl [Hc1]; · iexact Hc1
    isplitl [Ha1]; · iexact Ha1
    iexact HO
  iintro ⟨H81, Ha1, HO⟩
  rw [wp_bind]
  iapply (doneRs_run I K c 2)
  isplitl [Hc2 Ha2 HO]
  · isplitr; · iexact HC
    isplitl [Hc2]; · iexact Hc2
    isplitl [Ha2]; · iexact Ha2
    iexact HO
  iintro ⟨H82, Ha2, HO⟩
  rw [wp_bind]
  iapply (doneAg_run I K c 0)
  isplitl [Hg0 Hb0 HO]
  · isplitr; · iexact HC
    isplitl [Hg0]; · iexact Hg0
    isplitl [Hb0]; · iexact Hb0
    iexact HO
  iintro ⟨H100, Hb0, HO⟩
  rw [wp_bind]
  iapply (doneAg_run I K c 1)
  isplitl [Hg1 Hb1 HO]
  · isplitr; · iexact HC
    isplitl [Hg1]; · iexact Hg1
    isplitl [Hb1]; · iexact Hb1
    iexact HO
  iintro ⟨H101, Hb1, HO⟩
  rw [wp_bind]
  iapply (doneAg_run I K c 2)
  isplitl [Hg2 Hb2 HO]
  · isplitr; · iexact HC
    isplitl [Hg2]; · iexact Hg2
    isplitl [Hb2]; · iexact Hb2
    iexact HO
  iintro ⟨H102, Hb2, HO⟩
  rw [Prog.pure_eq_ret, wp_ret]
  iapply Hk
  isplitl [H80 H81 H82]
  · iapply (join8 c)
    isplitl [H80]; · iexact H80
    isplitl [H81]; · iexact H81
    iexact H82
  isplitl [H100 H101 H102]
  · iexists _
    iapply (shares I c).2
    isplitl [H100]; · iexact H100
    isplitl [H101]; · iexact H101
    iexact H102
  isplitl [Ha0 Ha1 Ha2]
  · isplitl [Ha0]; · iexact Ha0
    isplitl [Ha1]; · iexact Ha1
    iexact Ha2
  isplitl [Hb0 Hb1 Hb2]
  · isplitl [Hb0]; · iexact Hb0
    isplitl [Hb1]; · iexact Hb1
    iexact Hb2
  iexact HO

/-! ## The body, run -/

/-- A cell after its only round, closed: its counter, at zero. -/
theorem close (I : Dev nD → Inp F) (κ : ℕ) (g : GSem nD τ sig) :
    iprop(cellInv ER (sched I) κ g ∗ atPos ER g (0 + 1) ∅ 0) ⊢ (|={Set.univ}=> semVal g 0 : sProp 𝕄) :=
  Rounds.cell_close ER (sched I) (Set.mem_univ κ) id (duties_later I g)
/-- The same for a cell of the protocol, with its record among those of all cells. -/
theorem close_at (I : Dev nD → Inp F) (K : GSem nD τ sig → ℕ) {g : GSem nD τ sig} (hg : g ∈ barCells ∪ scCells) :
    iprop(waitCtx I K ∗ atPos ER g 1 ∅ 0) ⊢ (|={Set.univ}=> semVal g 0 : sProp 𝕄) := by
  unfold waitCtx
  iintro ⟨⟨#HI, -⟩, Ha⟩
  iapply (close I (K g) g)
  isplitr; · iapply (inv_at I K hg); iexact HI
  iexact Ha
/-- The four copy cells of a slot, closed: their counters at zero. -/
theorem closeSlot (I : Dev nD → Inp F) (K : GSem nD τ sig → ℕ) (c : Dev nD) (r : Fin 3) :
    iprop(waitCtx I K ∗ overAt (F := F) c r) ⊢ (|={Set.univ}=> zeroAt c r : sProp 𝕄) := by
  unfold overAt zeroAt
  iintro ⟨#HC, H1, H2, H3, H4⟩
  imod (close_at I K (rsSend_mem c r)) $$ [H1] with H1
  · isplitr; · iexact HC
    iexact H1
  imod (close_at I K (rsRecv_mem c r)) $$ [H2] with H2
  · isplitr; · iexact HC
    iexact H2
  imod (close_at I K (agSend_mem c r)) $$ [H3] with H3
  · isplitr; · iexact HC
    iexact H3
  imod (close_at I K (agRecv_mem c r)) $$ [H4] with H4
  · isplitr; · iexact HC
    iexact H4
  imodintro
  isplitl [H1]; · iexact H1
  isplitl [H2]; · iexact H2
  isplitl [H3]; · iexact H3
  iexact H4

/-- What the body may consult contains what the waits consult. -/
theorem wait_known (I : Dev nD → Inp F) (K : GSem nD τ sig → ℕ) (c : Dev nD) : bodyCtx I K c ⊢ waitCtx I K := by
  unfold bodyCtx; iintro ⟨#H, -⟩; iexact H
/-- What is known of a slot suffices for its barrier signal. -/
theorem known_signal (c : Dev nD) (r : Fin 3) : knownAt (F := F) c r ⊢ signalCtx c r := by
  unfold knownAt signalCtx
  iintro ⟨#H1, #H2, #H3, #H4, #H5⟩
  isplitr; · iexact H1
  isplitr; · iexact H3
  iexact H5
/-- What the body may consult suffices for the barrier phase. -/
theorem shake_known (I : Dev nD → Inp F) (K : GSem nD τ sig → ℕ) (c : Dev nD) : bodyCtx I K c ⊢ shakeCtx I K c := by
  unfold bodyCtx shakeCtx waitCtx
  iintro ⟨⟨#HI, #HL⟩, #H0, #H1, #H2⟩
  isplitr; · iexact HI
  isplitr; · iexact HL
  isplitr; · iapply (known_signal c 0); iexact H0
  isplitr; · iapply (known_signal c 1); iexact H1
  iapply (known_signal c 2); iexact H2
/-- What is known of a slot suffices for its send, once the peer's cell is known to have begun. -/
theorem known_send (I : Dev nD → Inp F) (K : GSem nD τ sig → ℕ) (c : Dev nD) (r : Fin 3) :
    iprop(waitCtx I K ∗ knownAt (F := F) c r ∗ reached ER (rsRecv (peer c r) r.rev) 0) ⊢ sendCtx I K c r := by
  unfold knownAt sendCtx waitCtx
  iintro ⟨⟨#HI, #HL⟩, ⟨#H1, #H2, #H3, #H4, #H5⟩, #H⟩
  isplitr; · iexact HI
  isplitr; · iexact H2
  iexact H

/-- What the barrier brings, beside the duties of the two copies, is what the two sends of slot `r` take. -/
theorem ready (I : Dev nD → Inp F) (K : GSem nD τ sig → ℕ) (c : Dev nD) (r : Fin 3) :
    iprop(waitCtx I K ∗ knownAt (F := F) c r ∗ barPay (F := F) c r ∗ (∃ f, slotPt (F := F) A8 r c f)
        ∗ dutyTok ER (rsSend c r) 0 0 ∗ dutyTok ER (rsRecv (peer c r) r.rev) 0 0
        ∗ dutyTok ER (agSend c r) 0 0 ∗ dutyTok ER (agRecv (peer c r) r.rev) 0 0)
      ⊢ iprop(sendCtx I K c r ∗ st (F := F) c r false ∗ agBefore (F := F) c r) := by
  unfold barPay agBefore
  show _ ⊢ iprop(sendCtx I K c r ∗ before (F := F) c r ∗ _)
  unfold before
  iintro ⟨#HW, #HK, ⟨H9, H11, #Hr, #Hg⟩, H8, T1, T2, T3, T4⟩
  isplitr
  · iapply (known_send I K c r)
    isplitr; · iexact HW
    isplitr; · iexact HK
    iexact Hr
  isplitl [H9 H8 T1 T2]
  · isplitl [H8]; · iexact H8
    isplitl [H9]; · iexact H9
    isplitl [T1]; · iexact T1
    iexact T2
  isplitl [H11]; · iexact H11
  isplitr; · iexact Hg
  isplitr
  · unfold knownAt
    icases HK with ⟨-, -, -, #H4, -⟩
    iexact H4
  isplitl [T3]; · iexact T3
  iexact T4

set_option maxHeartbeats 8000000 in
/-- THE BODY on device `c`: from its holdings it runs to the result, every counter back at zero. -/
theorem body_run (I : Dev nD → Inp F) (K : GSem nD τ sig → ℕ) (c : Dev nD) (Kt : PUnit → sProp 𝕄) :
    iprop((bodyCtx I K c ∗ bodyPre I c) ∗ (bodyPost I c -∗ Kt ⟨⟩))
      ⊢ wp frame (wpE (defs₀ (F := F)) 𝒱₀ (c : Thread nD τ) none) Set.univ (cc0_body (F := F) A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) cc0_scratch6 cc0_scratch7 cc0_scratch8 cc0_scratch9) Kt := by
  rw [body_eq, Prog.bind_lift, wp_deviceId]
  iintro ⟨⟨#HC, HP⟩, Hk⟩
  ihave #HW := (wait_known I K c) $$ HC
  ihave #HS := (shake_known I K c) $$ HC
  ihave #HKn := (show bodyCtx I K c ⊢ iprop(knownAt (F := F) c 0 ∗ knownAt (F := F) c 1 ∗ knownAt (F := F) c 2) from by
    unfold bodyCtx; iintro ⟨-, #H⟩; iexact H) $$ HC
  icases HKn with ⟨#HK0, #HK1, #HK2⟩
  unfold bodyPre scr toksAt waitsAt
  icases HP with ⟨HI, ⟨%f5, H5⟩, ⟨⟨%f6, H6⟩, ⟨%f7, H7⟩, H8, H9, ⟨%f10, H10⟩, H11⟩, ⟨Tb0, Ts0, Tr0, Tg0, Th0⟩, ⟨Tb1, Ts1, Tr1, Tg1, Th1⟩,
    ⟨Tb2, Ts2, Tr2, Tg2, Th2⟩, ⟨As0, Ar0, Ag0, Ah0, Cr0, Ch0⟩, ⟨As1, Ar1, Ag1, Ah1, Cr1, Ch1⟩, ⟨As2, Ar2, Ag2, Ah2, Cr2, Ch2⟩, Cb, Ab, HO⟩
  rw [wp_bind]
  iapply (first_run I K c f6 f7)
  isplitl [HI H6 H7 H9 H11 Tb0 Tb1 Tb2 Cb Ab HO]
  · isplitr; · iexact HS
    isplitl [HI]; · iexact HI
    isplitl [H6]; · iexact H6
    isplitl [H7]; · iexact H7
    isplitl [H9]; · iexact H9
    isplitl [H11]; · iexact H11
    isplitl [Tb0]; · iexact Tb0
    isplitl [Tb1]; · iexact Tb1
    isplitl [Tb2]; · iexact Tb2
    isplitl [Cb]; · iexact Cb
    isplitl [Ab]; · iexact Ab
    iexact HO
  iintro ⟨HI, ⟨%g6, %hg6, H6⟩, ⟨%g7, H7⟩, P0, P1, P2, Ab, HO⟩
  ihave H8' := (split8 (F := F) c) $$ H8
  icases H8' with ⟨H80, H81, H82⟩
  ihave R0 := (ready I K c 0) $$ [P0 H80 Ts0 Tr0 Tg0 Th0]
  · isplitr; · iexact HW
    isplitr; · iexact HK0
    isplitl [P0]; · iexact P0
    isplitl [H80]; · iexact H80
    isplitl [Ts0]; · iexact Ts0
    isplitl [Tr0]; · iexact Tr0
    isplitl [Tg0]; · iexact Tg0
    iexact Th0
  icases R0 with ⟨#HC0, S0, G0⟩
  ihave R1 := (ready I K c 1) $$ [P1 H81 Ts1 Tr1 Tg1 Th1]
  · isplitr; · iexact HW
    isplitr; · iexact HK1
    isplitl [P1]; · iexact P1
    isplitl [H81]; · iexact H81
    isplitl [Ts1]; · iexact Ts1
    isplitl [Tr1]; · iexact Tr1
    isplitl [Tg1]; · iexact Tg1
    iexact Th1
  icases R1 with ⟨#HC1, S1, G1⟩
  ihave R2 := (ready I K c 2) $$ [P2 H82 Ts2 Tr2 Tg2 Th2]
  · isplitr; · iexact HW
    isplitr; · iexact HK2
    isplitl [P2]; · iexact P2
    isplitl [H82]; · iexact H82
    isplitl [Ts2]; · iexact Ts2
    isplitl [Tr2]; · iexact Tr2
    isplitl [Tg2]; · iexact Tg2
    iexact Th2
  icases R2 with ⟨#HC2, S2, G2⟩
  ihave #HSC := (show iprop(sendCtx I K c 0 ∗ sendCtx I K c 1 ∗ sendCtx I K c 2) ⊢ sendsCtx I K c from .rfl) $$ []
  · isplitr; · iexact HC0
    isplitr; · iexact HC1
    iexact HC2
  rw [wp_bind]
  iapply (early_run I K c g6 _ hg6)
  isplitl [H6 S0 S1 S2 HO]
  · isplitr; · iexact HSC
    isplitl [H6]; · iexact H6
    unfold sends
    isplitl [S0]; · iexact S0
    isplitl [S1]; · iexact S1
    isplitl [S2]; · iexact S2
    iexact HO
  iintro ⟨H6, HSn⟩
  rw [wp_bind]
  iapply (mid_run I K c _ g6 g7)
  isplitl [HI H6 H7 HSn]
  · isplitr; · iexact HSC
    isplitl [HI]; · iexact HI
    isplitl [H6]; · iexact H6
    isplitl [H7]; · iexact H7
    iexact HSn
  iintro ⟨HI, ⟨%i6, %hi6, H6⟩, H7, HSn⟩
  ihave HSn' := (show sends (F := F) c true true true ⊢ iprop(after (F := F) c 0 ∗ after (F := F) c 1 ∗ after (F := F) c 2
      ∗ (∃ W, owes (c : Thread nD τ) (debtAg c) W)) from by unfold sends; rw [debt_done]; exact .rfl) $$ HSn
  icases HSn' with ⟨F0, F1, F2, HO⟩
  rw [wp_bind]
  iapply (recv_run I K c 0 (k0_off18 c) (k0_off18_inb c) k0_pay130 i6 _ _ (off18_eq c) (fun v w => shapeCast_self _ _) hi6)
  isplitl [H6 Cr0 Ar0 HO]
  · isplitr; · iexact HW
    isplitl [H6]; · iexact H6
    isplitl [Cr0]; · iexact Cr0
    isplitl [Ar0]; · iexact Ar0
    iexact HO
  iintro ⟨⟨%j6, %hj6, H6⟩, H90, Ar0, HO⟩
  rw [wp_bind]
  iapply (shareTail_run I K c j6 _ hj6)
  isplitl [H6 Cr1 Cr2 Ar1 Ar2 HO]
  · isplitr; · iexact HW
    isplitl [H6]; · iexact H6
    isplitl [Cr1]; · iexact Cr1
    isplitl [Cr2]; · iexact Cr2
    isplitl [Ar1]; · iexact Ar1
    isplitl [Ar2]; · iexact Ar2
    iexact HO
  iintro ⟨⟨%k6, %hk6, H6⟩, H91, H92, Ar1, Ar2, HO⟩
  rw [wp_bind]
  iapply (gatherTail_run I K c k6 f10 f5 _ hk6)
  isplitl [H6 H10 H5 G0 G1 G2 HO]
  · isplitr; · iexact HW
    isplitl [H6]; · iexact H6
    isplitl [H10]; · iexact H10
    isplitl [H5]; · iexact H5
    isplitl [G0]; · iexact G0
    isplitl [G1]; · iexact G1
    isplitl [G2]; · iexact G2
    iexact HO
  iintro ⟨H6, ⟨%g5, %hg5, H5⟩, Cg0, Cg1, Cg2, HO⟩
  rw [wp_bind]
  iapply (takeTail_run I K c f5 g5 _ hg5)
  isplitl [H5 Ch0 Ch1 Ch2 Ah0 Ah1 Ah2 HO]
  · isplitr; · iexact HW
    isplitl [H5]; · iexact H5
    isplitl [Ch0]; · iexact Ch0
    isplitl [Ch1]; · iexact Ch1
    isplitl [Ch2]; · iexact Ch2
    isplitl [Ah0]; · iexact Ah0
    isplitl [Ah1]; · iexact Ah1
    isplitl [Ah2]; · iexact Ah2
    iexact HO
  iintro ⟨H5, H11, Ah0, Ah1, Ah2, HO⟩
  iapply (doneTail_run I K c)
  isplitl [F0 F1 F2 Cg0 Cg1 Cg2 As0 As1 As2 Ag0 Ag1 Ag2 HO]
  · isplitr; · iexact HW
    isplitl [F0 F1 F2]
    · isplitl [F0]; · iexact F0
      isplitl [F1]; · iexact F1
      iexact F2
    isplitl [Cg0 Cg1 Cg2]
    · isplitl [Cg0]; · iexact Cg0
      isplitl [Cg1]; · iexact Cg1
      iexact Cg2
    isplitl [As0 As1 As2]
    · isplitl [As0]; · iexact As0
      isplitl [As1]; · iexact As1
      iexact As2
    isplitl [Ag0 Ag1 Ag2]
    · isplitl [Ag0]; · iexact Ag0
      isplitl [Ag1]; · iexact Ag1
      iexact Ag2
    iexact HO
  iintro ⟨H8, H10, ⟨As0, As1, As2⟩, ⟨Ag0, Ag1, Ag2⟩, HO⟩
  imod (closeSlot I K c 0) $$ [As0 Ar0 Ag0 Ah0] with Z0
  · isplitr; · iexact HW
    unfold overAt
    isplitl [As0]; · iexact As0
    isplitl [Ar0]; · iexact Ar0
    isplitl [Ag0]; · iexact Ag0
    iexact Ah0
  imod (closeSlot I K c 1) $$ [As1 Ar1 Ag1 Ah1] with Z1
  · isplitr; · iexact HW
    unfold overAt
    isplitl [As1]; · iexact As1
    isplitl [Ar1]; · iexact Ar1
    isplitl [Ag1]; · iexact Ag1
    iexact Ah1
  imod (closeSlot I K c 2) $$ [As2 Ar2 Ag2 Ah2] with Z2
  · isplitr; · iexact HW
    unfold overAt
    isplitl [As2]; · iexact As2
    isplitl [Ar2]; · iexact Ar2
    isplitl [Ag2]; · iexact Ag2
    iexact Ah2
  imod (close_at I K (bar_mem c)) $$ [Ab] with ZB
  · isplitr; · iexact HW
    iexact Ab
  imodintro
  iapply Hk
  unfold bodyPost scr
  isplitl [HI]; · iexact HI
  isplitl [H5]; · iexact H5
  isplitl [H6 H7 H8 H90 H91 H92 H10 H11]
  · isplitl [H6]; · iexists _; iexact H6
    isplitl [H7]; · iexact H7
    isplitl [H8]; · iexact H8
    isplitl [H90 H91 H92]
    · iapply (join9 c)
      isplitl [H90]; · iexact H90
      isplitl [H91]; · iexact H91
      iexact H92
    isplitl [H10]; · iexact H10
    iapply (join11 c); iexact H11
  isplitl [Z0]; · iexact Z0
  isplitl [Z1]; · iexact Z1
  isplitl [Z2]; · iexact Z2
  isplitl [ZB]; · iexact ZB
  iexact HO

end Cert.KernelIdeal.Hand
-- ==== Proof.Deal.lean ====
/-
  The launch's hand-out: the cells, duties and credits of the exchange sorted by device and slot.
-/
module

public import proofs.«01_k».proof.Proof.Body

@[expose] public section

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## A device's twelve copy cells, slot by slot -/

/-- Copy semaphore `3 j + r` is the `j`-th of slot `r`. -/
def slotIx (p : Fin 3 × Fin 4) : Fin 12 := ⟨3 * p.2.val + p.1.val, by have := p.1.isLt; have := p.2.isLt; omega⟩
/-- Slot and kind number the twelve copy semaphores. -/
def slotEquiv : Fin 3 × Fin 4 ≃ Fin 12 := Equiv.ofBijective slotIx (by decide)

/-- A conjunction over three is its three parts. -/
theorem bigSep_three (Φ : Fin 3 → sProp 𝕄) : bigSep Finset.univ Φ = iprop(Φ 0 ∗ Φ 1 ∗ Φ 2) :=
  bigSep_univ_eq_bigSepL [0, 1, 2] (by decide) (by decide) Φ
/-- A conjunction over four is its four parts. -/
theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ
/-- A conjunction over five is its five parts. -/
theorem bigSep_five (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ

/-- What a device has of a slot's four copy cells. -/
abbrev ofSlot (Φ : GSem nD τ sig → sProp 𝕄) (c : Dev nD) (r : Fin 3) : sProp 𝕄 :=
  iprop(Φ (rsSend c r) ∗ Φ (rsRecv c r) ∗ Φ (agSend c r) ∗ Φ (agRecv c r))

/-- Something of each of a device's twelve copy cells is that something slot by slot. -/
theorem twelve (Φ : GSem nD τ sig → sProp 𝕄) (c : Dev nD) :
    bigSep Finset.univ (fun i : Fin 12 => Φ ((c : Thread nD τ), .dma (tsem i)))
      = bigSep Finset.univ (ofSlot Φ c) := by
  rw [bigSep_univ_equiv slotEquiv (fun i : Fin 12 => Φ ((c : Thread nD τ), .dma (tsem i))), bigSep_univ_prod]
  refine bigSep_congr fun r _ => ?_
  rw [bigSep_four]
  exact fin3 (P := fun r => iprop(Φ ((c : Thread nD τ), .dma (tsem (slotEquiv (r, 0)))) ∗ Φ ((c : Thread nD τ), .dma (tsem (slotEquiv (r, 1))))
    ∗ Φ ((c : Thread nD τ), .dma (tsem (slotEquiv (r, 2)))) ∗ Φ ((c : Thread nD τ), .dma (tsem (slotEquiv (r, 3))))) = ofSlot Φ c r) rfl rfl rfl r

/-- Over all devices. -/
theorem twelve_all (Φ : GSem nD τ sig → sProp 𝕄) :
    bigSep scCells Φ = bigSep Finset.univ fun c : Dev nD => bigSep Finset.univ (ofSlot Φ c) := by
  unfold scCells; rw [bigSep_map, bigSep_univ_prod]
  exact bigSep_congr fun c _ => twelve Φ c

/-! ## The duties, each handed to the device that pays it -/

/-- A device's five duties of slot `r`, by the cell and the duty's number. -/
def dutyAt (p : Fin 3 × Fin 5) : SemLoc sig × Fin 3 := match p.2 with
  | 0 => (.reg barrier0, p.1)
  | 1 => (.dma (rsSendS p.1), 0)
  | 2 => (.dma (rsRecvS p.1), 0)
  | 3 => (.dma (agSendS p.1), 0)
  | 4 => (.dma (agRecvS p.1), 0)
/-- Different duties have different cells or numbers. -/
theorem dutyAt_inj : Function.Injective dutyAt := by decide

/-- Every duty of every device, by cell, round and number. -/
def dutyEmb : Dev nD × Fin 3 × Fin 5 ↪ GSem nD τ sig × ℕ × Fin 3 :=
  ⟨fun p => (((p.1 : Thread nD τ), (dutyAt p.2).1), 0, (dutyAt p.2).2), fun p q h => by
    have h1 : p.1 = q.1 := congrArg (fun t : GSem nD τ sig × ℕ × Fin 3 => t.1.1.1) h
    have h2 : (dutyAt p.2).1 = (dutyAt q.2).1 := congrArg (fun t : GSem nD τ sig × ℕ × Fin 3 => t.1.2) h
    have h3 : (dutyAt p.2).2 = (dutyAt q.2).2 := congrArg (fun t : GSem nD τ sig × ℕ × Fin 3 => t.2.2) h
    exact Prod.ext h1 (dutyAt_inj (Prod.ext h2 h3))⟩
/-- All duties. -/
def duties : Finset (GSem nD τ sig × ℕ × Fin 3) := Finset.univ.map dutyEmb

/-- Device `c`'s send with index `r` is received in slot `r.rev` of peer `r`: who pays, against where. -/
def across : Dev nD × Fin 3 ≃ Dev nD × Fin 3 where
  toFun p := (peer p.1 p.2, p.2.rev)
  invFun p := (peer p.1 p.2, p.2.rev)
  left_inv p := by show (peer (peer p.1 p.2) p.2.rev, p.2.rev.rev) = p; rw [peer_peer, Fin.rev_rev]
  right_inv p := by show (peer (peer p.1 p.2) p.2.rev, p.2.rev.rev) = p; rw [peer_peer, Fin.rev_rev]

/-- All duties together are what each device has to pay, device by device. -/
theorem duties_dealt : bigSep duties (fun x => (dutyTok ER x.1 x.2.1 x.2.2 : sProp 𝕄))
    = bigSep Finset.univ fun c : Dev nD => iprop(toksAt (F := F) c 0 ∗ toksAt (F := F) c 1 ∗ toksAt (F := F) c 2) := by
  have e1 : bigSep duties (fun x => (dutyTok ER x.1 x.2.1 x.2.2 : sProp 𝕄))
      = bigSep Finset.univ fun p : Dev nD × Fin 3 => iprop(dutyTok ER (barCell p.1) 0 p.2 ∗ dutyTok ER (rsSend p.1 p.2) 0 0
        ∗ dutyTok ER (rsRecv p.1 p.2) 0 0 ∗ dutyTok ER (agSend p.1 p.2) 0 0 ∗ dutyTok ER (agRecv p.1 p.2) 0 0) := by
    unfold duties; rw [bigSep_map, bigSep_univ_prod, bigSep_univ_prod]
    refine bigSep_congr fun c _ => ?_
    rw [bigSep_univ_prod]
    refine bigSep_congr fun r _ => ?_
    rw [bigSep_five]; rfl
  have e2 : (bigSep Finset.univ fun c : Dev nD => iprop(toksAt (F := F) c 0 ∗ toksAt (F := F) c 1 ∗ toksAt (F := F) c 2))
      = bigSep Finset.univ fun p : Dev nD × Fin 3 => iprop(dutyTok ER (barCell (across p).1) 0 (across p).2 ∗ dutyTok ER (rsSend p.1 p.2) 0 0
        ∗ dutyTok ER (rsRecv (across p).1 (across p).2) 0 0 ∗ dutyTok ER (agSend p.1 p.2) 0 0 ∗ dutyTok ER (agRecv (across p).1 (across p).2) 0 0) := by
    rw [bigSep_univ_prod]
    exact bigSep_congr fun c _ => (bigSep_three (F := F) (toksAt c)).symm
  rw [e1, e2, bigSep_sep', bigSep_sep', bigSep_sep', bigSep_sep', bigSep_sep', bigSep_sep', bigSep_sep', bigSep_sep',
    bigSep_univ_equiv across (fun p : Dev nD × Fin 3 => (dutyTok ER (barCell p.1) 0 p.2 : sProp 𝕄)),
    bigSep_univ_equiv across (fun p : Dev nD × Fin 3 => (dutyTok ER (rsRecv p.1 p.2) 0 0 : sProp 𝕄)),
    bigSep_univ_equiv across (fun p : Dev nD × Fin 3 => (dutyTok ER (agRecv p.1 p.2) 0 0 : sProp 𝕄))]

/-! ## The credit each device finds at launch -/

/-- What a device owes a cell at launch, as a sum over its three peers. -/
theorem O₀_at (d : Dev nD) (g : GSem nD τ sig) :
    O₀ d g () = ∑ r : Fin 3, (tBar d r g () + tRs d r g () + tAg d r g ()) := by
  have e : O₀ d = tAg d 2 + tAg d 1 + tAg d 0 + tRs d 2 + tRs d 1 + tRs d 0 + tBar d 2 + tBar d 1 + tBar d 0 := rfl
  rw [e, Fin.sum_univ_three]
  simp only [Pi.add_apply, Finsupp.add_apply]
  omega

/-- A debt's amount at a cell. -/
theorem tally_if (g g' : GSem nD τ sig) (n : ℕ) (P : Prop) [Decidable P] (h : g' = g ↔ P) :
    (tallyAt g () n : CellTallies nD τ sig Unit) g' () = n * (if P then 1 else 0) := by
  rw [tallyAt_apply]
  by_cases hp : P
  · rw [if_pos hp, if_pos ⟨h.2 hp, rfl⟩, Nat.mul_one]
  · rw [if_neg hp, if_neg (fun hh => hp (h.1 hh.1)), Nat.mul_zero]

/-- Two cells are the same exactly when device and semaphore are. -/
theorem cell_eq (c c' : Dev nD) (s s' : SemLoc sig) :
    (((c : Thread nD τ), s) : GSem nD τ sig) = ((c' : Thread nD τ), s') ↔ c = c' ∧ s = s' :=
  ⟨fun h => ⟨congrArg (fun g : GSem nD τ sig => g.1.1) h, congrArg Prod.snd h⟩, fun h => by rw [h.1, h.2]⟩

/-- What device `d` owes the barrier of device `c`: a unit if `c` is its peer. -/
theorem owed_bar (c d : Dev nD) : O₀ d (barCell c) () = ∑ r : Fin 3, (if c = peer d r then 1 else 0) := by
  rw [O₀_at]
  refine Finset.sum_congr rfl fun r _ => ?_
  rw [tally_if _ _ 1 (c = peer d r) ((cell_eq _ _ _ _).trans (and_iff_left rfl)),
    tally_if _ _ N False ((cell_eq _ _ _ _).trans (iff_of_false (fun h => by cases h.2) id)),
    tally_if _ _ N False ((cell_eq _ _ _ _).trans (iff_of_false (fun h => by cases h.2) id))]
  simp
/-- What device `d` owes a share's arrival cell of device `c`: one copy if it sends there. -/
theorem owed_rs (c d : Dev nD) (k : Fin 3) : O₀ d (rsRecv c k) () = ∑ r : Fin 3, N * (if c = peer d r ∧ k = r.rev then 1 else 0) := by
  rw [O₀_at]
  refine Finset.sum_congr rfl fun r _ => ?_
  have hs : (SemLoc.dma (rsRecvS k) : SemLoc sig) = .dma (rsRecvS r.rev) ↔ k = r.rev := by
    generalize r.rev = r'; revert k r'; decide
  have hn : ¬(SemLoc.dma (rsRecvS k) : SemLoc sig) = .dma (agRecvS r.rev) := by
    clear hs; generalize r.rev = r'; revert k r'; decide
  rw [tally_if _ _ 1 False ((cell_eq _ _ _ _).trans (iff_of_false (fun h => by cases h.2) id)),
    tally_if _ _ N (c = peer d r ∧ k = r.rev) ((cell_eq _ _ _ _).trans (and_congr_right fun _ => hs)),
    tally_if _ _ N False ((cell_eq _ _ _ _).trans (iff_of_false (fun h => hn h.2) id))]
  simp
/-- What device `d` owes a summed quarter's arrival cell of device `c`: one copy if it sends there. -/
theorem owed_ag (c d : Dev nD) (k : Fin 3) : O₀ d (agRecv c k) () = ∑ r : Fin 3, N * (if c = peer d r ∧ k = r.rev then 1 else 0) := by
  rw [O₀_at]
  refine Finset.sum_congr rfl fun r _ => ?_
  have hs : (SemLoc.dma (agRecvS k) : SemLoc sig) = .dma (agRecvS r.rev) ↔ k = r.rev := by
    generalize r.rev = r'; revert k r'; decide
  have hn : ¬(SemLoc.dma (agRecvS k) : SemLoc sig) = .dma (rsRecvS r.rev) := by
    clear hs; generalize r.rev = r'; revert k r'; decide
  rw [tally_if _ _ 1 False ((cell_eq _ _ _ _).trans (iff_of_false (fun h => by cases h.2) id)),
    tally_if _ _ N (c = peer d r ∧ k = r.rev) ((cell_eq _ _ _ _).trans (and_congr_right fun _ => hs)),
    tally_if _ _ N False ((cell_eq _ _ _ _).trans (iff_of_false (fun h => hn h.2) id))]
  simp

/-- Every device is a peer three times. -/
theorem count_bar (c : Dev nD) : ∑ d : Dev nD, ∑ r : Fin 3, (if c = peer d r then 1 else 0) = 3 := by revert c; decide
/-- Every slot is written by exactly one device. -/
theorem count_slot (c : Dev nD) (k : Fin 3) : ∑ d : Dev nD, ∑ r : Fin 3, (if c = peer d r ∧ k = r.rev then 1 else 0) = 1 := by
  revert c k; decide

/-- A cell's credit at launch is what all devices together owe it. -/
theorem launch_eq (g : GSem nD τ sig) (n : ℕ) (h : ∑ d : Dev nD, O₀ d g () = n) :
    tallyOn g (launchCredit (Pipeline.owing O₀) 0 g) = (tallyAt g () n : CellTallies nD τ sig Unit) := by
  unfold tallyAt; refine congrArg _ (Finsupp.ext fun u => ?_); cases u
  rw [Pipeline.launchCredit_owing, Finsupp.single_eq_same, h]

/-- A barrier's credit at launch is three. -/
theorem launch_bar (c : Dev nD) :
    tallyOn (barCell c) (launchCredit (Pipeline.owing O₀) 0 (barCell c)) = (tallyAt (barCell c) () 3 : CellTallies nD τ sig Unit) :=
  launch_eq _ _ (by rw [Finset.sum_congr rfl fun d _ => owed_bar c d, count_bar])
/-- A share's arrival cell has the credit of one copy at launch. -/
theorem launch_rs (c : Dev nD) (k : Fin 3) :
    tallyOn (rsRecv c k) (launchCredit (Pipeline.owing O₀) 0 (rsRecv c k)) = (tallyAt (rsRecv c k) () N : CellTallies nD τ sig Unit) :=
  launch_eq _ _ (by
    rw [Finset.sum_congr rfl fun d _ => (owed_rs c d k).trans (Finset.mul_sum _ _ _).symm, ← Finset.mul_sum, count_slot, Nat.mul_one])
/-- A summed quarter's arrival cell has the credit of one copy at launch. -/
theorem launch_ag (c : Dev nD) (k : Fin 3) :
    tallyOn (agRecv c k) (launchCredit (Pipeline.owing O₀) 0 (agRecv c k)) = (tallyAt (agRecv c k) () N : CellTallies nD τ sig Unit) :=
  launch_eq _ _ (by
    rw [Finset.sum_congr rfl fun d _ => (owed_ag c d k).trans (Finset.mul_sum _ _ _).symm, ← Finset.mul_sum, count_slot, Nat.mul_one])

/-- The cells that are credited by other devices. -/
def heardAt : Fin 7 → SemLoc sig
  | 0 => .reg barrier0 | 1 => .dma (rsRecvS 0) | 2 => .dma (agRecvS 0) | 3 => .dma (rsRecvS 1) | 4 => .dma (agRecvS 1)
  | 5 => .dma (rsRecvS 2) | 6 => .dma (agRecvS 2)
/-- Those cells are seven different ones. -/
def heardEmb : Fin 7 ↪ SemLoc sig := ⟨heardAt, by decide⟩

/-- A slot's launch credit. -/
def credAt (c : Dev nD) (r : Fin 3) : sProp 𝕄 := iprop(cred (tallyAt (rsRecv c r) () N) ∗ cred (tallyAt (agRecv c r) () N))

/-- A device's credit at launch: three at its barrier, one copy at each arrival cell. -/
theorem creds (c : Dev nD) : (Pipeline.launchCred O₀ c : sProp 𝕄)
    ⊢ iprop(cred (tallyAt (barCell c) () 3) ∗ credAt c 0 ∗ credAt c 1 ∗ credAt c 2) := by
  unfold Pipeline.launchCred credAt
  refine (bigSep_subset (Finset.subset_univ (Finset.univ.map heardEmb))).trans ?_
  rw [bigSep_map, bigSep_univ_eq_bigSepL [0, 1, 2, 3, 4, 5, 6] (by decide) (by decide)]
  rw [← launch_bar, ← launch_rs, ← launch_rs, ← launch_rs, ← launch_ag, ← launch_ag, ← launch_ag]
  show iprop(cred (tallyOn (barCell c) _) ∗ cred (tallyOn (rsRecv c 0) _) ∗ cred (tallyOn (agRecv c 0) _) ∗ cred (tallyOn (rsRecv c 1) _)
    ∗ cred (tallyOn (agRecv c 1) _) ∗ cred (tallyOn (rsRecv c 2) _) ∗ cred (tallyOn (agRecv c 2) _)) ⊢ _
  iintro ⟨HB, H0, G0, H1, G1, H2, G2⟩
  isplitl [HB]; · iexact HB
  isplitl [H0 G0]
  · isplitl [H0]; · iexact H0
    iexact G0
  isplitl [H1 G1]
  · isplitl [H1]; · iexact H1
    iexact G1
  isplitl [H2]; · iexact H2
  iexact G2

end Cert.KernelIdeal.Hand

end
-- ==== Proof.Launch.lean ====
/-
  The launch: the whole program on the four devices, from any memory with zero counters, to every device holding the
  exchanged result.
-/
module

public import proofs.«01_k».proof.Proof.Deal
public import proofs.«01_k».proof.Proof.Gen.KernelIdeal.Frame

@[expose] public section

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline (Dat BodyObligation)

variable (m : (ℓ : Loc nD τ sig) → Buf (Elt F) ℓ) (ρ : Dev nD → PrngReg)

/-! ## What a device brings to the kernel's region -/

/-- The buffers of device `c` at launch and when the kernel's region is entered. -/
abbrev Va (c : Dev nD) : Valuation τ sig (Elt F) := fun b => m (c, b)
/-- The buffers of device `c` when the kernel's region is entered. -/
abbrev Vb (c : Dev nD) : Valuation τ sig (Elt F) := StableHlo.after hostOps0 (Va m c)

/-- The kernel's five inputs on device `c`. -/
def inp (c : Dev nD) : Inp F :=
  ⟨(iblk m c 0 t0_0 : Vec F S2x256x768 .f32), (iblk m c 1 t0_0 : Vec F S768x512 .f32), (iblk m c 2 t0_0 : Vec F S512x768 .f32),
    (iblk m c 3 t0_0 : Vec F S2x8x64x512 .f32), (iblk m c 4 t0_0 : Vec F S2x8x512x64 .f32)⟩

/-- The buffers when the kernel's region is left: the result as exchanged, the rest as found. -/
abbrev Vc (c : Dev nD) : Valuation τ sig (Elt F) :=
  Function.update (Vb m c) (Proc.devRef .tc main_v3) (outV (inp m) c : Buf (Elt F) ((c : Thread nD τ).loc main_v3))

/-- What is given to device `c` at launch: its barrier position, the right to open its copy cells, the duties it pays. -/
def linear (c : Dev nD) : sProp 𝕄 :=
  iprop(atPos ER (barCell c) 0 ∅ 0 ∗ (bigSep Finset.univ (ofSlot (fun g => openTok ER g) c)) ∗ (toksAt (F := F) c 0 ∗ toksAt (F := F) c 1 ∗ toksAt (F := F) c 2))

/-- What every device may consult: the records of all cells, and that every barrier's round has begun. -/
def records (κ : GSem nD τ sig → ℕ) : sProp 𝕄 :=
  iprop(invs (inp m) κ ∗ bigSep barCells fun g => reached ER g 0)
/-- This may be consulted any number of times. -/
instance records_persistent (κ : GSem nD τ sig → ℕ) : BI.Persistent (records m κ) := by unfold records; infer_instance

/-- Every barrier's round has begun, so device `c`'s has. -/
theorem reached_at (c : Dev nD) : (bigSep barCells fun g => (reached ER g 0 : sProp 𝕄)) ⊢ reached ER (barCell c) 0 :=
  bigSep_elim (Finset.mem_map_of_mem barEmb (Finset.mem_univ c))

/-- What the launch keeps for the kernel's region on device `c`. -/
def Tk (c : Dev nD) : sProp 𝕄 :=
  iprop((∃ κ, records m κ ∗ linear (F := F) c) ∗ cred (tallyAt (barCell c) () 3) ∗ credAt (F := F) c 0 ∗ credAt (F := F) c 1 ∗ credAt (F := F) c 2)

/-- The same with the copy cells open: what the body starts from, beside the buffers and the debt. -/
def Xk (c : Dev nD) : sProp 𝕄 :=
  iprop(∃ K, bodyCtx (inp m) K c ∗ (toksAt (F := F) c 0 ∗ toksAt (F := F) c 1 ∗ toksAt (F := F) c 2)
    ∗ (waitsAt (F := F) c 0 ∗ waitsAt (F := F) c 1 ∗ waitsAt (F := F) c 2) ∗ cred (tallyAt (barCell c) () 3) ∗ atPos ER (barCell c) 0 ∅ 0)

/-- The copy cells as the region names them. -/
abbrev osem (i : Fin 12) : SemLoc sig := .dma (tsem i)
/-- The region's own copy cells are the twelve the kernel names. -/
theorem osem_facts : Pipeline.OwnSemFacts spec0 osem := by decide

/-- The twelve counters at zero, slot by slot. -/
theorem ownSems_eq (c : Dev nD) : (Pipeline.ownSems0 osem c : sProp 𝕄) = iprop(zeroAt (F := F) c 0 ∗ zeroAt (F := F) c 1 ∗ zeroAt (F := F) c 2) :=
  (twelve (F := F) (fun g => semVal g 0) c).trans (bigSep_three (F := F) _)

/-- That the rounds of a slot's cells have begun. -/
def begunAt (c : Dev nD) (r : Fin 3) : sProp 𝕄 :=
  iprop(reached ER (rsSend c r) 0 ∗ reached ER (rsRecv c r) 0 ∗ reached ER (agSend c r) 0 ∗ reached ER (agRecv c r) 0)
/-- This may be consulted any number of times. -/
instance begunAt_persistent (c : Dev nD) (r : Fin 3) : BI.Persistent (begunAt (F := F) c r) := by unfold begunAt; infer_instance

/-- A cell at zero, opened: its place in the round, and that the round has begun. -/
theorem open_at (I : Dev nD → Inp F) (K : GSem nD τ sig → ℕ) {g : GSem nD τ sig} (hg : g ∈ barCells ∪ scCells) :
    iprop(invs I K ∗ openTok ER g ∗ semVal g 0) ⊢ (|={Set.univ}=> iprop(atPos ER g 0 ∅ 0 ∗ reached ER g 0) : sProp 𝕄) := by
  iintro ⟨#HI, Ho, Hs⟩
  iapply (Rounds.cell_open ER (sched I) (g := g) (Set.mem_univ (K g)))
  isplitr; · iapply (inv_at I K hg); iexact HI
  isplitl [Ho] <;> iassumption

/-- A slot's four copy cells, opened. -/
theorem open_slot (I : Dev nD → Inp F) (K : GSem nD τ sig → ℕ) (c : Dev nD) (r : Fin 3) :
    iprop(invs I K ∗ ofSlot (F := F) (fun g => openTok ER g) c r ∗ zeroAt (F := F) c r ∗ credAt (F := F) c r)
      ⊢ (|={Set.univ}=> iprop(waitsAt (F := F) c r ∗ begunAt (F := F) c r) : sProp 𝕄) := by
  unfold ofSlot zeroAt credAt waitsAt begunAt
  iintro ⟨#HI, ⟨O1, O2, O3, O4⟩, ⟨Z1, Z2, Z3, Z4⟩, C1, C2⟩
  imod (open_at I K (rsSend_mem c r)) $$ [O1 Z1] with ⟨A1, R1⟩
  · isplitr; · iexact HI
    isplitl [O1]; · iexact O1
    iexact Z1
  imod (open_at I K (rsRecv_mem c r)) $$ [O2 Z2] with ⟨A2, R2⟩
  · isplitr; · iexact HI
    isplitl [O2]; · iexact O2
    iexact Z2
  imod (open_at I K (agSend_mem c r)) $$ [O3 Z3] with ⟨A3, R3⟩
  · isplitr; · iexact HI
    isplitl [O3]; · iexact O3
    iexact Z3
  imod (open_at I K (agRecv_mem c r)) $$ [O4 Z4] with ⟨A4, R4⟩
  · isplitr; · iexact HI
    isplitl [O4]; · iexact O4
    iexact Z4
  imodintro
  isplitl [A1 A2 A3 A4 C1 C2]
  · isplitl [A1]; · iexact A1
    isplitl [A2]; · iexact A2
    isplitl [A3]; · iexact A3
    isplitl [A4]; · iexact A4
    isplitl [C1]; · iexact C1
    iexact C2
  isplitl [R1]; · iexact R1
  isplitl [R2]; · iexact R2
  isplitl [R3]; · iexact R3
  iexact R4

/-- What a device knows of slot `r`, from the barriers' records and its own cells being open. -/
theorem known_of (c : Dev nD) (r : Fin 3) :
    iprop((bigSep barCells fun g => (reached ER g 0 : sProp 𝕄)) ∗ begunAt (F := F) c r) ⊢ knownAt (F := F) c r := by
  unfold begunAt knownAt
  iintro ⟨#HB, #HR⟩
  isplitr; · iapply (reached_at (F := F) (peer c r)); iexact HB
  iexact HR

/-- What the launch kept, with the copy cells opened: what the body starts from. -/
theorem hopen (c : Dev nD) : iprop(Tk m c ∗ Pipeline.ownSems0 osem c ∗ levAts L lv) ⊢ (|={Set.univ}=> Xk m c : sProp 𝕄) := by
  rw [ownSems_eq]
  unfold Tk Xk linear records
  rw [bigSep_three (F := F)]
  iintro ⟨⟨⟨%K, ⟨#HI, #HB⟩, Ab, ⟨O0, O1, O2⟩, HT⟩, Cb, C0, C1, C2⟩, ⟨Z0, Z1, Z2⟩, #HL⟩
  imod (open_slot (inp m) K c 0) $$ [O0 Z0 C0] with ⟨W0, #R0⟩
  · isplitr; · iexact HI
    isplitl [O0]; · iexact O0
    isplitl [Z0] <;> iassumption
  imod (open_slot (inp m) K c 1) $$ [O1 Z1 C1] with ⟨W1, #R1⟩
  · isplitr; · iexact HI
    isplitl [O1]; · iexact O1
    isplitl [Z1] <;> iassumption
  imod (open_slot (inp m) K c 2) $$ [O2 Z2 C2] with ⟨W2, #R2⟩
  · isplitr; · iexact HI
    isplitl [O2]; · iexact O2
    isplitl [Z2] <;> iassumption
  imodintro
  iexists K
  isplitr
  · unfold bodyCtx waitCtx
    isplitr
    · isplitr; · iexact HI
      iexact HL
    isplitr
    · iapply (known_of c 0); isplitr; · iexact HB
      iexact R0
    isplitr
    · iapply (known_of c 1); isplitr; · iexact HB
      iexact R1
    iapply (known_of c 2); isplitr; · iexact HB
    iexact R2
  isplitl [HT]; · iexact HT
  isplitl [W0 W1 W2]
  · isplitl [W0]; · iexact W0
    isplitl [W1] <;> iassumption
  isplitl [Cb] <;> iassumption

/-! ## The region's proof data -/

/-- Every counter the kernel used, at zero. -/
def Zk (c : Dev nD) : sProp 𝕄 := iprop((zeroAt (F := F) c 0 ∗ zeroAt (F := F) c 1 ∗ zeroAt (F := F) c 2) ∗ semVal (barCell c) 0)

/-- One point: before it the protocol's start and the debt, after it every counter at zero and nothing owed. -/
def dat (c : Dev nD) : Dat τ (Elt F) Unit ℕ UU ℕ cfg0 c where
  A w := V m c (Pipeline.arrRef spec0 w)
  after := fun
    | 0 => fun t => iblk m c 0 t
    | 1 => fun t => iblk m c 1 t
    | 2 => fun t => iblk m c 2 t
    | 3 => fun t => iblk m c 3 t
    | 4 => fun t => iblk m c 4 t
    | 5 => fun _ => (outV (inp m) c : Vec F S2x256x768 .f32)
    | ⟨_ + 6, h⟩ => absurd h (Nat.not_lt.2 (Nat.le_add_left _ _))
  Φ t := if t.val = 0 then iprop(Xk m c ∗ scr (F := F) c ∗ ∃ r, prngReg c r) else iprop(Zk (F := F) c ∗ scr (F := F) c ∗ ∃ r, prngReg c r)
  q _ := fullShare
  owed t := if t.val = 0 then O₀ c else 0

/-- The pipeline's shape is admissible. -/
abbrev adm : (p : Fin 1) → (pcfgs (F := F) p).Adm := fun p => (cfgs p).toPCfg_adm
/-- The pipeline's data on every device. -/
def pdats : (p : Fin 1) → (c : Dev nD) → Dat τ (Elt F) Unit ℕ UU ℕ (Pipeline.pin (pcfgs (F := F)) adm p) c := fun _ => dat m

/-- The activations' staging buffer holds what was fetched when the body starts. -/
theorem before_0 (c : Dev nD) (t : Fin cfg0.N) (d) : (dat m c).before 0 t d = iblk m c 0 t :=
  ((dat m c).before_in_eq_fetched 0 rfl (fun _ => rfl) (fun _ _ _ => rfl) (fun _ => rfl) t d).trans rfl
/-- The query weights' staging buffer holds what was fetched when the body starts. -/
theorem before_1 (c : Dev nD) (t : Fin cfg0.N) (d) : (dat m c).before 1 t d = iblk m c 1 t :=
  ((dat m c).before_in_eq_fetched 1 rfl (fun _ => rfl) (fun _ _ _ => rfl) (fun _ => rfl) t d).trans rfl
/-- The output weights' staging buffer holds what was fetched when the body starts. -/
theorem before_2 (c : Dev nD) (t : Fin cfg0.N) (d) : (dat m c).before 2 t d = iblk m c 2 t :=
  ((dat m c).before_in_eq_fetched 2 rfl (fun _ => rfl) (fun _ _ _ => rfl) (fun _ => rfl) t d).trans rfl
/-- The keys' staging buffer holds what was fetched when the body starts. -/
theorem before_3 (c : Dev nD) (t : Fin cfg0.N) (d) : (dat m c).before 3 t d = iblk m c 3 t :=
  ((dat m c).before_in_eq_fetched 3 rfl (fun _ => rfl) (fun _ _ _ => rfl) (fun _ => rfl) t d).trans rfl
/-- The values' staging buffer holds what was fetched when the body starts. -/
theorem before_4 (c : Dev nD) (t : Fin cfg0.N) (d) : (dat m c).before 4 t d = iblk m c 4 t :=
  ((dat m c).before_in_eq_fetched 4 rfl (fun _ => rfl) (fun _ _ _ => rfl) (fun _ => rfl) t d).trans rfl

/-- What is owed when the body starts. -/
theorem owed_first (c : Dev nD) : (dat (F := F) m c).owed t0_0.castSucc = O₀ c := by
  show (if (t0_0.castSucc : Fin (cfg0.N + 1)).val = 0 then O₀ c else 0) = O₀ c; exact if_pos rfl
/-- What is owed when the region is entered. -/
theorem owed_zero (c : Dev nD) : (pdats (F := F) m 0 c).owed 0 = O₀ c := by
  show (if ((0 : Fin (cfg0.N + 1)).val = 0) then O₀ c else 0) = O₀ c; exact if_pos rfl
/-- Nothing is owed when the region is left. -/
theorem owed_last (c : Dev nD) : (pdats (F := F) m 0 c).owed (Fin.last _) = 0 := by
  show (if (Fin.last cfg0.N).val = 0 then O₀ c else 0) = 0
  rw [Fin.val_last, if_neg (by rw [show cfg0.N = 1 from N_0]; decide)]

/-- A debt, as the pipeline records it. -/
theorem owes_in {c : Dev nD} (D : Dat τ (Elt F) Unit ℕ UU ℕ cfg0 c) (t : Fin (cfg0.N + 1))
    (O : CellTallies nD τ sig Unit) (h0 : D.owed t = O) (hr : D.recorded t = Set.univ) :
    iprop(∃ W, owes (c : Thread nD τ) O W) ⊢ (D.owesAt () t : sProp 𝕄) := by
  unfold Dat.owesAt Pipeline.owesWithin Dat.bound; rw [h0, hr]
  iintro ⟨%W, HO⟩; iexists W; isplitr; · ipureintro; exact fun _ _ => Or.inl trivial
  iexact HO
/-- The debt the pipeline records. -/
theorem owes_out {c : Dev nD} (D : Dat τ (Elt F) Unit ℕ UU ℕ cfg0 c) (t : Fin (cfg0.N + 1))
    (O : CellTallies nD τ sig Unit) (h0 : D.owed t = O) :
    (D.owesAt () t : sProp 𝕄) ⊢ iprop(∃ W, owes (c : Thread nD τ) O W) := by
  unfold Dat.owesAt Pipeline.owesWithin; rw [h0]
  iintro ⟨%W, -, HO⟩; iexists W; iexact HO

/-! A window's staging buffer, by its name. -/

/-- The activations' staging buffer, owned. -/
theorem own_0 (c : Dev nD) (f : Bf (F := F) c A0) :
    (owns (c : Thread nD τ) ((cfg0.win 0).stage (cfg0.slots t0_0 0)) fullShare (f : Vec F S2x256x768 .f32) : sProp 𝕄) = pt c A0 f :=
  owns_whole (c : Thread nD τ) cc0_stg0_0 fullShare f
/-- The query weights' staging buffer, owned. -/
theorem own_1 (c : Dev nD) (f : Bf (F := F) c A1) :
    (owns (c : Thread nD τ) ((cfg0.win 1).stage (cfg0.slots t0_0 1)) fullShare (f : Vec F S768x512 .f32) : sProp 𝕄) = pt c A1 f :=
  owns_whole (c : Thread nD τ) cc0_stg1_0 fullShare f
/-- The output weights' staging buffer, owned. -/
theorem own_2 (c : Dev nD) (f : Bf (F := F) c A2) :
    (owns (c : Thread nD τ) ((cfg0.win 2).stage (cfg0.slots t0_0 2)) fullShare (f : Vec F S512x768 .f32) : sProp 𝕄) = pt c A2 f :=
  owns_whole (c : Thread nD τ) cc0_stg2_0 fullShare f
/-- The keys' staging buffer, owned. -/
theorem own_3 (c : Dev nD) (f : Bf (F := F) c A3) :
    (owns (c : Thread nD τ) ((cfg0.win 3).stage (cfg0.slots t0_0 3)) fullShare (f : Vec F S2x8x64x512 .f32) : sProp 𝕄) = pt c A3 f :=
  owns_whole (c : Thread nD τ) cc0_stg3_0 fullShare f
/-- The values' staging buffer, owned. -/
theorem own_4 (c : Dev nD) (f : Bf (F := F) c A4) :
    (owns (c : Thread nD τ) ((cfg0.win 4).stage (cfg0.slots t0_0 4)) fullShare (f : Vec F S2x8x512x64 .f32) : sProp 𝕄) = pt c A4 f :=
  owns_whole (c : Thread nD τ) cc0_stg4_0 fullShare f
/-- The result's staging buffer, owned. -/
theorem own_5 (c : Dev nD) (f : Bf (F := F) c A5) :
    (owns (c : Thread nD τ) ((cfg0.win 5).stage (cfg0.slots t0_0 5)) fullShare (f : Vec F S2x256x768 .f32) : sProp 𝕄) = pt c A5 f :=
  owns_whole (c : Thread nD τ) cc0_stg5_0 fullShare f

/-! What the pipeline fetched is the body's input. -/

/-- What was fetched of the activations is the body's input. -/
theorem have_0 (c : Dev nD) :
    (owns (c : Thread nD τ) ((cfg0.win 0).stage (cfg0.slots t0_0 0)) fullShare (iblk m c 0 t0_0) : sProp 𝕄) ⊢ pt c A0 (inp m c).x :=
  Entails.of_eq (own_0 c (inp m c).x)
/-- What was fetched of the query weights is the body's input. -/
theorem have_1 (c : Dev nD) :
    (owns (c : Thread nD τ) ((cfg0.win 1).stage (cfg0.slots t0_0 1)) fullShare (iblk m c 1 t0_0) : sProp 𝕄) ⊢ pt c A1 (inp m c).wq :=
  Entails.of_eq (own_1 c (inp m c).wq)
/-- What was fetched of the output weights is the body's input. -/
theorem have_2 (c : Dev nD) :
    (owns (c : Thread nD τ) ((cfg0.win 2).stage (cfg0.slots t0_0 2)) fullShare (iblk m c 2 t0_0) : sProp 𝕄) ⊢ pt c A2 (inp m c).wo :=
  Entails.of_eq (own_2 c (inp m c).wo)
/-- What was fetched of the keys is the body's input. -/
theorem have_3 (c : Dev nD) :
    (owns (c : Thread nD τ) ((cfg0.win 3).stage (cfg0.slots t0_0 3)) fullShare (iblk m c 3 t0_0) : sProp 𝕄) ⊢ pt c A3 (inp m c).k :=
  Entails.of_eq (own_3 c (inp m c).k)
/-- What was fetched of the values is the body's input. -/
theorem have_4 (c : Dev nD) :
    (owns (c : Thread nD τ) ((cfg0.win 4).stage (cfg0.slots t0_0 4)) fullShare (iblk m c 4 t0_0) : sProp 𝕄) ⊢ pt c A4 (inp m c).v :=
  Entails.of_eq (own_4 c (inp m c).v)

set_option maxHeartbeats 2000000 in
/-- The region's body obligation: the body, run. -/
theorem body (c : Dev nD) : BodyObligation (dat (F := F) m c) defs₀ 𝒱₀ () Set.univ := fun t => by
  obtain rfl := fin_N0 t
  rw [bigSep_W0, bigSep_W0]
  rw [show (dat m c).Φ t0_0.castSucc = iprop(Xk m c ∗ scr (F := F) c ∗ ∃ r, prngReg c r) from rfl,
    show (dat m c).Φ t0_0.succ = iprop(Zk (F := F) c ∗ scr (F := F) c ∗ ∃ r, prngReg c r) from rfl]
  unfold Xk Zk
  iintro ⟨⟨⟨%K, #HC, ⟨T0, T1, T2⟩, ⟨W0, W1, W2⟩, Cb, Ab⟩, HS, Hreg⟩, HO, ⟨%d0, H0⟩, ⟨%d1, H1⟩, ⟨%d2, H2⟩, ⟨%d3, H3⟩, ⟨%d4, H4⟩, ⟨%d5, H5⟩⟩
  rw [before_0, before_1, before_2, before_3, before_4]
  ihave HO := (owes_out (dat m c) _ (O₀ c) (owed_first m c)) $$ HO
  iapply (body_run (inp m) K c _)
  isplitl [T0 T1 T2 W0 W1 W2 Cb Ab HS HO H0 H1 H2 H3 H4 H5]
  · isplitr; · iexact HC
    unfold bodyPre ins
    isplitl [H0 H1 H2 H3 H4]
    · isplitl [H0]; · iapply (have_0 m c) $$ H0
      isplitl [H1]; · iapply (have_1 m c) $$ H1
      isplitl [H2]; · iapply (have_2 m c) $$ H2
      isplitl [H3]; · iapply (have_3 m c) $$ H3
      iapply (have_4 m c) $$ H4
    isplitl [H5]; · iexists _; iapply (Entails.of_eq (own_5 c _)) $$ H5
    isplitl [HS]; · iexact HS
    isplitl [T0]; · iexact T0
    isplitl [T1]; · iexact T1
    isplitl [T2]; · iexact T2
    isplitl [W0]; · iexact W0
    isplitl [W1]; · iexact W1
    isplitl [W2]; · iexact W2
    isplitl [Cb]; · iexact Cb
    isplitl [Ab]; · iexact Ab
    iexact HO
  unfold bodyPost ins
  iintro ⟨⟨H0, H1, H2, H3, H4⟩, H5, HS, Z0, Z1, Z2, Zb, HO⟩
  isplitl [HS Z0 Z1 Z2 Zb Hreg]
  · isplitl [Z0 Z1 Z2 Zb]
    · isplitl [Z0 Z1 Z2]
      · isplitl [Z0]; · iexact Z0
        isplitl [Z1] <;> iassumption
      iexact Zb
    isplitl [HS]; · iexact HS
    iexact Hreg
  isplitl [HO]; · iapply (owes_in (dat m c) t0_0.succ 0 (owed_last m c) rfl); iexact HO
  isplitl [H0]; · iapply (Entails.of_eq (own_0 c (inp m c).x).symm) $$ H0
  isplitl [H1]; · iapply (Entails.of_eq (own_1 c (inp m c).wq).symm) $$ H1
  isplitl [H2]; · iapply (Entails.of_eq (own_2 c (inp m c).wo).symm) $$ H2
  isplitl [H3]; · iapply (Entails.of_eq (own_3 c (inp m c).k).symm) $$ H3
  isplitl [H4]; · iapply (Entails.of_eq (own_4 c (inp m c).v).symm) $$ H4
  iapply (Entails.of_eq (own_5 c (outV (inp m) c)).symm) $$ H5

end Cert.KernelIdeal.Hand

end
-- ==== Proof.Run.lean ====
/-
  The whole program as a host stretch and the kernel's region, and its run.
-/
module

public import proofs.«01_k».proof.Proof.Launch
public import Idealize.ShloMosaic.Lib.Pipeline.ValueKit
public import Idealize.ShloMosaic.Lib.Quiescent

@[expose] public section

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline (Dat BodyObligation)

variable (m : (ℓ : Loc nD τ sig) → Buf (Elt F) ℓ) (ρ : Dev nD → PrngReg)

/-! ## The region -/

local notation "ℍ" => Pipeline.HostSeg (Name := ℕ) (U := UU) (pcfgs (F := F)) defs₀ 𝒱₀ L lv
local notation "ℝ" => Pipeline.RegionSeg (pcfgs (F := F)) adm (pdats m) () defs₀ 𝒱₀ L lv

/-- Every debt at launch is to a cell above the pipeline's own. -/
theorem above_O₀ (c : Dev nD) : Above 0 (O₀ c) := by
  have hR (r : Fin 3) : Above 0 (tRs c r) := above_tally _ _ _ (by rw [lv_rsRecv]; decide)
  have hB (r : Fin 3) : Above 0 (tBar c r) := above_tally _ _ _ Nat.one_pos
  exact above_add (above_add (above_add (above_add (above_add (above_add (above_debtAg (by decide) c) (hR 2)) (hR 1)) (hR 0)) (hB 2)) (hB 1)) (hB 0)

/-- What is owed at any time is owed to a cell with a level above the pipeline's own. -/
theorem cut (c : Dev nD) (t : Fin ((Pipeline.pin (pcfgs (F := F)) adm 0).N + 1)) (g : GSem nD τ sig) (i : Unit)
    (h : 0 < (pdats (F := F) m 0 c).owed t g i) : i ∈ L g ∧ (0 : ℕ) < lv g i := by
  have e : (pdats (F := F) m 0 c).owed t = if t.val = 0 then O₀ c else 0 := rfl
  rw [e] at h
  split at h
  · have := above_O₀ c g i h
    exact ⟨by unfold L; rw [if_pos this.1]; exact Finset.mem_singleton_self _, this.2⟩
  · exact absurd h (Nat.lt_irrefl 0)

/-- The buffers of the region that no window stages are the kernel's scratch. -/
theorem scoped_eq (c : Dev nD) : (Pipeline.scopedRest (Ix := Unit) (Name := ℕ) (U := UU) (Lvl := ℕ) (Val := Elt F) spec0 c : sProp 𝕄) = scr (F := F) c :=
  scopedRest0_eq c

/-- The region's entry gives the body what it starts from. -/
theorem hin (c : Dev nD) : iprop(Pipeline.scopedRest (Pipeline.pin (pcfgs (F := F)) adm 0).spec c ∗ (∃ r, prngReg c r)
    ∗ StableHlo.held (c.tc : Thread nD τ) ∅ (Vb m c) ∗ Xk m c) ⊢ (pdats m 0 c).Φ 0 := by
  rw [show (pdats m 0 c).Φ 0 = iprop(Xk m c ∗ scr (F := F) c ∗ ∃ r, prngReg c r) from rfl]
  rw [show (Pipeline.scopedRest (Pipeline.pin (pcfgs (F := F)) adm 0).spec c : sProp 𝕄) = scr (F := F) c from scoped_eq c]
  iintro ⟨Hs, Hp, -, HX⟩
  isplitl [HX]; · iexact HX
  isplitl [Hs]; · iexact Hs
  iexact Hp

/-- What the body ends with gives the region's exit. -/
theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) ∅ (Vc m c) ∗ Pipeline.ownSems0 osem c ∗ semVal (barCell c) 0) := by
  rw [show (pdats m 0 c).Φ (Fin.last _) = iprop(Zk (F := F) c ∗ scr (F := F) c ∗ ∃ r, prngReg c r) from rfl, ownSems_eq]
  rw [show (Pipeline.scopedRest (Pipeline.pin (pcfgs (F := F)) adm 0).spec c : sProp 𝕄) = scr (F := F) c from scoped_eq c]
  unfold Zk
  iintro ⟨⟨HZ, Hb⟩, Hs, Hp⟩
  isplitl [Hs]; · iexact Hs
  isplitl [Hp]; · iexact Hp
  isplitr
  · unfold StableHlo.held; rw [bigSep_empty]; iempintro
  isplitl [HZ]; · iexact HZ
  iexact Hb

/-- The result array after the region: what the body wrote. -/
theorem arr_out (c : Dev nD) : (dat m c).arrAt 5 cfg0.N = (outV (inp m) c : Buf (Elt F) ((c : Thread nD τ).loc main_v3)) := by
  refine (dat m c).arrAt_eq_of_after_last 5 t0_0 (by decide +kernel) _ fun j => ?_
  blk_simp
  rfl

/-- An input array is unchanged by the region. -/
theorem arr_in (c : Dev nD) (w : Fin cfg0.W) (n : ℕ) (h : w ≠ 5) : (dat m c).arrAt w n = V m c (Pipeline.arrRef spec0 w) := by
  refine (dat m c).arrAt_in w ?_ n
  revert w; decide

/-- The buffers no window stages. -/
abbrev rest : Finset (DevRef τ sig) := Pipeline.ucRefs τ sig \ Pipeline.arrRefs (τ := τ) spec0

/-- The result is one of the region's arrays. -/
theorem out_mem : (Proc.devRef .tc main_v3 : DevRef τ sig) ∈ Pipeline.arrRefs (τ := τ) spec0 :=
  Finset.mem_map_of_mem _ (Finset.mem_image.mpr ⟨5, Finset.mem_univ _, rfl⟩)

/-- Every other buffer is as the region found it. -/
theorem Vc_of_ne (c : Dev nD) {b : DevRef τ sig} (h : b ≠ Proc.devRef .tc main_v3) : Vc m c b = Vb m c b :=
  Function.update_of_ne h _ _
/-- The result holds what the exchange computes. -/
theorem Vc_out (c : Dev nD) : Vc m c (Proc.devRef .tc main_v3) = (outV (inp m) c : Buf (Elt F) ((c : Thread nD τ).loc main_v3)) :=
  Function.update_self _ _ _

/-- Every array of the region, after it. -/
theorem arr_end (c : Dev nD) (w : Fin 6) : (dat m c).arrAt w cfg0.N = Vc m c (Proc.devRef .tc (Pipeline.arrRef spec0 w)) := by
  by_cases h : w = 5
  · subst h; exact (arr_out m c).trans (Vc_out m c).symm
  · refine (arr_in m c w _ h).trans (Vc_of_ne m c ?_).symm
    refine StableHlo.devRef_ne_of_ne ?_
    revert w; decide

/-- The pipeline's semaphores are the first nine. -/
theorem stage_sem : ∀ (w : Fin 6) (s : Fin (spec0 w).nbuf), ((spec0 w).sem s).val < 9 := by decide
/-- The pipeline's semaphores have the lowest level. -/
theorem stage_low (c : Dev nD) (w : Fin 6) (s : Fin (spec0 w).nbuf) : lv ((c : Thread nD τ), .dma ((spec0 w).sem s)) () = 0 := by
  have h := stage_sem w s
  show (if 15 ≤ ((spec0 w).sem s).val then 3 else if 9 ≤ ((spec0 w).sem s).val ∧ ((spec0 w).sem s).val < 12 then 2 else 0) = 0
  rw [if_neg (by omega), if_neg (by omega)]

/-- The region holds its arrays whole. -/
theorem share_full (c : Dev nD) (w : Fin 6) : (pdats (F := F) m 0 c).share w = fullShare := by
  unfold Dat.share; split <;> rfl

set_option backward.isDefEq.respectTransparency.types false in
/-- The kernel's region: it takes the protocol's start and the debt, and gives the result and the barrier at zero. -/
def reg : ℝ 0 :=
  Pipeline.RegionSeg.ofTalk (pcfgs (F := F)) adm (pdats m) () defs₀ 𝒱₀ L lv 0 osem osem_facts
    ∅ rest (Finset.empty_subset _) launch0.toP rfl (fun c => (body m c).loose)
    (fun _ => 0) O₀ (fun c => (owed_zero m c).trans (zero_add _).symm) (owed_last m) (fun _ => rfl) (share_full m)
    (Vb m) (Vc m) (fun c b hb => Vc_of_ne m c fun e => (Finset.mem_sdiff.mp (Finset.mem_sdiff.mp hb).1).2 (e ▸ out_mem))
    (Tk m) (fun c => semVal (barCell c) 0) (Xk m) (fun c => semVal (barCell c) 0) (hopen m) (hin m) (hout m)
    (fun c => by iintro H; imodintro; iexact H)
    (fun _ => 0)
    ⟨fun c w s => by rw [L_tc]; exact Finset.mem_singleton_self _, fun c w s => le_of_eq (stage_low c w s), fun c t g i h => cut m c t g i h⟩
    (fun _ => iprop(emp))
    (fun c w => rfl) (fun c w => arr_end m c w)

/-! ## The program as two segments -/

/-- What rides beside the buffers up to the region. -/
def ride (c : Dev nD) : sProp 𝕄 := iprop(Tk m c ∗ (∃ r, prngReg c r) ∗ ∃ W, owes (c : Thread nD τ) (O₀ c) W)

/-- The two transposes. -/
def seg : ℍ := Pipeline.HostSeg.ofOps _ _ _ _ _ (Pipeline.ucRefs τ sig) hostOps0
  (fun op h => Pipeline.sub_ucRefs op (List.forall_iff_forall_mem.mp hostOps0_sub op h))
  (fun op h => List.forall_iff_forall_mem.mp hostOps0_fresh op h) (Va m) (ride m)

/-- The region's arrays are among the device's buffers. -/
theorem arr_sub : Pipeline.arrRefs (τ := τ) spec0 ⊆ Pipeline.ucRefs τ sig := Pipeline.arrRefs_sub_ucRefs spec0 (by decide)

/-- The device's buffers, and what rides beside them, are what the region takes. -/
theorem reg_pre (c : Dev nD) : iprop(StableHlo.held (c : Thread nD τ) (Pipeline.ucRefs τ sig) (Vb m c) ∗ ride m c) ⊢ (reg m).pre c := by
  show _ ⊢ iprop(StableHlo.held (c.tc : Thread nD τ) (Pipeline.arrRefs (τ := τ) spec0) (Vb m c) ∗ (∃ r, prngReg c r)
    ∗ (StableHlo.held (c.tc : Thread nD τ) rest (Vb m c) ∗ emp) ∗ Tk m c ∗ ∃ Wd, owes (c : Thread nD τ) (0 + O₀ c) Wd)
  rw [StableHlo.held_sub_split (c.tc : Thread nD τ) arr_sub (Vb m c), zero_add]
  unfold ride
  iintro ⟨⟨Ha, Hr⟩, HT, Hp, HO⟩
  isplitl [Ha]; · iexact Ha
  isplitl [Hp]; · iexact Hp
  isplitl [Hr]
  · isplitl [Hr]; · iexact Hr
    iempintro
  isplitl [HT]; · iexact HT
  iexact HO

/-- What the region gives: the device's buffers, the barrier at zero, no debt. -/
theorem reg_post (c : Dev nD) : (reg m).post c
    ⊢ iprop((StableHlo.held (c : Thread nD τ) (Pipeline.ucRefs τ sig) (Vc m c) ∗ semVal (barCell c) 0)
      ∗ ∃ W, owes (c : Thread nD τ) (0 : CellTallies nD τ sig Unit) W) := by
  show iprop(StableHlo.held (c.tc : Thread nD τ) (Pipeline.arrRefs (τ := τ) spec0) (Vc m c) ∗ (∃ r, prngReg c r)
    ∗ (StableHlo.held (c.tc : Thread nD τ) rest (Vc m c) ∗ emp) ∗ semVal (barCell c) 0 ∗ ∃ Wd, owes (c : Thread nD τ) (0 : CellTallies nD τ sig Unit) Wd) ⊢ _
  rw [StableHlo.held_sub_split (c.tc : Thread nD τ) arr_sub (Vc m c)]
  iintro ⟨Ha, -, ⟨Hr, -⟩, Hb, HO⟩
  isplitl [Ha Hr Hb]
  · isplitl [Ha Hr]
    · isplitl [Ha]; · iexact Ha
      iexact Hr
    iexact Hb
  iexact HO

/-- The program: the two transposes, then the region. -/
def segs : List (Pipeline.Seg (pcfgs (F := F)) adm (pdats m) () defs₀ 𝒱₀ L lv) := [.host (seg m), .region (reg m)]

/-! ## The launch -/

/-- A barrier is no copy cell. -/
theorem disjoint_cells : Disjoint barCells scCells := by
  rw [Finset.disjoint_left]
  rintro g h₁ h₂
  obtain ⟨c, -, rfl⟩ := Finset.mem_map.mp h₁
  obtain ⟨p, -, h⟩ := Finset.mem_map.mp h₂
  exact absurd (congrArg Prod.snd h) (fun h' => by cases h')

/-- The launch element: the pipeline's and the exchange protocol's. -/
def u₀ : UU :=
  (initOf (Pipeline.cells (Pipeline.pin (pcfgs (F := F)) adm) cellOf_inj) (Pipeline.launchToks (Pipeline.pin (pcfgs (F := F)) adm) cellOf_inj),
    launchOf barCells scCells duties)

/-- The protocol's launch element, kept by device 0 until every device's part of it is dealt. -/
def keep (c : Dev nD) : sProp 𝕄 := if c = 0 then BI.own (ER (launchOf barCells scCells duties)) else iprop(emp)
/-- What the devices keep together is the protocol's launch element. -/
theorem keep_all : bigSep Finset.univ (keep (F := F)) = BI.own (ER (launchOf barCells scCells duties)) := by
  rw [bigSep_univ_at _ (0 : Dev nD), bigSep_congr (s := Finset.univ.erase (0 : Dev nD)) (Ψ := fun _ => (BI.emp : sProp 𝕄))
      fun c hc => by unfold keep; rw [if_neg (Finset.ne_of_mem_erase hc)]; rfl, BI.bigSep_emp_const]
  unfold keep; rw [if_pos rfl]
  exact BI.equiv_iff.mp sep_emp

/-- The only semaphore outside the region is the barrier. -/
theorem unscopedSems_eq (c : Dev nD) : (unscopedSems0 c : sProp 𝕄) = semVal (barCell c) 0 := by
  unfold unscopedSems0
  rw [show (Finset.univ.filter fun sm : SemLoc sig => ¬ sm.isScoped .tc) = {SemLoc.reg barrier0} from by decide, BI.bigSep_singleton]

/-- What every device has of two kinds, kind by kind. -/
theorem parts (Φ Ψ : Dev nD → sProp 𝕄) : (bigSep Finset.univ fun c => iprop(Φ c ∗ Ψ c)) ⊢ iprop(bigSep Finset.univ Φ ∗ bigSep Finset.univ Ψ) :=
  Entails.of_eq (BI.bigSep_sep _ _ _)
/-- And back. -/
theorem joined (Φ Ψ : Dev nD → sProp 𝕄) : iprop(bigSep Finset.univ Φ ∗ bigSep Finset.univ Ψ) ⊢ (bigSep Finset.univ fun c => iprop(Φ c ∗ Ψ c)) :=
  Entails.of_eq (BI.bigSep_sep _ _ _).symm

/-- What a device has at launch beside the protocol's ghost state. -/
def own0 (c : Dev nD) : sProp 𝕄 :=
  iprop(StableHlo.held (c : Thread nD τ) (Pipeline.ucRefs τ sig) (Va m c)
    ∗ (cred (tallyAt (barCell c) () 3) ∗ credAt (F := F) c 0 ∗ credAt (F := F) c 1 ∗ credAt (F := F) c 2)
    ∗ owes (c : Thread nD τ) (O₀ c) ∅ ∗ ∃ r, prngReg c r)

/-- What a device starts from: its buffers, and what rides beside them. -/
abbrev T₀ (c : Dev nD) : sProp 𝕄 := iprop(StableHlo.held (c : Thread nD τ) (Pipeline.ucRefs τ sig) (Va m c) ∗ ride m c)

/-- The records and what is a device's own are what it starts from. -/
theorem start_of (κ : GSem nD τ sig → ℕ) (c : Dev nD) : iprop(records m κ ∗ (linear (F := F) c ∗ own0 m c)) ⊢ T₀ m c := by
  unfold own0 T₀ ride Tk
  iintro ⟨#HR, Hl, Hh, HC, HO, Hp⟩
  isplitl [Hh]; · iexact Hh
  isplitl [Hl HC]
  · isplitl [Hl]
    · iexists κ; isplitr; · iexact HR
      iexact Hl
    iexact HC
  isplitl [Hp]; · iexact Hp
  iexists ∅; iexact HO

/-- What a device finds at launch: what is its own, its barrier at zero, what it keeps. -/
theorem core_of (c : Dev nD) : iprop(unscopedBufs c (fun b => m ((c : Thread nD τ).loc b)) ∗ unscopedSems0 c
      ∗ owes (c : Thread nD τ) (O₀ c) ∅ ∗ Pipeline.launchCred O₀ c ∗ prngReg c (ρ c) ∗ keep (F := F) c)
    ⊢ (iprop(own0 m c ∗ (semVal (barCell c) 0 ∗ keep (F := F) c)) : sProp 𝕄) := by
  rw [show unscopedBufs c (fun b => m ((c : Thread nD τ).loc b)) = StableHlo.held (c : Thread nD τ) (Pipeline.ucRefs τ sig) (Va m c) from
    Pipeline.unscopedBufs_held c (Va m c), unscopedSems_eq]
  unfold own0
  iintro ⟨Hh, Hs, HO, HC, Hp, HG⟩
  ihave HC := (creds (F := F) c) $$ HC
  isplitl [Hh HO HC Hp]
  · isplitl [Hh]; · iexact Hh
    isplitl [HC]; · iexact HC
    isplitl [HO]; · iexact HO
    iexists (ρ c); iexact Hp
  isplitl [Hs]; · iexact Hs
  iexact HG

/-- The launch: the cells' records made, and every device given its part. -/
theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ keep (F := F) c)) ∗ levAts L lv)
      ⊢ (|={Set.univ}=> bigSep Finset.univ (T₀ m) : sProp 𝕄) := by
  have hbar (Φ : GSem nD τ sig → sProp 𝕄) : bigSep barCells Φ = bigSep Finset.univ fun c : Dev nD => Φ (barCell c) := bigSep_map barEmb
  iintro ⟨H, -⟩
  ihave H := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ keep (F := F) c))
      ⊢ (bigSep Finset.univ fun c : Dev nD => iprop(own0 m c ∗ (semVal (barCell c) 0 ∗ keep (F := F) c)) : sProp 𝕄) from
        bigSep_mono fun c _ => core_of m ρ c) $$ H
  ihave H := (parts _ _) $$ H; icases H with ⟨HB, H⟩
  ihave H := (parts _ _) $$ H; icases H with ⟨Hv, HG⟩
  ihave Hu := (Entails.of_eq (keep_all (F := F))) $$ HG
  imod (Rounds.fund_launch ER (sched (inp m)) disjoint_cells (fun g _ h => h) duties) $$ [Hv Hu] with ⟨%κ, -, #HI, #HR, Ha, Ho, Ht⟩
  · isplitl [Hv]
    · iapply (Entails.of_eq (hbar (fun g => semVal g 0)).symm) $$ Hv
    · iexact Hu
  imodintro
  iapply (bigSep_with_persistent (R := records m κ) (Φ := fun c => iprop(linear (F := F) c ∗ own0 m c)) fun c _ => start_of m κ c)
  isplitr
  · unfold records invs
    isplitr; · iexact HI
    iexact HR
  iapply (joined _ _)
  isplitr [HB]
  · unfold linear
    iapply (joined _ _); isplitl [Ha]; · iapply (Entails.of_eq (hbar (fun g => atPos ER g 0 ∅ 0))) $$ Ha
    iapply (joined _ _); isplitl [Ho]; · iapply (Entails.of_eq (twelve_all (F := F) (fun g => openTok ER g))) $$ Ho
    iapply (Entails.of_eq (duties_dealt (F := F))) $$ Ht
  · iexact HB

/-! ## The run -/

/-- A device's unscoped buffers, one by one. -/
theorem bufs_eq (c : Dev nD) (W : Valuation τ sig (Elt F)) :
    (StableHlo.held (c : Thread nD τ) (Pipeline.ucRefs τ sig) W : sProp 𝕄)
      = iprop((((c : Thread nD τ).loc main_arg0) ↦{fullShare} W main_arg0) ∗ (((c : Thread nD τ).loc main_arg1) ↦{fullShare} W main_arg1)
        ∗ (((c : Thread nD τ).loc main_arg2) ↦{fullShare} W main_arg2) ∗ (((c : Thread nD τ).loc main_arg3) ↦{fullShare} W main_arg3)
        ∗ (((c : Thread nD τ).loc main_arg4) ↦{fullShare} W main_arg4) ∗ (((c : Thread nD τ).loc main_v1) ↦{fullShare} W main_v1)
        ∗ (((c : Thread nD τ).loc main_v2) ↦{fullShare} W main_v2) ∗ (((c : Thread nD τ).loc main_v3) ↦{fullShare} W main_v3)) := by
  unfold StableHlo.held
  rw [bigSep_eq_bigSepL_of_eq [Proc.devRef .tc main_arg0, Proc.devRef .tc main_arg1, Proc.devRef .tc main_arg2, Proc.devRef .tc main_arg3,
    Proc.devRef .tc main_arg4, Proc.devRef .tc main_v1, Proc.devRef .tc main_v2, Proc.devRef .tc main_v3] (by decide) (by decide)]
  rfl

/-- The barrier is the only semaphore outside the region. -/
theorem unscoped_eq : ∀ sm : SemLoc sig, sm.isScoped .tc = false → sm = .reg barrier0 := by decide

/-- What a device's memory holds at the end. -/
def After (c : Dev nD) (s : MemSt nD τ sig (Elt F)) : Prop :=
  s.mem ((c : Thread nD τ).loc main_arg0) = m ((c : Thread nD τ).loc main_arg0)
  ∧ s.mem ((c : Thread nD τ).loc main_arg1) = m ((c : Thread nD τ).loc main_arg1)
  ∧ s.mem ((c : Thread nD τ).loc main_arg2) = m ((c : Thread nD τ).loc main_arg2)
  ∧ s.mem ((c : Thread nD τ).loc main_arg3) = m ((c : Thread nD τ).loc main_arg3)
  ∧ s.mem ((c : Thread nD τ).loc main_arg4) = m ((c : Thread nD τ).loc main_arg4)
  ∧ s.mem ((c : Thread nD τ).loc main_v3) = (outV (inp m) c : Buf (Elt F) ((c : Thread nD τ).loc main_v3))

set_option backward.isDefEq.respectTransparency.types false in
/-- THE RUN: from any memory with zero counters the program ends on every device, with the arguments as launched, the
    result at what the exchange makes of the four devices' inputs, and every counter at zero. -/
theorem run_main : θ_run defs (onTc (τ := τ) (main (F := F))) (s₀ m ρ)
    (fun r => (∀ c : Dev nD, After m c r.2) ∧ r.2.sem = fun _ => 0) :=
  Pipeline.θ_run_regions_kit_sems (pcfgs (F := F)) adm (pdats m) () cellOf_inj EP defs₀ 𝒱₀ L lv m ρ main (segs m)
    (fun c Q => by rw [main_segs adm (pdats m) () 𝒱₀ L lv (seg m) (reg m) rfl c]; rfl)
    (by simp only [segs, Pipeline.Seg.pipes_host, Pipeline.Seg.pipes_region, Pipeline.Seg.pipes_nil]; decide)
    (O₀ := O₀) (hL := L_of_ne) (G := keep) (u₀ := u₀ (F := F))
    (hu₀ := by
      unfold u₀
      iintro Hu
      ihave H := (ownU_pair _ _) $$ Hu
      icases H with ⟨HP, HX⟩
      imodintro
      isplitl [HP]; · iexact HP
      rw [keep_all]; iexact HX)
    (T₀ := T₀ m) (Tₙ := fun c => iprop(StableHlo.held (c : Thread nD τ) (Pipeline.ucRefs τ sig) (Vc m c) ∗ semVal (barCell c) 0))
    (hch := ⟨fun c => .rfl, fun c => reg_pre m c, fun c => reg_post m c⟩)
    (hinit := init m ρ)
    (QY := fun c s => After m c s ∧ s.sem (barCell c) = 0)
    (hfin := fun c s' => by
      rw [bufs_eq, Vc_out, Vc_of_ne m c (StableHlo.devRef_ne_of_ne (by decide)), Vc_of_ne m c (StableHlo.devRef_ne_of_ne (by decide)),
        Vc_of_ne m c (StableHlo.devRef_ne_of_ne (by decide)), Vc_of_ne m c (StableHlo.devRef_ne_of_ne (by decide)),
        Vc_of_ne m c (StableHlo.devRef_ne_of_ne (by decide))]
      iintro ⟨⟨⟨H0, H1, H2, H3, H4, -, -, H5⟩, Hb⟩, HSI⟩
      icombine HSI H0 gives %h0
      icombine HSI H1 gives %h1
      icombine HSI H2 gives %h2
      icombine HSI H3 gives %h3
      icombine HSI H4 gives %h4
      icombine HSI H5 gives %h5
      icombine HSI Hb gives %hb
      imodintro
      isplitr
      · ipureintro
        exact ⟨⟨(Buf.eq_of_forall_mem_univ h0).trans (V_main_arg0 m c), (Buf.eq_of_forall_mem_univ h1).trans (V_main_arg1 m c),
          (Buf.eq_of_forall_mem_univ h2).trans (V_main_arg2 m c), (Buf.eq_of_forall_mem_univ h3).trans (V_main_arg3 m c),
          (Buf.eq_of_forall_mem_univ h4).trans (V_main_arg4 m c), Buf.eq_of_forall_mem_univ h5⟩, by simpa using hb⟩
      iexact HSI)
    (hQ := fun s h hs => ⟨fun c => (h c).1, sem_eq_zero hs fun c sm hsm => by
        obtain rfl := unscoped_eq sm hsm
        exact (h c).2⟩)

end Cert.KernelIdeal.Hand

end
-- ==== Proof.Frames.lean ====
/-
  The frames: the two programs of the kernel and the reference end with their arguments unchanged and every counter
  at zero.
-/
module

public import proofs.«01_k».proof.Defs
public import proofs.«01_k».proof.Proof.Run
public import proofs.«01_k».proof.Proof.Gen.Kernel
public import proofs.«01_k».proof.Proof.Gen.ReferenceIdeal
public import proofs.«01_k».proof.Proof.Gen.ReferenceIdeal.Run

@[expose] public section

noncomputable section

namespace Cert.Proof

open Idealize.ShloMosaic Idealize.SL.Sem
open Cert.KernelIdeal.Hand (run_main)

/-- Over any float values the kernel ends with its arguments unchanged and every counter at zero. -/
theorem frame_any {F : FTy → Type} [FloatOps F]
    (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0) :=
  (θ_run Cert.KernelIdeal.defs _ _).mono (fun _ h => ⟨fun c => by
    obtain ⟨h0, h1, h2, h3, h4, -⟩ := h.1 c
    exact ⟨h0, h1, h2, h3, h4⟩, h.2⟩) (run_main (F := F) m ρ)

/-- The kernel over the extended reals. -/
theorem frame_kernelIdeal : Cert.quiescent_KernelIdeal := fun m ρ _ => frame_any (F := Ideal) m ρ

/-- The body of the kernel printed for the bits is the body of the kernel printed for the extended reals. -/
theorem body_same : (@Cert.Kernel.cc0_body Bits _ _) = (@Cert.KernelIdeal.cc0_body Bits _ _) := rfl

/-- The two texts call the same bodies. -/
theorem bodies_same : (Cert.Kernel.defs₀ (F := Bits)) = (Cert.KernelIdeal.defs₀ (F := Bits)) :=
  congrArg Defs.onTc (funext fun l => funext fun a => match l, a with
    | 0, _ => rfl
    | ⟨_ + 1, h⟩, _ => absurd h (Nat.not_lt.2 (Nat.le_add_left _ _)))

/-- The two texts define the same procedures, with the pipeline around the bodies. -/
theorem defs_same : (Cert.Kernel.defs (F := Bits)) = (Cert.KernelIdeal.defs (F := Bits)) :=
  congrArg (Pipeline.defs (Cert.KernelIdeal.pcfgs (F := Bits))) bodies_same

/-- The kernel over the floats' bits: the same text, so the same run. -/
theorem frame_kernel : Cert.quiescent_Kernel := fun m ρ _ => by
  rw [defs_same]
  exact frame_any (F := Bits) m ρ

/-- The reference: it has no counters. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof

end
-- ==== Proof.Inputs.lean ====
/-
  What the kernel's region finds on a device, in terms of the arrays at launch: the activations and the two weight blocks
  as they are, the keys and the values as the host transposed them.
-/
module

public import proofs.«01_k».proof.Proof.Launch
public import Idealize.ShloMosaic.Lib.Pipeline.Value
public import Idealize.ShloMosaic.Lib.Pointwise

@[expose] public section

noncomputable section

namespace Cert.KernelIdeal.Hand

open Cert.KernelIdeal Cert.KernelIdeal.Gen
open Idealize.ShloMosaic Idealize.ShloMosaic.TcCoe

variable {F : FTy → Type} [FloatOps F] (m : (ℓ : Loc nD τ sig) → Buf (Elt F) ℓ) (c : Dev nD)

/-- The keys as the region finds them: transposed. -/
theorem found_keys : V m c main_v1 = transpose S2x8x64x512 [0, 2, 3, 1] (m ((c : Thread nD τ).loc main_arg2) : Vec F S2x512x8x64 .f32)
    transposes_S2x512x8x64_S2x8x64x512_0_2_3_1 := by
  unfold V hostOps0
  rw [StableHlo.after_cons, StableHlo.after_cons, StableHlo.after_nil, StableHlo.unary_result_ne _ _ _ _ _ _ (by decide), StableHlo.unary_result]
/-- The values as the region finds them: transposed. -/
theorem found_values : V m c main_v2 = transpose S2x8x512x64 [0, 2, 1, 3] (m ((c : Thread nD τ).loc main_arg3) : Vec F S2x512x8x64 .f32)
    transposes_S2x512x8x64_S2x8x512x64_0_2_1_3 := by
  unfold V hostOps0
  rw [StableHlo.after_cons, StableHlo.after_cons, StableHlo.after_nil, StableHlo.unary_result, StableHlo.unary_result_ne _ _ _ _ _ _ (by decide)]

/-- A device's activations are its first argument. -/
theorem inp_x (b : Fin 2) (r : Fin 256) (e : Fin 768) :
    (inp m c).x (ix3 b r e) = (m ((c : Thread nD τ).loc main_arg0) : Vec F S2x256x768 .f32) (ix3 b r e) :=
  (congrArg (V m c main_arg0 : Vec F S2x256x768 .f32) (funext fun a => Fin.ext (by
    match a with
    | ⟨0, _⟩ => show 0 + 1 * b.val = b.val; omega
    | ⟨1, _⟩ => show 0 + 1 * r.val = r.val; omega
    | ⟨2, _⟩ => show 0 + 1 * e.val = e.val; omega))).trans (congrFun (V_main_arg0 m c) (ix3 b r e))

/-- A device's query weights are its second argument. -/
theorem inp_wq (e : Fin 768) (n : Fin 512) :
    (inp m c).wq (ix2 e n) = (m ((c : Thread nD τ).loc main_arg1) : Vec F S768x512 .f32) (ix2 e n) :=
  (congrArg (V m c main_arg1 : Vec F S768x512 .f32) (funext fun a => Fin.ext (by
    match a with
    | ⟨0, _⟩ => show 0 + 1 * e.val = e.val; omega
    | ⟨1, _⟩ => show 0 + 1 * n.val = n.val; omega))).trans (congrFun (V_main_arg1 m c) (ix2 e n))

/-- A device's output weights are its fifth argument. -/
theorem inp_wo (k : Fin 512) (n : Fin 768) :
    (inp m c).wo (ix2 k n) = (m ((c : Thread nD τ).loc main_arg4) : Vec F S512x768 .f32) (ix2 k n) :=
  (congrArg (V m c main_arg4 : Vec F S512x768 .f32) (funext fun a => Fin.ext (by
    match a with
    | ⟨0, _⟩ => show 0 + 1 * k.val = k.val; omega
    | ⟨1, _⟩ => show 0 + 1 * n.val = n.val; omega))).trans (congrFun (V_main_arg4 m c) (ix2 k n))

/-- A device's keys are its third argument with heads ahead of coordinates and keys. -/
theorem inp_k (b : Fin 2) (h : Fin 8) (d : Fin 64) (i : Fin 512) :
    (inp m c).k (ix4 b h d i) = (m ((c : Thread nD τ).loc main_arg2) : Vec F S2x512x8x64 .f32) (ix4 b i h d) := by
  refine (congrArg (V m c main_v1 : Vec F S2x8x64x512 .f32) (funext fun a => Fin.ext (?_ : _ = (ix4 b h d i a).val))).trans ?_
  · match a with
    | ⟨0, _⟩ => show 0 + 1 * b.val = b.val; omega
    | ⟨1, _⟩ => show 0 + 1 * h.val = h.val; omega
    | ⟨2, _⟩ => show 0 + 1 * d.val = d.val; omega
    | ⟨3, _⟩ => show 0 + 1 * i.val = i.val; omega
  · rw [found_keys]
    exact transpose_apply [0, 2, 3, 1] _ transposes_S2x512x8x64_S2x8x64x512_0_2_3_1 (ix4 b h d i) (ix4 b i h d) (fun a => by
      match a with
      | ⟨0, _⟩ => rfl
      | ⟨1, _⟩ => rfl
      | ⟨2, _⟩ => rfl
      | ⟨3, _⟩ => rfl)

/-- A device's values are its fourth argument with heads ahead of keys. -/
theorem inp_v (b : Fin 2) (h : Fin 8) (i : Fin 512) (j : Fin 64) :
    (inp m c).v (ix4 b h i j) = (m ((c : Thread nD τ).loc main_arg3) : Vec F S2x512x8x64 .f32) (ix4 b i h j) := by
  refine (congrArg (V m c main_v2 : Vec F S2x8x512x64 .f32) (funext fun a => Fin.ext (?_ : _ = (ix4 b h i j a).val))).trans ?_
  · match a with
    | ⟨0, _⟩ => show 0 + 1 * b.val = b.val; omega
    | ⟨1, _⟩ => show 0 + 1 * h.val = h.val; omega
    | ⟨2, _⟩ => show 0 + 1 * i.val = i.val; omega
    | ⟨3, _⟩ => show 0 + 1 * j.val = j.val; omega
  · rw [found_values]
    exact transpose_apply [0, 2, 1, 3] _ transposes_S2x512x8x64_S2x8x512x64_0_2_1_3 (ix4 b h i j) (ix4 b i h j) (fun a => by
      match a with
      | ⟨0, _⟩ => rfl
      | ⟨1, _⟩ => rfl
      | ⟨2, _⟩ => rfl
      | ⟨3, _⟩ => rfl)

end Cert.KernelIdeal.Hand

end
-- ==== Proof.Shares.lean ====
/-
  What the kernel computes over the extended reals, read at an index.

  A device's share of row (b, r) and column n is the sum, over its 512 rows of the output weights, of its heads' outputs
  times those weights (`share`); the result is the sum of the four devices' shares (`outV_apply`), whichever way each
  device computed them and whichever of them travelled.
-/
module

public import proofs.«01_k».proof.Proof.Values
public import Idealize.ShloMosaic.Lib.Pointwise

@[expose] public section

noncomputable section

namespace Cert.KernelIdeal.Hand

open Cert.KernelIdeal Cert.KernelIdeal.Gen
open Idealize.ShloMosaic
open scoped BigOperators

/-! ## One head of one row -/

/-- The score of a query against each key: their product over the head's 64 coordinates, times an eighth. -/
def score (q : Fin 64 → EReal) (K : Fin 64 → Fin 512 → EReal) (i : Fin 512) : EReal :=
  (∑ d, q d * K d i) * Ideal.ofBits .f32 0x3E000000#32
/-- The greatest score. -/
def top (s : Fin 512 → EReal) : EReal := (Finset.univ : Finset (Fin 512)).fold max (Ideal.ofBits .f32 0xFF800000#32) s
/-- The scores' softmax applied to one column of the values. -/
def attend (s : Fin 512 → EReal) (v : Fin 512 → EReal) : EReal :=
  Ideal.div (∑ i, Ideal.exp (s i - top s) * v i) (∑ i, Ideal.exp (s i - top s))

/-- A head on the 256 rows of a batch is the softmax of its scores applied to its values. -/
theorem head256_apply (Q : FVec Ideal S256x512 .f32) (K : Fin 8 → Vec Ideal S1x1x64x512 .f32) (V : Fin 8 → Vec Ideal S1x1x512x64 .f32)
    (h : Fin 8) (r : Fin 256) (j : Fin 64) :
    head256 Q K V h (ix2 r j)
      = attend (score (fun d => Q (ix2 r ⟨64 * h.val + d.val, by omega⟩)) (fun d i => K h (ix4 0 0 d i))) (fun i => V h (ix4 0 0 i j)) := by
  unfold attend top score head256
  pointwise [k0_pay5, k0_pay4]

/-- A head on the 128 rows of a quarter is the softmax of its scores applied to its values. -/
theorem head128_apply (Q : FVec Ideal S128x512 .f32) (K : Fin 8 → Vec Ideal S1x1x64x512 .f32) (V : Fin 8 → Vec Ideal S1x1x512x64 .f32)
    (h : Fin 8) (r : Fin 128) (j : Fin 64) :
    head128 Q K V h (ix2 r j)
      = attend (score (fun d => Q (ix2 r ⟨64 * h.val + d.val, by omega⟩)) (fun d i => K h (ix4 0 0 d i))) (fun i => V h (ix4 0 0 i j)) := by
  unfold attend top score head128
  pointwise [k0_pay43, k0_pay42]

/-! ## A device's share -/

/-- Coordinate `n` of the query of row (b, r). -/
def query (I : Inp Ideal) (b : Fin 2) (r : Fin 256) (n : Fin 512) : EReal := ∑ e : Fin 768, I.x (ix3 b r e) * I.wq (ix2 e n)
/-- Head `h`'s output for row (b, r), column `j`. -/
def headOut (I : Inp Ideal) (b : Fin 2) (r : Fin 256) (h : Fin 8) (j : Fin 64) : EReal :=
  attend (score (fun d => query I b r ⟨64 * h.val + d.val, by omega⟩) (fun d i => I.k (ix4 b h d i))) (fun i => I.v (ix4 b h i j))
/-- The share of row (b, r), column `n`. -/
def share (I : Inp Ideal) (b : Fin 2) (r : Fin 256) (n : Fin 768) : EReal :=
  ∑ k : Fin 512, headOut I b r ⟨k.val / 64, by omega⟩ ⟨k.val % 64, by omega⟩ * I.wo (ix2 k n)

/-! ## The blocks at an index -/

/-- Where a batch's activations lie. -/
theorem x_emb (b : Fin 2) (a : Fin 1) (r : Fin 256) (e : Fin 768) :
    (Rect.unit (s := S2x256x768) ![b.val, 0, 0] S1x256x768.size (inb_x b)).emb (ix3 a r e) = ix3 b r e := funext fun z => Fin.ext (by
  match z with
  | ⟨0, _⟩ => show b.val + 1 * a.val = b.val; omega
  | ⟨1, _⟩ => show 0 + 1 * r.val = r.val; omega
  | ⟨2, _⟩ => show 0 + 1 * e.val = e.val; omega)
/-- Where a quarter's activations lie. -/
theorem xq_emb (b s : Fin 2) (a : Fin 1) (r : Fin 128) (e : Fin 768) :
    (Rect.unit (s := S2x256x768) ![b.val, 128 * s.val, 0] S1x128x768.size (inb_xq b s)).emb (ix3 a r e)
      = ix3 b (⟨128 * s.val + r.val, by omega⟩ : Fin 256) e := funext fun z => Fin.ext (by
  match z with
  | ⟨0, _⟩ => show b.val + 1 * a.val = b.val; omega
  | ⟨1, _⟩ => show 128 * s.val + 1 * r.val = 128 * s.val + r.val; omega
  | ⟨2, _⟩ => show 0 + 1 * e.val = e.val; omega)
/-- Where the query weights lie. -/
theorem wq_emb (e : Fin 768) (n : Fin 512) :
    (Rect.unit (s := S768x512) ![0, 0] S768x512.size inb_S768x512_S768x512_0_0).emb (ix2 e n) = ix2 e n := funext fun z => Fin.ext (by
  match z with
  | ⟨0, _⟩ => show 0 + 1 * e.val = e.val; omega
  | ⟨1, _⟩ => show 0 + 1 * n.val = n.val; omega)
/-- Where the output weights lie. -/
theorem wo_emb (k : Fin 512) (n : Fin 768) :
    (Rect.unit (s := S512x768) ![0, 0] S512x768.size inb_S512x768_S512x768_0_0).emb (ix2 k n) = ix2 k n := funext fun z => Fin.ext (by
  match z with
  | ⟨0, _⟩ => show 0 + 1 * k.val = k.val; omega
  | ⟨1, _⟩ => show 0 + 1 * n.val = n.val; omega)
/-- Where a half of a batch lies. -/
theorem half_emb (s : Fin 2) (r : Fin 128) (n : Fin 768) :
    (Rect.unit (s := S256x768) ![128 * s.val, 0] S128x768.size (inb_half s)).emb (ix2 r n)
      = ix2 (⟨128 * s.val + r.val, by omega⟩ : Fin 256) n := funext fun z => Fin.ext (by
  match z with
  | ⟨0, _⟩ => show 128 * s.val + 1 * r.val = 128 * s.val + r.val; omega
  | ⟨1, _⟩ => show 0 + 1 * n.val = n.val; omega)

/-- A batch's activations, at an index. -/
theorem xAt_apply (f : Vec Ideal S2x256x768 .f32) (b : Fin 2) (a : Fin 1) (r : Fin 256) (e : Fin 768) : xAt f b (ix3 a r e) = f (ix3 b r e) :=
  congrArg f (x_emb b a r e)
/-- A quarter's activations, at an index. -/
theorem xqAt_apply (f : Vec Ideal S2x256x768 .f32) (b s : Fin 2) (a : Fin 1) (r : Fin 128) (e : Fin 768) :
    xqAt f b s (ix3 a r e) = f (ix3 b (⟨128 * s.val + r.val, by omega⟩ : Fin 256) e) :=
  congrArg f (xq_emb b s a r e)
/-- The query weights, at an index. -/
theorem wqAt_apply (f : Vec Ideal S768x512 .f32) (e : Fin 768) (n : Fin 512) : wqAt f (ix2 e n) = f (ix2 e n) :=
  congrArg f (wq_emb e n)
/-- The output weights, at an index. -/
theorem woAt_apply (f : Vec Ideal S512x768 .f32) (k : Fin 512) (n : Fin 768) : woAt f (ix2 k n) = f (ix2 k n) :=
  congrArg f (wo_emb k n)
/-- A head's keys, at an index. -/
theorem kAt_apply (f : Vec Ideal S2x8x64x512 .f32) (b : Fin 2) (h : Fin 8) (a a' : Fin 1) (d : Fin 64) (i : Fin 512) :
    kAt f b h (ix4 a a' d i) = f (ix4 b h d i) :=
  congrArg f (funext fun z => Fin.ext (by
    match z with
    | ⟨0, _⟩ => show b.val + 1 * a.val = b.val; omega
    | ⟨1, _⟩ => show h.val + 1 * a'.val = h.val; omega
    | ⟨2, _⟩ => show 0 + 1 * d.val = d.val; omega
    | ⟨3, _⟩ => show 0 + 1 * i.val = i.val; omega))
/-- A head's values, at an index. -/
theorem vAt_apply (f : Vec Ideal S2x8x512x64 .f32) (b : Fin 2) (h : Fin 8) (a a' : Fin 1) (i : Fin 512) (j : Fin 64) :
    vAt f b h (ix4 a a' i j) = f (ix4 b h i j) :=
  congrArg f (funext fun z => Fin.ext (by
    match z with
    | ⟨0, _⟩ => show b.val + 1 * a.val = b.val; omega
    | ⟨1, _⟩ => show h.val + 1 * a'.val = h.val; omega
    | ⟨2, _⟩ => show 0 + 1 * i.val = i.val; omega
    | ⟨3, _⟩ => show 0 + 1 * j.val = j.val; omega))

/-! ## What the payloads compute, at an index -/

/-- The queries of a batch are the product of activations and query weights. -/
theorem pay1_apply (X : Vec Ideal S1x256x768 .f32) (W : Vec Ideal S768x512 .f32) (r : Fin 256) (n : Fin 512) :
    k0_pay1 X W (ix2 r n) = ∑ e : Fin 768, X (ix3 0 r e) * W (ix2 e n) := by
  pointwise [k0_pay1]
/-- The queries of a quarter are the product of activations and query weights. -/
theorem pay39_apply (X : Vec Ideal S1x128x768 .f32) (W : Vec Ideal S768x512 .f32) (r : Fin 128) (n : Fin 512) :
    k0_pay39 X W (ix2 r n) = ∑ e : Fin 768, X (ix3 0 r e) * W (ix2 e n) := by
  pointwise [k0_pay39]
/-- The share of a batch is the product of the heads' outputs and the output weights. -/
theorem pay120_apply (C : Vec Ideal S256x512 .f32) (W : Vec Ideal S512x768 .f32) (r : Fin 256) (n : Fin 768) :
    k0_pay120 C W (ix2 r n) = ∑ k : Fin 512, C (ix2 r k) * W (ix2 k n) := by
  pointwise [k0_pay120]
/-- The share of a quarter is the product of the heads' outputs and the output weights. -/
theorem pay58_apply (C : Vec Ideal S128x512 .f32) (W : Vec Ideal S512x768 .f32) (r : Fin 128) (n : Fin 768) :
    k0_pay58 C W (ix2 r n) = ∑ k : Fin 512, C (ix2 r k) * W (ix2 k n) := by
  pointwise [k0_pay58]

/-- The query of a row of a batch. -/
theorem query256_apply (I : Inp Ideal) (b : Fin 2) (r : Fin 256) (n : Fin 512) :
    k0_pay1 (xAt I.x b) (wqAt I.wq) (ix2 r n) = query I b r n :=
  (pay1_apply _ _ r n).trans (Finset.sum_congr rfl fun e _ => congr (congrArg HMul.hMul (xAt_apply I.x b 0 r e)) (wqAt_apply I.wq e n))
/-- The query of a row of a quarter. -/
theorem query128_apply (I : Inp Ideal) (b s : Fin 2) (r : Fin 128) (n : Fin 512) :
    k0_pay39 (xqAt I.x b s) (wqAt I.wq) (ix2 r n) = query I b ⟨128 * s.val + r.val, by omega⟩ n :=
  (pay39_apply _ _ r n).trans (Finset.sum_congr rfl fun e _ => congr (congrArg HMul.hMul (xqAt_apply I.x b s 0 r e)) (wqAt_apply I.wq e n))

/-- The eight heads side by side, at an index: column `k` is head `k / 64`'s column `k % 64`. -/
theorem cols256_apply (P : Fin 8 → FVec Ideal S256x64 .f32) (r : Fin 256) (k : Fin 512) :
    cols256 P (ix2 r k) = P ⟨k.val / 64, by omega⟩ (ix2 r (⟨k.val % 64, by omega⟩ : Fin 64)) :=
  congrArg (P _) (funext fun z => by match z with | ⟨0, _⟩ => rfl | ⟨1, _⟩ => rfl)
/-- The same for the rows of a quarter. -/
theorem cols128_apply (P : Fin 8 → FVec Ideal S128x64 .f32) (r : Fin 128) (k : Fin 512) :
    cols128 P (ix2 r k) = P ⟨k.val / 64, by omega⟩ (ix2 r (⟨k.val % 64, by omega⟩ : Fin 64)) :=
  congrArg (P _) (funext fun z => by match z with | ⟨0, _⟩ => rfl | ⟨1, _⟩ => rfl)

/-- A head's output for a row of a batch. -/
theorem headOut256 (I : Inp Ideal) (b : Fin 2) (h : Fin 8) (r : Fin 256) (j : Fin 64) :
    head256 (k0_pay1 (xAt I.x b) (wqAt I.wq)) (kAt I.k b) (vAt I.v b) h (ix2 r j) = headOut I b r h j := by
  refine (head256_apply _ _ _ h r j).trans (congr (congrArg attend (congr (congrArg score ?_) ?_)) ?_)
  · exact funext fun d => query256_apply I b r _
  · exact funext fun d => funext fun i => kAt_apply I.k b h 0 0 d i
  · exact funext fun i => vAt_apply I.v b h 0 0 i j
/-- A head's output for a row of a quarter. -/
theorem headOut128 (I : Inp Ideal) (b s : Fin 2) (h : Fin 8) (r : Fin 128) (j : Fin 64) :
    head128 (k0_pay39 (xqAt I.x b s) (wqAt I.wq)) (kAt I.k b) (vAt I.v b) h (ix2 r j)
      = headOut I b ⟨128 * s.val + r.val, by omega⟩ h j := by
  refine (head128_apply _ _ _ h r j).trans (congr (congrArg attend (congr (congrArg score ?_) ?_)) ?_)
  · exact funext fun d => query128_apply I b s r _
  · exact funext fun d => funext fun i => kAt_apply I.k b h 0 0 d i
  · exact funext fun i => vAt_apply I.v b h 0 0 i j

/-- A device's share of a batch, computed at once. -/
theorem batchV_apply (I : Inp Ideal) (b : Fin 2) (r : Fin 256) (n : Fin 768) : batchV I b (ix2 r n) = share I b r n :=
  (pay120_apply _ _ r n).trans (Finset.sum_congr rfl fun k _ =>
    congr (congrArg HMul.hMul ((cols256_apply _ r k).trans (headOut256 I b _ r _))) (woAt_apply I.wo k n))
/-- A device's share of a quarter, computed by itself. -/
theorem quarterV_apply (I : Inp Ideal) (b s : Fin 2) (r : Fin 128) (n : Fin 768) :
    quarterV I b s (ix2 r n) = share I b ⟨128 * s.val + r.val, by omega⟩ n :=
  (pay58_apply _ _ r n).trans (Finset.sum_congr rfl fun k _ =>
    congr (congrArg HMul.hMul ((cols128_apply _ r k).trans (headOut128 I b s _ r _))) (woAt_apply I.wo k n))

/-! ## The exchange -/

/-- Either way a device computed its share of a quarter, it is the same share. -/
theorem blk_apply (I : Dev nD → Inp Ideal) (c d : Dev nD) (r : Fin 128) (n : Fin 768) :
    blk I c d (ix2 r n) = share (I c) (bt d) ⟨128 * (rw0 d).val + r.val, by omega⟩ n := by
  unfold blk
  by_cases h : bt d = bt c
  · rw [if_pos h]; exact quarterV_apply (I c) (bt d) (rw0 d) r n
  · rw [if_neg h]; exact (congrArg (batchV (I c) (bt d)) (half_emb (rw0 d) r n)).trans (batchV_apply (I c) (bt d) _ n)

/-- Narrowing and widening a share change nothing over the extended reals, so adding what a peer sent adds its share. -/
theorem plus_sent (a : FVec Ideal S128x768 .f32) (w : FVec Ideal S128x768 .f32) (y : S128x768.Idx) :
    plus a (truncf .bf16 w bitsLt_bf16_f32) y = a y + w y := rfl

/-- A device and its three peers are the four devices. -/
theorem sum_peers (c : Dev nD) (f : Dev nD → EReal) : f c + f (peer c 0) + f (peer c 1) + f (peer c 2) = ∑ d : Dev nD, f d := by
  have h : (Finset.univ : Finset (Dev nD)) = {c, peer c 0, peer c 1, peer c 2} := by revert c; decide
  have h1 : c ∉ ({peer c 0, peer c 1, peer c 2} : Finset (Dev nD)) := by revert c; decide
  have h2 : peer c 0 ∉ ({peer c 1, peer c 2} : Finset (Dev nD)) := by revert c; decide
  have h3 : peer c 1 ∉ ({peer c 2} : Finset (Dev nD)) := by revert c; decide
  rw [h, Finset.sum_insert h1, Finset.sum_insert h2, Finset.sum_insert h3, Finset.sum_singleton]
  simp only [add_assoc]

/-- A device's summed quarter: the four devices' shares. -/
theorem red_apply (I : Dev nD → Inp Ideal) (c : Dev nD) (r : Fin 128) (n : Fin 768) :
    red I c (ix2 r n) = ∑ d : Dev nD, share (I d) (bt c) ⟨128 * (rw0 c).val + r.val, by omega⟩ n := by
  rw [← sum_peers c, ← blk_apply I c c, ← blk_apply I (peer c 0) c, ← blk_apply I (peer c 1) c, ← blk_apply I (peer c 2) c]
  rfl

/-- What is written in a quarter of the result is its owner's sum. -/
theorem piece_apply (I : Dev nD → Inp Ideal) (c d : Dev nD) (y : S128x768.Idx) : piece I c d y = red I d y := by
  unfold piece
  by_cases h : d = c
  · subst h; rw [if_pos rfl]
  · rw [if_neg h]; rfl

/-- The owner of a quarter, by its batch. -/
theorem bt_owner (b s : Fin 2) : bt (owner b s) = b := by revert b s; decide
/-- The owner of a quarter, by its half of the batch. -/
theorem rw0_owner (b s : Fin 2) : rw0 (owner b s) = s := by revert b s; decide

/-- Every device writes, everywhere, the sum of the four devices' shares. -/
theorem outV_apply (I : Dev nD → Inp Ideal) (c : Dev nD) (b : Fin 2) (r : Fin 256) (n : Fin 768) :
    outV I c (ix3 b r n) = ∑ d : Dev nD, share (I d) b r n := by
  have h : outV I c (ix3 b r n)
      = piece I c (owner b ⟨r.val / 128, by omega⟩) (ix2 (⟨r.val % 128, by omega⟩ : Fin 128) n) :=
    congrArg (piece I c _) (funext fun z => by match z with | ⟨0, _⟩ => rfl | ⟨1, _⟩ => rfl)
  rw [h, piece_apply, red_apply]
  refine Finset.sum_congr rfl fun d _ => ?_
  have e : ∀ s : Fin 2, s.val = r.val / 128 → (⟨128 * s.val + r.val % 128, by omega⟩ : Fin 256) = r := fun s hs => Fin.ext (by
    show 128 * s.val + r.val % 128 = r.val; omega)
  rw [bt_owner]
  exact congrArg (fun t => share (I d) b t n) (e _ (by rw [rw0_owner]))

end Cert.KernelIdeal.Hand

end
-- ==== Proof.Reference.lean ====
/-
  The reference's result over the extended reals, read at an index: row (b, r), column n is the sum, over the 2048 rows of
  the output weights, of the heads' outputs times those weights (`result_apply`). The reference keeps a running maximum,
  a running sum and a running output, each started at nothing and used once: those starts change nothing.
-/
module

public import proofs.«01_k».proof.Proof.Shares
public import proofs.«01_k».proof.Proof.Gen.ReferenceIdeal.Read
public import Idealize.ShloMosaic.Lib.KernelVsHost

@[expose] public section

noncomputable section

namespace Cert.ReferenceIdeal.Hand

open Cert.ReferenceIdeal Cert.ReferenceIdeal.Gen Cert.ReferenceIdeal.Read
open Idealize.ShloMosaic
open Cert.KernelIdeal.Hand (score top attend)
open scoped BigOperators

-- the reference's arguments: activations, query weights, keys, values, output weights
variable (X : Vec Ideal S2x256x768 .f32) (W : Vec Ideal S768x2048 .f32) (K V : Vec Ideal S2x512x32x64 .f32) (O : Vec Ideal S2048x768 .f32)

/-- Coordinate `n` of the query of row (b, r). -/
def query (b : Fin 2) (r : Fin 256) (n : Fin 2048) : EReal := ∑ e : Fin 768, X (ix3 b r e) * W (ix2 e n)
/-- Head `h`'s scores for row (b, r). -/
def scores (b : Fin 2) (r : Fin 256) (h : Fin 32) : Fin 512 → EReal :=
  score (fun d => query X W b r ⟨64 * h.val + d.val, by omega⟩) (fun d i => K (ix4 b i h d))
/-- Head `h`'s output for row (b, r), column `j`. -/
def headOut (b : Fin 2) (r : Fin 256) (h : Fin 32) (j : Fin 64) : EReal := attend (scores X W K b r h) (fun i => V (ix4 b i h j))

/-- The reference's first product is the queries. -/
theorem v0_at (b : Fin 2) (r : Fin 256) (n : Fin 2048) : val_main_v0 (F := Ideal) X W (ix3 b r n) = query X W b r n := by
  rw [val_main_v0_apply]
  refine Finset.sum_congr rfl fun e _ => congr (congrArg HMul.hMul (congrArg X (funext fun a => ?_))) (congrArg W (funext fun a => ?_))
  · match a with | ⟨0, _⟩ => rfl | ⟨1, _⟩ => rfl | ⟨2, _⟩ => rfl
  · match a with | ⟨0, _⟩ => rfl | ⟨1, _⟩ => rfl

/-- The queries, head by head. -/
theorem v1_at (b : Fin 2) (r : Fin 256) (h : Fin 32) (d : Fin 64) :
    val_main_v1 (F := Ideal) X W (ix4 b r h d) = query X W b r ⟨64 * h.val + d.val, by omega⟩ := by
  rw [val_main_v1_apply, ← v0_at]
  refine congrArg _ (funext fun a => ?_)
  match a with
  | ⟨0, _⟩ => exact Fin.ext (by show (((b.val * 256 + r.val) * 32 + h.val) * 64 + d.val) / 524288 = b.val; omega)
  | ⟨1, _⟩ => exact Fin.ext (by show (((b.val * 256 + r.val) * 32 + h.val) * 64 + d.val) / 2048 % 256 = r.val; omega)
  | ⟨2, _⟩ => exact Fin.ext (by show (((b.val * 256 + r.val) * 32 + h.val) * 64 + d.val) % 2048 = 64 * h.val + d.val; omega)

/-- The scaled products with the keys are the scores. -/
theorem v7_at (b : Fin 2) (h : Fin 32) (r : Fin 256) (i : Fin 512) :
    val_main_v7 (F := Ideal) X W K (ix4 b h r i) = scores X W K b r h i := by
  rw [val_main_v7_apply, val_main_v5_apply, val_main_v6_apply, val_main_cst_2_apply]
  refine congrArg (· * Ideal.ofBits .f32 0x3E000000#32) (Finset.sum_congr rfl fun d _ => ?_)
  refine congr (congrArg HMul.hMul ((congrArg _ (funext fun a => ?_)).trans (v1_at X W b r h d))) (congrArg K (funext fun a => ?_))
  · match a with | ⟨0, _⟩ => rfl | ⟨1, _⟩ => rfl | ⟨2, _⟩ => rfl | ⟨3, _⟩ => rfl
  · match a with | ⟨0, _⟩ => rfl | ⟨1, _⟩ => rfl | ⟨2, _⟩ => rfl | ⟨3, _⟩ => rfl

/-- The maximum runs along the keys. -/
theorem reduces_keys : S2x32x256x512.Reduces [3] S2x32x256 := by decide
/-- The word the maximum starts from is the maximum's neutral one. -/
theorem neutral_word : (0xFF800000#32 : BitVec FTy.f32.bits) = FKind.maximumf.neutral .f32 (.inl rfl) := rfl
/-- The host's reduction by maximum along the keys is the greatest of them. -/
theorem greatest (x : FVec Ideal S2x32x256x512 .f32) (j : S2x32x256.Idx) :
    Host.reduce FloatOps.maximumf x (constant (F := Ideal) S_ .f32 0xFF800000#32) reducesTo_S2x32x256x512_S2x32x256_d3 h_S_ j
      = (Finset.univ : Finset (Fin 512)).fold max (Ideal.ofBits .f32 0xFF800000#32) (x ∘ reduces_keys.lift j) := by
  have e := hostReduce_maximumf_eq_multiReduction (u := S_) x (0xFF800000#32 : BitVec FTy.f32.bits) reducesTo_S2x32x256x512_S2x32x256_d3 h_S_
    reduces_keys (.inl rfl) neutral_word
  exact (congrFun e j).trans (Ideal.multiReduction_maximumf_single x _ reduces_keys (.inl rfl) neutral_word j)

/-- The maximum over the keys. -/
theorem v8_at (b : Fin 2) (h : Fin 32) (r : Fin 256) : val_main_v8 (F := Ideal) X W K (ix3 b h r) = top (scores X W K b r h) := by
  unfold val_main_v8 val_main_cst_3 top
  rw [greatest]
  refine congrArg (Finset.fold max _ · _) (funext fun i => ?_)
  refine (congrArg _ (funext fun a => ?_)).trans (v7_at X W K b h r i)
  match a with | ⟨0, _⟩ => rfl | ⟨1, _⟩ => rfl | ⟨2, _⟩ => rfl | ⟨3, _⟩ => rfl

/-- The word the maximum starts from is the least extended real. -/
theorem least : Ideal.ofBits .f32 0xFF800000#32 = ⊥ := by simp [Ideal.ofBits, Ideal.ieee]

/-- The running maximum after the only block of keys is the greatest score. -/
theorem v10_at (b : Fin 2) (h : Fin 32) (r : Fin 256) : val_main_v10 (F := Ideal) X W K (ix4 b h r 0) = top (scores X W K b r h) := by
  rw [val_main_v10_apply, val_main_v3_apply, val_main_cst_0_apply, val_main_v9_apply]
  show max (Ideal.ofBits .f32 0xFF800000#32) _ = _
  rw [least, max_eq_right bot_le, ← v8_at]
  refine congrArg _ (funext fun a => ?_)
  match a with | ⟨0, _⟩ => rfl | ⟨1, _⟩ => rfl | ⟨2, _⟩ => rfl

/-- A key's weight before the division. -/
theorem v15_at (b : Fin 2) (h : Fin 32) (r : Fin 256) (i : Fin 512) :
    val_main_v15 (F := Ideal) X W K (ix4 b h r i) = Ideal.exp (scores X W K b r h i - top (scores X W K b r h)) := by
  rw [val_main_v15_apply, val_main_v14_apply, val_main_v13_apply, v7_at]
  refine congrArg (fun t : EReal => Ideal.exp (scores X W K b r h i - t)) ?_
  rw [← v10_at]
  refine congrArg _ (funext fun a => ?_)
  match a with | ⟨0, _⟩ => rfl | ⟨1, _⟩ => rfl | ⟨2, _⟩ => rfl | ⟨3, _⟩ => rfl

/-- The running sum after the only block of keys is the sum of the weights. -/
theorem v19_at (b : Fin 2) (h : Fin 32) (r : Fin 256) :
    val_main_v19 (F := Ideal) X W K (ix4 b h r 0) = ∑ i, Ideal.exp (scores X W K b r h i - top (scores X W K b r h)) := by
  rw [val_main_v19_apply, val_main_v16_apply, val_main_v4_apply, val_main_cst_1_apply, val_main_v18_apply, val_main_v17_apply, val_main_cst_4_apply]
  show Ideal.ofBits .f32 0#32 * _ + (Ideal.ofBits .f32 0#32 + _) = _
  rw [Ideal.ofBits_zero_f32, zero_mul, zero_add, zero_add]
  refine Finset.sum_congr rfl fun i _ => (congrArg _ (funext fun a => ?_)).trans (v15_at X W K b h r i)
  match a with | ⟨0, _⟩ => rfl | ⟨1, _⟩ => rfl | ⟨2, _⟩ => rfl | ⟨3, _⟩ => rfl

/-- The running output after the only block of keys is the weighted sum of the values. -/
theorem v25_at (b : Fin 2) (r : Fin 256) (h : Fin 32) (j : Fin 64) :
    val_main_v25 (F := Ideal) X W K V (ix4 b r h j)
      = ∑ i, Ideal.exp (scores X W K b r h i - top (scores X W K b r h)) * V (ix4 b i h j) := by
  rw [val_main_v25_apply, val_main_v22_apply, val_main_v2_apply, val_main_cst_apply, val_main_v24_apply, val_main_v23_apply]
  show Ideal.ofBits .f32 0#32 * _ + _ = _
  rw [Ideal.ofBits_zero_f32, zero_mul, zero_add]
  refine Finset.sum_congr rfl fun i _ => (mul_comm _ _).trans ?_
  refine congr (congrArg HMul.hMul ((congrArg _ (funext fun a => ?_)).trans (v15_at X W K b h r i))) (congrArg V (funext fun a => ?_))
  · match a with | ⟨0, _⟩ => rfl | ⟨1, _⟩ => rfl | ⟨2, _⟩ => rfl | ⟨3, _⟩ => rfl
  · match a with | ⟨0, _⟩ => rfl | ⟨1, _⟩ => rfl | ⟨2, _⟩ => rfl | ⟨3, _⟩ => rfl

/-- The division gives a head's output. -/
theorem v28_at (b : Fin 2) (r : Fin 256) (h : Fin 32) (j : Fin 64) :
    val_main_v28 (F := Ideal) X W K V (ix4 b r h j) = headOut X W K V b r h j := by
  rw [val_main_v28_apply, val_main_v27_apply, val_main_v26_apply, v25_at]
  refine congrArg (Ideal.div _) ?_
  rw [← v19_at]
  refine congrArg _ (funext fun a => ?_)
  match a with | ⟨0, _⟩ => rfl | ⟨1, _⟩ => rfl | ⟨2, _⟩ => rfl | ⟨3, _⟩ => rfl

/-- The heads' outputs side by side: column `n` is head `n / 64`'s column `n % 64`. -/
theorem v29_at (b : Fin 2) (r : Fin 256) (n : Fin 2048) :
    val_main_v29 (F := Ideal) X W K V (ix3 b r n) = headOut X W K V b r ⟨n.val / 64, by omega⟩ ⟨n.val % 64, by omega⟩ := by
  rw [val_main_v29_apply, ← v28_at]
  refine congrArg _ (funext fun a => ?_)
  match a with
  | ⟨0, _⟩ => exact Fin.ext (by show ((b.val * 256 + r.val) * 2048 + n.val) / 524288 = b.val; omega)
  | ⟨1, _⟩ => exact Fin.ext (by show ((b.val * 256 + r.val) * 2048 + n.val) / 2048 % 256 = r.val; omega)
  | ⟨2, _⟩ => exact Fin.ext (by show ((b.val * 256 + r.val) * 2048 + n.val) / 64 % 32 = n.val / 64; omega)
  | ⟨3, _⟩ => exact Fin.ext (by show ((b.val * 256 + r.val) * 2048 + n.val) % 64 = n.val % 64; omega)

/-- The reference's result at an index. -/
theorem result_apply (b : Fin 2) (r : Fin 256) (n : Fin 768) :
    val_main_v30 (F := Ideal) X W K V O (ix3 b r n)
      = ∑ k : Fin 2048, headOut X W K V b r ⟨k.val / 64, by omega⟩ ⟨k.val % 64, by omega⟩ * O (ix2 k n) := by
  rw [val_main_v30_apply]
  refine Finset.sum_congr rfl fun k _ => ?_
  refine congr (congrArg HMul.hMul ((congrArg _ (funext fun a => ?_)).trans (v29_at X W K V b r k))) (congrArg O (funext fun a => ?_))
  · match a with | ⟨0, _⟩ => rfl | ⟨1, _⟩ => rfl | ⟨2, _⟩ => rfl
  · match a with | ⟨0, _⟩ => rfl | ⟨1, _⟩ => rfl

end Cert.ReferenceIdeal.Hand

end
-- ==== Proof.Value.lean ====
/-
  The kernel's result is the reference's. Device c holds the columns of the query weights from 512 c, the rows of the
  output weights from 512 c and the heads from 8 c, so its share of a row is the part of the reference's sum over the 2048
  rows of the output weights that lies in its 512 of them (`share_eq`), and the four shares are the whole sum (`sum_shares`).
-/
module

public import proofs.«01_k».proof.Proof.Frames
public import proofs.«01_k».proof.Proof.Inputs
public import proofs.«01_k».proof.Proof.Reference

@[expose] public section

noncomputable section

namespace Cert.Proof

open Idealize.ShloMosaic Idealize.SL.Sem
open Cert.KernelIdeal.Hand (inp share outV attend score run_main)
open scoped BigOperators

/-! ## A device's blocks, at an index -/

section Blocks

variable {α : Type} (c : Fin 4)

/-- Columns of the query weights. -/
theorem columns_at (v : (⟨2, ![768, 2048]⟩ : Shape).Idx → α) (e : Fin 768) (n : Fin 512) :
    Layout.block ⟨2, ![768, 512]⟩ ⟨2, ![768, 2048]⟩ 1 4 c v (by decide) (ix2 e n) = v (ix2 e (⟨512 * c.val + n.val, by omega⟩ : Fin 2048)) :=
  congrArg v (funext fun a => Fin.ext (by
    match a with
    | ⟨0, _⟩ => rfl
    | ⟨1, _⟩ => show c.val * 512 + n.val = 512 * c.val + n.val; omega))
/-- Rows of the output weights. -/
theorem rows_at (v : (⟨2, ![2048, 768]⟩ : Shape).Idx → α) (k : Fin 512) (n : Fin 768) :
    Layout.block ⟨2, ![512, 768]⟩ ⟨2, ![2048, 768]⟩ 0 4 c v (by decide) (ix2 k n) = v (ix2 (⟨512 * c.val + k.val, by omega⟩ : Fin 2048) n) :=
  congrArg v (funext fun a => Fin.ext (by
    match a with
    | ⟨0, _⟩ => show c.val * 512 + k.val = 512 * c.val + k.val; omega
    | ⟨1, _⟩ => rfl))
/-- Heads of the keys or of the values. -/
theorem heads_at (v : (⟨4, ![2, 512, 32, 64]⟩ : Shape).Idx → α) (b : Fin 2) (i : Fin 512) (h : Fin 8) (d : Fin 64) :
    Layout.block ⟨4, ![2, 512, 8, 64]⟩ ⟨4, ![2, 512, 32, 64]⟩ 2 4 c v (by decide) (ix4 b i h d)
      = v (ix4 b i (⟨8 * c.val + h.val, by omega⟩ : Fin 32) d) :=
  congrArg v (funext fun a => Fin.ext (by
    match a with
    | ⟨0, _⟩ => rfl
    | ⟨1, _⟩ => rfl
    | ⟨2, _⟩ => show c.val * 8 + h.val = 8 * c.val + h.val; omega
    | ⟨3, _⟩ => rfl))

end Blocks

/-! ## The shares are the reference's sum -/

/-- The inputs `I` of the four devices are the blocks of the reference's arrays. -/
structure Dealt (I : Fin 4 → Cert.KernelIdeal.Hand.Inp Ideal) (X : Vec Ideal ⟨3, ![2, 256, 768]⟩ .f32) (W : Vec Ideal ⟨2, ![768, 2048]⟩ .f32)
    (K V : Vec Ideal ⟨4, ![2, 512, 32, 64]⟩ .f32) (O : Vec Ideal ⟨2, ![2048, 768]⟩ .f32) : Prop where
  x : ∀ (c : Fin 4) (b : Fin 2) (r : Fin 256) (e : Fin 768), (I c).x (ix3 b r e) = X (ix3 b r e)
  wq : ∀ (c : Fin 4) (e : Fin 768) (n : Fin 512), (I c).wq (ix2 e n) = W (ix2 e (⟨512 * c.val + n.val, by omega⟩ : Fin 2048))
  wo : ∀ (c : Fin 4) (k : Fin 512) (n : Fin 768), (I c).wo (ix2 k n) = O (ix2 (⟨512 * c.val + k.val, by omega⟩ : Fin 2048) n)
  k : ∀ (c : Fin 4) (b : Fin 2) (h : Fin 8) (d : Fin 64) (i : Fin 512),
    (I c).k (ix4 b h d i) = K (ix4 b i (⟨8 * c.val + h.val, by omega⟩ : Fin 32) d)
  v : ∀ (c : Fin 4) (b : Fin 2) (h : Fin 8) (i : Fin 512) (j : Fin 64),
    (I c).v (ix4 b h i j) = V (ix4 b i (⟨8 * c.val + h.val, by omega⟩ : Fin 32) j)

section Equation

variable {I : Fin 4 → Cert.KernelIdeal.Hand.Inp Ideal} {X : Vec Ideal ⟨3, ![2, 256, 768]⟩ .f32} {W : Vec Ideal ⟨2, ![768, 2048]⟩ .f32}
    {K V : Vec Ideal ⟨4, ![2, 512, 32, 64]⟩ .f32} {O : Vec Ideal ⟨2, ![2048, 768]⟩ .f32} (D : Dealt I X W K V O)
include D

/-- A device's queries are its columns of the reference's. -/
theorem query_eq (c : Fin 4) (b : Fin 2) (r : Fin 256) (n : Fin 512) :
    Cert.KernelIdeal.Hand.query (I c) b r n = Cert.ReferenceIdeal.Hand.query X W b r ⟨512 * c.val + n.val, by omega⟩ :=
  Finset.sum_congr rfl fun e _ => congr (congrArg HMul.hMul (D.x c b r e)) (D.wq c e n)

/-- A device's head `h` is the reference's head `8 c + h`. -/
theorem headOut_eq (c : Fin 4) (b : Fin 2) (r : Fin 256) (h : Fin 8) (j : Fin 64) :
    Cert.KernelIdeal.Hand.headOut (I c) b r h j = Cert.ReferenceIdeal.Hand.headOut X W K V b r ⟨8 * c.val + h.val, by omega⟩ j := by
  unfold Cert.KernelIdeal.Hand.headOut Cert.ReferenceIdeal.Hand.headOut Cert.ReferenceIdeal.Hand.scores
  refine congr (congrArg attend (congr (congrArg score (funext fun d => ?_)) (funext fun d => funext fun i => D.k c b h d i)))
    (funext fun i => D.v c b h i j)
  refine (query_eq D c b r _).trans (congrArg (Cert.ReferenceIdeal.Hand.query X W b r) (Fin.ext ?_))
  show 512 * c.val + (64 * h.val + d.val) = 64 * (8 * c.val + h.val) + d.val
  omega

/-- A device's share of a row is the reference's sum over the device's 512 rows of the output weights. -/
theorem share_eq (c : Fin 4) (b : Fin 2) (r : Fin 256) (n : Fin 768) :
    share (I c) b r n = ∑ k : Fin 512, (fun k' : Fin 2048 =>
      Cert.ReferenceIdeal.Hand.headOut X W K V b r ⟨k'.val / 64, by omega⟩ ⟨k'.val % 64, by omega⟩ * O (ix2 k' n))
        ⟨512 * c.val + k.val, by omega⟩ := by
  refine Finset.sum_congr rfl fun k _ => congr (congrArg HMul.hMul ?_) (D.wo c k n)
  refine (headOut_eq D c b r _ _).trans (congr (congrArg (Cert.ReferenceIdeal.Hand.headOut X W K V b r) (Fin.ext ?_)) (Fin.ext ?_))
  · show 8 * c.val + k.val / 64 = (512 * c.val + k.val) / 64; omega
  · show k.val % 64 = (512 * c.val + k.val) % 64; omega

omit D in
/-- A sum over 2048 rows is the sum of its four parts. -/
theorem sum_parts (f : Fin 2048 → EReal) : ∑ c : Fin 4, ∑ k : Fin 512, f ⟨512 * c.val + k.val, by omega⟩ = ∑ k, f k := by
  rw [← Fintype.sum_prod_type' (f := fun (c : Fin 4) (k : Fin 512) => f ⟨512 * c.val + k.val, by omega⟩)]
  refine Fintype.sum_equiv (finProdFinEquiv (m := 4) (n := 512)) _ f fun p => congrArg f (Fin.ext ?_)
  show 512 * p.1.val + p.2.val = p.2.val + 512 * p.1.val
  omega

/-- The four shares of a row add up to the reference's result. -/
theorem sum_shares (b : Fin 2) (r : Fin 256) (n : Fin 768) :
    ∑ c : Fin 4, share (I c) b r n = Cert.ReferenceIdeal.Read.val_main_v30 (F := Ideal) X W K V O (ix3 b r n) :=
  (Finset.sum_congr rfl fun c _ => share_eq D c b r n).trans ((sum_parts _).trans (Cert.ReferenceIdeal.Hand.result_apply X W K V O b r n).symm)

/-- What every device writes is the reference's result. -/
theorem outV_eq (c : Fin 4) : outV I c = Cert.ReferenceIdeal.Read.val_main_v30 (F := Ideal) X W K V O := by
  funext y
  have hy : y = ix3 (y 0 : Fin 2) (y 1 : Fin 256) (y 2 : Fin 768) := funext fun a => by
    match a with | ⟨0, _⟩ => rfl | ⟨1, _⟩ => rfl | ⟨2, _⟩ => rfl
  rw [hy]
  exact (Cert.KernelIdeal.Hand.outV_apply I c _ _ _).trans (sum_shares D _ _ _)

end Equation

/-! ## The claim -/

/-- From arguments that are the blocks of the reference's, the kernel ends with the reference's result on every device. -/
theorem algebraic : Cert.algebraic_KernelIdeal_ReferenceIdeal := fun m g m' g' _ h => by
  have D : Dealt (inp m) (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3))
      (m' (((0 : Dev Cert.ReferenceIdeal.nD).tc : Thread Cert.ReferenceIdeal.nD Cert.ReferenceIdeal.τ).loc Cert.ReferenceIdeal.main_arg4)) :=
    { x := fun c b r e => (Cert.KernelIdeal.Hand.inp_x m c b r e).trans (congrFun (h c).1 _)
      wq := fun c e n => (Cert.KernelIdeal.Hand.inp_wq m c e n).trans ((congrFun (h c).2.1 _).trans (columns_at c _ e n))
      wo := fun c k n => (Cert.KernelIdeal.Hand.inp_wo m c k n).trans ((congrFun (h c).2.2.2.2 _).trans (rows_at c _ k n))
      k := fun c b t d i => (Cert.KernelIdeal.Hand.inp_k m c b t d i).trans ((congrFun (h c).2.2.1 _).trans (heads_at c _ b i t d))
      v := fun c b t i j => (Cert.KernelIdeal.Hand.inp_v m c b t i j).trans ((congrFun (h c).2.2.2.1 _).trans (heads_at c _ b i t j)) }
  refine ⟨Cert.ReferenceIdeal.Value.res_main_v30 m' 0, ?_, ?_⟩
  · refine (θ_run Cert.KernelIdeal.defs _ _).mono (fun r hr c => ?_) (run_main (F := Ideal) m g)
    obtain ⟨h0, h1, h2, h3, h4, h5⟩ := hr.1 c
    exact ⟨h5.trans ((outV_eq D c).trans (Cert.ReferenceIdeal.Read.val_main_v30_eq m' 0).symm), h0, h1, h2, h3, h4⟩
  · exact (θ_run Cert.ReferenceIdeal.defs _ _).mono (fun r hr => hr 0) (Cert.ReferenceIdeal.Value.run (F := Ideal) m' g')

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  frame_kernel, frame_kernelIdeal, frame_reference, trivial, algebraic⟩

end Cert.Proof

end
